-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelMlstmIn (m : (ℓ : Loc Cert.KernelMlstmIn.nD Cert.KernelMlstmIn.τ Cert.KernelMlstmIn.sig) → Buf (Elt Bits) ℓ) : Prop :=
  True

def Pre_KernelMlstmInIdeal (m : (ℓ : Loc Cert.KernelMlstmInIdeal.nD Cert.KernelMlstmInIdeal.τ Cert.KernelMlstmInIdeal.sig) → Buf (Elt Ideal) ℓ) : Prop :=
  True

def Pre_ReferenceMlstmInIdeal (m : (ℓ : Loc Cert.ReferenceMlstmInIdeal.nD Cert.ReferenceMlstmInIdeal.τ Cert.ReferenceMlstmInIdeal.sig) → Buf (Elt Ideal) ℓ) : Prop :=
  True

def Pre_KernelRwkvIn (m : (ℓ : Loc Cert.KernelRwkvIn.nD Cert.KernelRwkvIn.τ Cert.KernelRwkvIn.sig) → Buf (Elt Bits) ℓ) : Prop :=
  True

def Pre_KernelRwkvInIdeal (m : (ℓ : Loc Cert.KernelRwkvInIdeal.nD Cert.KernelRwkvInIdeal.τ Cert.KernelRwkvInIdeal.sig) → Buf (Elt Ideal) ℓ) : Prop :=
  True

def Pre_ReferenceRwkvInIdeal (m : (ℓ : Loc Cert.ReferenceRwkvInIdeal.nD Cert.ReferenceRwkvInIdeal.τ Cert.ReferenceRwkvInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelQIn (m : (ℓ : Loc Cert.KernelQIn.nD Cert.KernelQIn.τ Cert.KernelQIn.sig) → Buf (Elt Bits) ℓ) : Prop :=
  True

def Pre_KernelQInIdeal (m : (ℓ : Loc Cert.KernelQInIdeal.nD Cert.KernelQInIdeal.τ Cert.KernelQInIdeal.sig) → Buf (Elt Ideal) ℓ) : Prop :=
  True

def Pre_ReferenceQInIdeal (m : (ℓ : Loc Cert.ReferenceQInIdeal.nD Cert.ReferenceQInIdeal.τ Cert.ReferenceQInIdeal.sig) → Buf (Elt Ideal) ℓ) : Prop :=
  True

def Pre_KernelKvIn (m : (ℓ : Loc Cert.KernelKvIn.nD Cert.KernelKvIn.τ Cert.KernelKvIn.sig) → Buf (Elt Bits) ℓ) : Prop :=
  True

def Pre_KernelKvInIdeal (m : (ℓ : Loc Cert.KernelKvInIdeal.nD Cert.KernelKvInIdeal.τ Cert.KernelKvInIdeal.sig) → Buf (Elt Ideal) ℓ) : Prop :=
  True

def Pre_ReferenceKvInIdeal (m : (ℓ : Loc Cert.ReferenceKvInIdeal.nD Cert.ReferenceKvInIdeal.τ Cert.ReferenceKvInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelMlstmIn [hKernelMlstmIn : Cert.KernelMlstmIn.Facts] : Prop :=
  ∀ (m : (ℓ : Loc Cert.KernelMlstmIn.nD Cert.KernelMlstmIn.τ Cert.KernelMlstmIn.sig) → Buf (Elt Bits) ℓ) (g : Dev Cert.KernelMlstmIn.nD → PrngReg), Pre_KernelMlstmIn m →
    θ_run (Cert.KernelMlstmIn.defs (F := Bits)) (onTc (τ := Cert.KernelMlstmIn.τ) (Cert.KernelMlstmIn.main (F := Bits))) ⟨m, fun _ => 0, g⟩ (fun r => (∀ c : Dev Cert.KernelMlstmIn.nD,
      r.2.mem ((c.tc : Thread Cert.KernelMlstmIn.nD Cert.KernelMlstmIn.τ).loc Cert.KernelMlstmIn.main_arg0) = m ((c.tc : Thread Cert.KernelMlstmIn.nD Cert.KernelMlstmIn.τ).loc Cert.KernelMlstmIn.main_arg0)
      ∧ r.2.mem ((c.tc : Thread Cert.KernelMlstmIn.nD Cert.KernelMlstmIn.τ).loc Cert.KernelMlstmIn.main_arg1) = m ((c.tc : Thread Cert.KernelMlstmIn.nD Cert.KernelMlstmIn.τ).loc Cert.KernelMlstmIn.main_arg1))
      ∧ r.2.sem = fun _ => 0)

def quiescent_KernelMlstmInIdeal [hKernelMlstmInIdeal : Cert.KernelMlstmInIdeal.Facts] : Prop :=
  ∀ (m : (ℓ : Loc Cert.KernelMlstmInIdeal.nD Cert.KernelMlstmInIdeal.τ Cert.KernelMlstmInIdeal.sig) → Buf (Elt Ideal) ℓ) (g : Dev Cert.KernelMlstmInIdeal.nD → PrngReg), Pre_KernelMlstmInIdeal m →
    θ_run (Cert.KernelMlstmInIdeal.defs (F := Ideal)) (onTc (τ := Cert.KernelMlstmInIdeal.τ) (Cert.KernelMlstmInIdeal.main (F := Ideal))) ⟨m, fun _ => 0, g⟩ (fun r => (∀ c : Dev Cert.KernelMlstmInIdeal.nD,
      r.2.mem ((c.tc : Thread Cert.KernelMlstmInIdeal.nD Cert.KernelMlstmInIdeal.τ).loc Cert.KernelMlstmInIdeal.main_arg0) = m ((c.tc : Thread Cert.KernelMlstmInIdeal.nD Cert.KernelMlstmInIdeal.τ).loc Cert.KernelMlstmInIdeal.main_arg0)
      ∧ r.2.mem ((c.tc : Thread Cert.KernelMlstmInIdeal.nD Cert.KernelMlstmInIdeal.τ).loc Cert.KernelMlstmInIdeal.main_arg1) = m ((c.tc : Thread Cert.KernelMlstmInIdeal.nD Cert.KernelMlstmInIdeal.τ).loc Cert.KernelMlstmInIdeal.main_arg1))
      ∧ r.2.sem = fun _ => 0)

def quiescent_ReferenceMlstmInIdeal [hReferenceMlstmInIdeal : Cert.ReferenceMlstmInIdeal.Facts] : Prop :=
  ∀ (m : (ℓ : Loc Cert.ReferenceMlstmInIdeal.nD Cert.ReferenceMlstmInIdeal.τ Cert.ReferenceMlstmInIdeal.sig) → Buf (Elt Ideal) ℓ) (g : Dev Cert.ReferenceMlstmInIdeal.nD → PrngReg), Pre_ReferenceMlstmInIdeal m →
    θ_run (Cert.ReferenceMlstmInIdeal.defs (F := Ideal)) (onTc (τ := Cert.ReferenceMlstmInIdeal.τ) (Cert.ReferenceMlstmInIdeal.main (F := Ideal))) ⟨m, fun _ => 0, g⟩ (fun r => (∀ c : Dev Cert.ReferenceMlstmInIdeal.nD,
      r.2.mem ((c.tc : Thread Cert.ReferenceMlstmInIdeal.nD Cert.ReferenceMlstmInIdeal.τ).loc Cert.ReferenceMlstmInIdeal.main_arg0) = m ((c.tc : Thread Cert.ReferenceMlstmInIdeal.nD Cert.ReferenceMlstmInIdeal.τ).loc Cert.ReferenceMlstmInIdeal.main_arg0)
      ∧ r.2.mem ((c.tc : Thread Cert.ReferenceMlstmInIdeal.nD Cert.ReferenceMlstmInIdeal.τ).loc Cert.ReferenceMlstmInIdeal.main_arg1) = m ((c.tc : Thread Cert.ReferenceMlstmInIdeal.nD Cert.ReferenceMlstmInIdeal.τ).loc Cert.ReferenceMlstmInIdeal.main_arg1))
      ∧ r.2.sem = fun _ => 0)

def quiescent_KernelRwkvIn [hKernelRwkvIn : Cert.KernelRwkvIn.Facts] : Prop :=
  ∀ (m : (ℓ : Loc Cert.KernelRwkvIn.nD Cert.KernelRwkvIn.τ Cert.KernelRwkvIn.sig) → Buf (Elt Bits) ℓ) (g : Dev Cert.KernelRwkvIn.nD → PrngReg), Pre_KernelRwkvIn m →
    θ_run (Cert.KernelRwkvIn.defs (F := Bits)) (onTc (τ := Cert.KernelRwkvIn.τ) (Cert.KernelRwkvIn.main (F := Bits))) ⟨m, fun _ => 0, g⟩ (fun r => (∀ c : Dev Cert.KernelRwkvIn.nD,
      r.2.mem ((c.tc : Thread Cert.KernelRwkvIn.nD Cert.KernelRwkvIn.τ).loc Cert.KernelRwkvIn.main_arg0) = m ((c.tc : Thread Cert.KernelRwkvIn.nD Cert.KernelRwkvIn.τ).loc Cert.KernelRwkvIn.main_arg0)
      ∧ r.2.mem ((c.tc : Thread Cert.KernelRwkvIn.nD Cert.KernelRwkvIn.τ).loc Cert.KernelRwkvIn.main_arg1) = m ((c.tc : Thread Cert.KernelRwkvIn.nD Cert.KernelRwkvIn.τ).loc Cert.KernelRwkvIn.main_arg1))
      ∧ r.2.sem = fun _ => 0)

def quiescent_KernelRwkvInIdeal [hKernelRwkvInIdeal : Cert.KernelRwkvInIdeal.Facts] : Prop :=
  ∀ (m : (ℓ : Loc Cert.KernelRwkvInIdeal.nD Cert.KernelRwkvInIdeal.τ Cert.KernelRwkvInIdeal.sig) → Buf (Elt Ideal) ℓ) (g : Dev Cert.KernelRwkvInIdeal.nD → PrngReg), Pre_KernelRwkvInIdeal m →
    θ_run (Cert.KernelRwkvInIdeal.defs (F := Ideal)) (onTc (τ := Cert.KernelRwkvInIdeal.τ) (Cert.KernelRwkvInIdeal.main (F := Ideal))) ⟨m, fun _ => 0, g⟩ (fun r => (∀ c : Dev Cert.KernelRwkvInIdeal.nD,
      r.2.mem ((c.tc : Thread Cert.KernelRwkvInIdeal.nD Cert.KernelRwkvInIdeal.τ).loc Cert.KernelRwkvInIdeal.main_arg0) = m ((c.tc : Thread Cert.KernelRwkvInIdeal.nD Cert.KernelRwkvInIdeal.τ).loc Cert.KernelRwkvInIdeal.main_arg0)
      ∧ r.2.mem ((c.tc : Thread Cert.KernelRwkvInIdeal.nD Cert.KernelRwkvInIdeal.τ).loc Cert.KernelRwkvInIdeal.main_arg1) = m ((c.tc : Thread Cert.KernelRwkvInIdeal.nD Cert.KernelRwkvInIdeal.τ).loc Cert.KernelRwkvInIdeal.main_arg1))
      ∧ r.2.sem = fun _ => 0)

def quiescent_ReferenceRwkvInIdeal [hReferenceRwkvInIdeal : Cert.ReferenceRwkvInIdeal.Facts] : Prop :=
  ∀ (m : (ℓ : Loc Cert.ReferenceRwkvInIdeal.nD Cert.ReferenceRwkvInIdeal.τ Cert.ReferenceRwkvInIdeal.sig) → Buf (Elt Ideal) ℓ) (g : Dev Cert.ReferenceRwkvInIdeal.nD → PrngReg), Pre_ReferenceRwkvInIdeal m →
    θ_run (Cert.ReferenceRwkvInIdeal.defs (F := Ideal)) (onTc (τ := Cert.ReferenceRwkvInIdeal.τ) (Cert.ReferenceRwkvInIdeal.main (F := Ideal))) ⟨m, fun _ => 0, g⟩ (fun r => (∀ c : Dev Cert.ReferenceRwkvInIdeal.nD,
      r.2.mem ((c.tc : Thread Cert.ReferenceRwkvInIdeal.nD Cert.ReferenceRwkvInIdeal.τ).loc Cert.ReferenceRwkvInIdeal.main_arg0) = m ((c.tc : Thread Cert.ReferenceRwkvInIdeal.nD Cert.ReferenceRwkvInIdeal.τ).loc Cert.ReferenceRwkvInIdeal.main_arg0)
      ∧ r.2.mem ((c.tc : Thread Cert.ReferenceRwkvInIdeal.nD Cert.ReferenceRwkvInIdeal.τ).loc Cert.ReferenceRwkvInIdeal.main_arg1) = m ((c.tc : Thread Cert.ReferenceRwkvInIdeal.nD Cert.ReferenceRwkvInIdeal.τ).loc Cert.ReferenceRwkvInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelQIn [hKernelQIn : Cert.KernelQIn.Facts] : Prop :=
  ∀ (m : (ℓ : Loc Cert.KernelQIn.nD Cert.KernelQIn.τ Cert.KernelQIn.sig) → Buf (Elt Bits) ℓ) (g : Dev Cert.KernelQIn.nD → PrngReg), Pre_KernelQIn m →
    θ_run (Cert.KernelQIn.defs (F := Bits)) (onTc (τ := Cert.KernelQIn.τ) (Cert.KernelQIn.main (F := Bits))) ⟨m, fun _ => 0, g⟩ (fun r => (∀ c : Dev Cert.KernelQIn.nD,
      r.2.mem ((c.tc : Thread Cert.KernelQIn.nD Cert.KernelQIn.τ).loc Cert.KernelQIn.main_arg0) = m ((c.tc : Thread Cert.KernelQIn.nD Cert.KernelQIn.τ).loc Cert.KernelQIn.main_arg0)
      ∧ r.2.mem ((c.tc : Thread Cert.KernelQIn.nD Cert.KernelQIn.τ).loc Cert.KernelQIn.main_arg1) = m ((c.tc : Thread Cert.KernelQIn.nD Cert.KernelQIn.τ).loc Cert.KernelQIn.main_arg1))
      ∧ r.2.sem = fun _ => 0)

def quiescent_KernelQInIdeal [hKernelQInIdeal : Cert.KernelQInIdeal.Facts] : Prop :=
  ∀ (m : (ℓ : Loc Cert.KernelQInIdeal.nD Cert.KernelQInIdeal.τ Cert.KernelQInIdeal.sig) → Buf (Elt Ideal) ℓ) (g : Dev Cert.KernelQInIdeal.nD → PrngReg), Pre_KernelQInIdeal m →
    θ_run (Cert.KernelQInIdeal.defs (F := Ideal)) (onTc (τ := Cert.KernelQInIdeal.τ) (Cert.KernelQInIdeal.main (F := Ideal))) ⟨m, fun _ => 0, g⟩ (fun r => (∀ c : Dev Cert.KernelQInIdeal.nD,
      r.2.mem ((c.tc : Thread Cert.KernelQInIdeal.nD Cert.KernelQInIdeal.τ).loc Cert.KernelQInIdeal.main_arg0) = m ((c.tc : Thread Cert.KernelQInIdeal.nD Cert.KernelQInIdeal.τ).loc Cert.KernelQInIdeal.main_arg0)
      ∧ r.2.mem ((c.tc : Thread Cert.KernelQInIdeal.nD Cert.KernelQInIdeal.τ).loc Cert.KernelQInIdeal.main_arg1) = m ((c.tc : Thread Cert.KernelQInIdeal.nD Cert.KernelQInIdeal.τ).loc Cert.KernelQInIdeal.main_arg1))
      ∧ r.2.sem = fun _ => 0)

def quiescent_ReferenceQInIdeal [hReferenceQInIdeal : Cert.ReferenceQInIdeal.Facts] : Prop :=
  ∀ (m : (ℓ : Loc Cert.ReferenceQInIdeal.nD Cert.ReferenceQInIdeal.τ Cert.ReferenceQInIdeal.sig) → Buf (Elt Ideal) ℓ) (g : Dev Cert.ReferenceQInIdeal.nD → PrngReg), Pre_ReferenceQInIdeal m →
    θ_run (Cert.ReferenceQInIdeal.defs (F := Ideal)) (onTc (τ := Cert.ReferenceQInIdeal.τ) (Cert.ReferenceQInIdeal.main (F := Ideal))) ⟨m, fun _ => 0, g⟩ (fun r => (∀ c : Dev Cert.ReferenceQInIdeal.nD,
      r.2.mem ((c.tc : Thread Cert.ReferenceQInIdeal.nD Cert.ReferenceQInIdeal.τ).loc Cert.ReferenceQInIdeal.main_arg0) = m ((c.tc : Thread Cert.ReferenceQInIdeal.nD Cert.ReferenceQInIdeal.τ).loc Cert.ReferenceQInIdeal.main_arg0)
      ∧ r.2.mem ((c.tc : Thread Cert.ReferenceQInIdeal.nD Cert.ReferenceQInIdeal.τ).loc Cert.ReferenceQInIdeal.main_arg1) = m ((c.tc : Thread Cert.ReferenceQInIdeal.nD Cert.ReferenceQInIdeal.τ).loc Cert.ReferenceQInIdeal.main_arg1))
      ∧ r.2.sem = fun _ => 0)

def quiescent_KernelKvIn [hKernelKvIn : Cert.KernelKvIn.Facts] : Prop :=
  ∀ (m : (ℓ : Loc Cert.KernelKvIn.nD Cert.KernelKvIn.τ Cert.KernelKvIn.sig) → Buf (Elt Bits) ℓ) (g : Dev Cert.KernelKvIn.nD → PrngReg), Pre_KernelKvIn m →
    θ_run (Cert.KernelKvIn.defs (F := Bits)) (onTc (τ := Cert.KernelKvIn.τ) (Cert.KernelKvIn.main (F := Bits))) ⟨m, fun _ => 0, g⟩ (fun r => (∀ c : Dev Cert.KernelKvIn.nD,
      r.2.mem ((c.tc : Thread Cert.KernelKvIn.nD Cert.KernelKvIn.τ).loc Cert.KernelKvIn.main_arg0) = m ((c.tc : Thread Cert.KernelKvIn.nD Cert.KernelKvIn.τ).loc Cert.KernelKvIn.main_arg0)
      ∧ r.2.mem ((c.tc : Thread Cert.KernelKvIn.nD Cert.KernelKvIn.τ).loc Cert.KernelKvIn.main_arg1) = m ((c.tc : Thread Cert.KernelKvIn.nD Cert.KernelKvIn.τ).loc Cert.KernelKvIn.main_arg1))
      ∧ r.2.sem = fun _ => 0)

def quiescent_KernelKvInIdeal [hKernelKvInIdeal : Cert.KernelKvInIdeal.Facts] : Prop :=
  ∀ (m : (ℓ : Loc Cert.KernelKvInIdeal.nD Cert.KernelKvInIdeal.τ Cert.KernelKvInIdeal.sig) → Buf (Elt Ideal) ℓ) (g : Dev Cert.KernelKvInIdeal.nD → PrngReg), Pre_KernelKvInIdeal m →
    θ_run (Cert.KernelKvInIdeal.defs (F := Ideal)) (onTc (τ := Cert.KernelKvInIdeal.τ) (Cert.KernelKvInIdeal.main (F := Ideal))) ⟨m, fun _ => 0, g⟩ (fun r => (∀ c : Dev Cert.KernelKvInIdeal.nD,
      r.2.mem ((c.tc : Thread Cert.KernelKvInIdeal.nD Cert.KernelKvInIdeal.τ).loc Cert.KernelKvInIdeal.main_arg0) = m ((c.tc : Thread Cert.KernelKvInIdeal.nD Cert.KernelKvInIdeal.τ).loc Cert.KernelKvInIdeal.main_arg0)
      ∧ r.2.mem ((c.tc : Thread Cert.KernelKvInIdeal.nD Cert.KernelKvInIdeal.τ).loc Cert.KernelKvInIdeal.main_arg1) = m ((c.tc : Thread Cert.KernelKvInIdeal.nD Cert.KernelKvInIdeal.τ).loc Cert.KernelKvInIdeal.main_arg1))
      ∧ r.2.sem = fun _ => 0)

def quiescent_ReferenceKvInIdeal [hReferenceKvInIdeal : Cert.ReferenceKvInIdeal.Facts] : Prop :=
  ∀ (m : (ℓ : Loc Cert.ReferenceKvInIdeal.nD Cert.ReferenceKvInIdeal.τ Cert.ReferenceKvInIdeal.sig) → Buf (Elt Ideal) ℓ) (g : Dev Cert.ReferenceKvInIdeal.nD → PrngReg), Pre_ReferenceKvInIdeal m →
    θ_run (Cert.ReferenceKvInIdeal.defs (F := Ideal)) (onTc (τ := Cert.ReferenceKvInIdeal.τ) (Cert.ReferenceKvInIdeal.main (F := Ideal))) ⟨m, fun _ => 0, g⟩ (fun r => (∀ c : Dev Cert.ReferenceKvInIdeal.nD,
      r.2.mem ((c.tc : Thread Cert.ReferenceKvInIdeal.nD Cert.ReferenceKvInIdeal.τ).loc Cert.ReferenceKvInIdeal.main_arg0) = m ((c.tc : Thread Cert.ReferenceKvInIdeal.nD Cert.ReferenceKvInIdeal.τ).loc Cert.ReferenceKvInIdeal.main_arg0)
      ∧ r.2.mem ((c.tc : Thread Cert.ReferenceKvInIdeal.nD Cert.ReferenceKvInIdeal.τ).loc Cert.ReferenceKvInIdeal.main_arg1) = m ((c.tc : Thread Cert.ReferenceKvInIdeal.nD Cert.ReferenceKvInIdeal.τ).loc Cert.ReferenceKvInIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v5)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v5) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v17) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelMlstmIn_KernelMlstmInIdeal : Prop :=
  True

def algebraic_KernelMlstmInIdeal_ReferenceMlstmInIdeal [hKernelMlstmInIdeal : Cert.KernelMlstmInIdeal.Facts] [hReferenceMlstmInIdeal : Cert.ReferenceMlstmInIdeal.Facts] : Prop :=
  ∀ (m : (ℓ : Loc Cert.KernelMlstmInIdeal.nD Cert.KernelMlstmInIdeal.τ Cert.KernelMlstmInIdeal.sig) → Buf (Elt Ideal) ℓ) (g : Dev Cert.KernelMlstmInIdeal.nD → PrngReg)
    (m' : (ℓ : Loc Cert.ReferenceMlstmInIdeal.nD Cert.ReferenceMlstmInIdeal.τ Cert.ReferenceMlstmInIdeal.sig) → Buf (Elt Ideal) ℓ) (g' : Dev Cert.ReferenceMlstmInIdeal.nD → PrngReg), Pre_KernelMlstmInIdeal m →
    (∀ c : Dev Cert.KernelMlstmInIdeal.nD,
      m' ((c.tc : Thread Cert.ReferenceMlstmInIdeal.nD Cert.ReferenceMlstmInIdeal.τ).loc Cert.ReferenceMlstmInIdeal.main_arg0) = m ((c.tc : Thread Cert.KernelMlstmInIdeal.nD Cert.KernelMlstmInIdeal.τ).loc Cert.KernelMlstmInIdeal.main_arg0)
      ∧ m' ((c.tc : Thread Cert.ReferenceMlstmInIdeal.nD Cert.ReferenceMlstmInIdeal.τ).loc Cert.ReferenceMlstmInIdeal.main_arg1) = m ((c.tc : Thread Cert.KernelMlstmInIdeal.nD Cert.KernelMlstmInIdeal.τ).loc Cert.KernelMlstmInIdeal.main_arg1)) →
    ∃ (v0 : (c : Dev Cert.KernelMlstmInIdeal.nD) → Buf (Elt Ideal) ((c.tc : Thread Cert.KernelMlstmInIdeal.nD Cert.KernelMlstmInIdeal.τ).loc Cert.KernelMlstmInIdeal.main_v1)),
      θ_run (Cert.KernelMlstmInIdeal.defs (F := Ideal)) (onTc (τ := Cert.KernelMlstmInIdeal.τ) (Cert.KernelMlstmInIdeal.main (F := Ideal))) ⟨m, fun _ => 0, g⟩ (fun r => ∀ c : Dev Cert.KernelMlstmInIdeal.nD,
          r.2.mem ((c.tc : Thread Cert.KernelMlstmInIdeal.nD Cert.KernelMlstmInIdeal.τ).loc Cert.KernelMlstmInIdeal.main_v1) = v0 c
          ∧ r.2.mem ((c.tc : Thread Cert.KernelMlstmInIdeal.nD Cert.KernelMlstmInIdeal.τ).loc Cert.KernelMlstmInIdeal.main_arg0) = m ((c.tc : Thread Cert.KernelMlstmInIdeal.nD Cert.KernelMlstmInIdeal.τ).loc Cert.KernelMlstmInIdeal.main_arg0)
          ∧ r.2.mem ((c.tc : Thread Cert.KernelMlstmInIdeal.nD Cert.KernelMlstmInIdeal.τ).loc Cert.KernelMlstmInIdeal.main_arg1) = m ((c.tc : Thread Cert.KernelMlstmInIdeal.nD Cert.KernelMlstmInIdeal.τ).loc Cert.KernelMlstmInIdeal.main_arg1))
      ∧ θ_run (Cert.ReferenceMlstmInIdeal.defs (F := Ideal)) (onTc (τ := Cert.ReferenceMlstmInIdeal.τ) (Cert.ReferenceMlstmInIdeal.main (F := Ideal))) ⟨m', fun _ => 0, g'⟩ (fun r => ∀ c : Dev Cert.ReferenceMlstmInIdeal.nD,
          r.2.mem ((c.tc : Thread Cert.ReferenceMlstmInIdeal.nD Cert.ReferenceMlstmInIdeal.τ).loc Cert.ReferenceMlstmInIdeal.main_v4) = v0 c
          ∧ r.2.mem ((c.tc : Thread Cert.ReferenceMlstmInIdeal.nD Cert.ReferenceMlstmInIdeal.τ).loc Cert.ReferenceMlstmInIdeal.main_arg0) = m' ((c.tc : Thread Cert.ReferenceMlstmInIdeal.nD Cert.ReferenceMlstmInIdeal.τ).loc Cert.ReferenceMlstmInIdeal.main_arg0)
          ∧ r.2.mem ((c.tc : Thread Cert.ReferenceMlstmInIdeal.nD Cert.ReferenceMlstmInIdeal.τ).loc Cert.ReferenceMlstmInIdeal.main_arg1) = m' ((c.tc : Thread Cert.ReferenceMlstmInIdeal.nD Cert.ReferenceMlstmInIdeal.τ).loc Cert.ReferenceMlstmInIdeal.main_arg1))

def preserves_KernelRwkvIn_KernelRwkvInIdeal : Prop :=
  True

def algebraic_KernelRwkvInIdeal_ReferenceRwkvInIdeal [hKernelRwkvInIdeal : Cert.KernelRwkvInIdeal.Facts] [hReferenceRwkvInIdeal : Cert.ReferenceRwkvInIdeal.Facts] : Prop :=
  ∀ (m : (ℓ : Loc Cert.KernelRwkvInIdeal.nD Cert.KernelRwkvInIdeal.τ Cert.KernelRwkvInIdeal.sig) → Buf (Elt Ideal) ℓ) (g : Dev Cert.KernelRwkvInIdeal.nD → PrngReg)
    (m' : (ℓ : Loc Cert.ReferenceRwkvInIdeal.nD Cert.ReferenceRwkvInIdeal.τ Cert.ReferenceRwkvInIdeal.sig) → Buf (Elt Ideal) ℓ) (g' : Dev Cert.ReferenceRwkvInIdeal.nD → PrngReg), Pre_KernelRwkvInIdeal m →
    (∀ c : Dev Cert.KernelRwkvInIdeal.nD,
      m' ((c.tc : Thread Cert.ReferenceRwkvInIdeal.nD Cert.ReferenceRwkvInIdeal.τ).loc Cert.ReferenceRwkvInIdeal.main_arg0) = m ((c.tc : Thread Cert.KernelRwkvInIdeal.nD Cert.KernelRwkvInIdeal.τ).loc Cert.KernelRwkvInIdeal.main_arg0)
      ∧ m' ((c.tc : Thread Cert.ReferenceRwkvInIdeal.nD Cert.ReferenceRwkvInIdeal.τ).loc Cert.ReferenceRwkvInIdeal.main_arg1) = m ((c.tc : Thread Cert.KernelRwkvInIdeal.nD Cert.KernelRwkvInIdeal.τ).loc Cert.KernelRwkvInIdeal.main_arg1)) →
    ∃ (v0 : (c : Dev Cert.KernelRwkvInIdeal.nD) → Buf (Elt Ideal) ((c.tc : Thread Cert.KernelRwkvInIdeal.nD Cert.KernelRwkvInIdeal.τ).loc Cert.KernelRwkvInIdeal.main_v1)),
      θ_run (Cert.KernelRwkvInIdeal.defs (F := Ideal)) (onTc (τ := Cert.KernelRwkvInIdeal.τ) (Cert.KernelRwkvInIdeal.main (F := Ideal))) ⟨m, fun _ => 0, g⟩ (fun r => ∀ c : Dev Cert.KernelRwkvInIdeal.nD,
          r.2.mem ((c.tc : Thread Cert.KernelRwkvInIdeal.nD Cert.KernelRwkvInIdeal.τ).loc Cert.KernelRwkvInIdeal.main_v1) = v0 c
          ∧ r.2.mem ((c.tc : Thread Cert.KernelRwkvInIdeal.nD Cert.KernelRwkvInIdeal.τ).loc Cert.KernelRwkvInIdeal.main_arg0) = m ((c.tc : Thread Cert.KernelRwkvInIdeal.nD Cert.KernelRwkvInIdeal.τ).loc Cert.KernelRwkvInIdeal.main_arg0)
          ∧ r.2.mem ((c.tc : Thread Cert.KernelRwkvInIdeal.nD Cert.KernelRwkvInIdeal.τ).loc Cert.KernelRwkvInIdeal.main_arg1) = m ((c.tc : Thread Cert.KernelRwkvInIdeal.nD Cert.KernelRwkvInIdeal.τ).loc Cert.KernelRwkvInIdeal.main_arg1))
      ∧ θ_run (Cert.ReferenceRwkvInIdeal.defs (F := Ideal)) (onTc (τ := Cert.ReferenceRwkvInIdeal.τ) (Cert.ReferenceRwkvInIdeal.main (F := Ideal))) ⟨m', fun _ => 0, g'⟩ (fun r => ∀ c : Dev Cert.ReferenceRwkvInIdeal.nD,
          r.2.mem ((c.tc : Thread Cert.ReferenceRwkvInIdeal.nD Cert.ReferenceRwkvInIdeal.τ).loc Cert.ReferenceRwkvInIdeal.main_v4) = v0 c
          ∧ r.2.mem ((c.tc : Thread Cert.ReferenceRwkvInIdeal.nD Cert.ReferenceRwkvInIdeal.τ).loc Cert.ReferenceRwkvInIdeal.main_arg0) = m' ((c.tc : Thread Cert.ReferenceRwkvInIdeal.nD Cert.ReferenceRwkvInIdeal.τ).loc Cert.ReferenceRwkvInIdeal.main_arg0)
          ∧ r.2.mem ((c.tc : Thread Cert.ReferenceRwkvInIdeal.nD Cert.ReferenceRwkvInIdeal.τ).loc Cert.ReferenceRwkvInIdeal.main_arg1) = m' ((c.tc : Thread Cert.ReferenceRwkvInIdeal.nD Cert.ReferenceRwkvInIdeal.τ).loc Cert.ReferenceRwkvInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v25) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelQIn_KernelQInIdeal : Prop :=
  True

def algebraic_KernelQInIdeal_ReferenceQInIdeal [hKernelQInIdeal : Cert.KernelQInIdeal.Facts] [hReferenceQInIdeal : Cert.ReferenceQInIdeal.Facts] : Prop :=
  ∀ (m : (ℓ : Loc Cert.KernelQInIdeal.nD Cert.KernelQInIdeal.τ Cert.KernelQInIdeal.sig) → Buf (Elt Ideal) ℓ) (g : Dev Cert.KernelQInIdeal.nD → PrngReg)
    (m' : (ℓ : Loc Cert.ReferenceQInIdeal.nD Cert.ReferenceQInIdeal.τ Cert.ReferenceQInIdeal.sig) → Buf (Elt Ideal) ℓ) (g' : Dev Cert.ReferenceQInIdeal.nD → PrngReg), Pre_KernelQInIdeal m →
    (∀ c : Dev Cert.KernelQInIdeal.nD,
      m' ((c.tc : Thread Cert.ReferenceQInIdeal.nD Cert.ReferenceQInIdeal.τ).loc Cert.ReferenceQInIdeal.main_arg0) = m ((c.tc : Thread Cert.KernelQInIdeal.nD Cert.KernelQInIdeal.τ).loc Cert.KernelQInIdeal.main_arg0)
      ∧ m' ((c.tc : Thread Cert.ReferenceQInIdeal.nD Cert.ReferenceQInIdeal.τ).loc Cert.ReferenceQInIdeal.main_arg1) = m ((c.tc : Thread Cert.KernelQInIdeal.nD Cert.KernelQInIdeal.τ).loc Cert.KernelQInIdeal.main_arg1)) →
    ∃ (v0 : (c : Dev Cert.KernelQInIdeal.nD) → Buf (Elt Ideal) ((c.tc : Thread Cert.KernelQInIdeal.nD Cert.KernelQInIdeal.τ).loc Cert.KernelQInIdeal.main_v3)),
      θ_run (Cert.KernelQInIdeal.defs (F := Ideal)) (onTc (τ := Cert.KernelQInIdeal.τ) (Cert.KernelQInIdeal.main (F := Ideal))) ⟨m, fun _ => 0, g⟩ (fun r => ∀ c : Dev Cert.KernelQInIdeal.nD,
          r.2.mem ((c.tc : Thread Cert.KernelQInIdeal.nD Cert.KernelQInIdeal.τ).loc Cert.KernelQInIdeal.main_v3) = v0 c
          ∧ r.2.mem ((c.tc : Thread Cert.KernelQInIdeal.nD Cert.KernelQInIdeal.τ).loc Cert.KernelQInIdeal.main_arg0) = m ((c.tc : Thread Cert.KernelQInIdeal.nD Cert.KernelQInIdeal.τ).loc Cert.KernelQInIdeal.main_arg0)
          ∧ r.2.mem ((c.tc : Thread Cert.KernelQInIdeal.nD Cert.KernelQInIdeal.τ).loc Cert.KernelQInIdeal.main_arg1) = m ((c.tc : Thread Cert.KernelQInIdeal.nD Cert.KernelQInIdeal.τ).loc Cert.KernelQInIdeal.main_arg1))
      ∧ θ_run (Cert.ReferenceQInIdeal.defs (F := Ideal)) (onTc (τ := Cert.ReferenceQInIdeal.τ) (Cert.ReferenceQInIdeal.main (F := Ideal))) ⟨m', fun _ => 0, g'⟩ (fun r => ∀ c : Dev Cert.ReferenceQInIdeal.nD,
          r.2.mem ((c.tc : Thread Cert.ReferenceQInIdeal.nD Cert.ReferenceQInIdeal.τ).loc Cert.ReferenceQInIdeal.main_v14) = v0 c
          ∧ r.2.mem ((c.tc : Thread Cert.ReferenceQInIdeal.nD Cert.ReferenceQInIdeal.τ).loc Cert.ReferenceQInIdeal.main_arg0) = m' ((c.tc : Thread Cert.ReferenceQInIdeal.nD Cert.ReferenceQInIdeal.τ).loc Cert.ReferenceQInIdeal.main_arg0)
          ∧ r.2.mem ((c.tc : Thread Cert.ReferenceQInIdeal.nD Cert.ReferenceQInIdeal.τ).loc Cert.ReferenceQInIdeal.main_arg1) = m' ((c.tc : Thread Cert.ReferenceQInIdeal.nD Cert.ReferenceQInIdeal.τ).loc Cert.ReferenceQInIdeal.main_arg1))

def preserves_KernelKvIn_KernelKvInIdeal : Prop :=
  True

def algebraic_KernelKvInIdeal_ReferenceKvInIdeal [hKernelKvInIdeal : Cert.KernelKvInIdeal.Facts] [hReferenceKvInIdeal : Cert.ReferenceKvInIdeal.Facts] : Prop :=
  ∀ (m : (ℓ : Loc Cert.KernelKvInIdeal.nD Cert.KernelKvInIdeal.τ Cert.KernelKvInIdeal.sig) → Buf (Elt Ideal) ℓ) (g : Dev Cert.KernelKvInIdeal.nD → PrngReg)
    (m' : (ℓ : Loc Cert.ReferenceKvInIdeal.nD Cert.ReferenceKvInIdeal.τ Cert.ReferenceKvInIdeal.sig) → Buf (Elt Ideal) ℓ) (g' : Dev Cert.ReferenceKvInIdeal.nD → PrngReg), Pre_KernelKvInIdeal m →
    (∀ c : Dev Cert.KernelKvInIdeal.nD,
      m' ((c.tc : Thread Cert.ReferenceKvInIdeal.nD Cert.ReferenceKvInIdeal.τ).loc Cert.ReferenceKvInIdeal.main_arg0) = m ((c.tc : Thread Cert.KernelKvInIdeal.nD Cert.KernelKvInIdeal.τ).loc Cert.KernelKvInIdeal.main_arg0)
      ∧ m' ((c.tc : Thread Cert.ReferenceKvInIdeal.nD Cert.ReferenceKvInIdeal.τ).loc Cert.ReferenceKvInIdeal.main_arg1) = m ((c.tc : Thread Cert.KernelKvInIdeal.nD Cert.KernelKvInIdeal.τ).loc Cert.KernelKvInIdeal.main_arg1)) →
    ∃ (v0 : (c : Dev Cert.KernelKvInIdeal.nD) → Buf (Elt Ideal) ((c.tc : Thread Cert.KernelKvInIdeal.nD Cert.KernelKvInIdeal.τ).loc Cert.KernelKvInIdeal.main_v3)),
      θ_run (Cert.KernelKvInIdeal.defs (F := Ideal)) (onTc (τ := Cert.KernelKvInIdeal.τ) (Cert.KernelKvInIdeal.main (F := Ideal))) ⟨m, fun _ => 0, g⟩ (fun r => ∀ c : Dev Cert.KernelKvInIdeal.nD,
          r.2.mem ((c.tc : Thread Cert.KernelKvInIdeal.nD Cert.KernelKvInIdeal.τ).loc Cert.KernelKvInIdeal.main_v3) = v0 c
          ∧ r.2.mem ((c.tc : Thread Cert.KernelKvInIdeal.nD Cert.KernelKvInIdeal.τ).loc Cert.KernelKvInIdeal.main_arg0) = m ((c.tc : Thread Cert.KernelKvInIdeal.nD Cert.KernelKvInIdeal.τ).loc Cert.KernelKvInIdeal.main_arg0)
          ∧ r.2.mem ((c.tc : Thread Cert.KernelKvInIdeal.nD Cert.KernelKvInIdeal.τ).loc Cert.KernelKvInIdeal.main_arg1) = m ((c.tc : Thread Cert.KernelKvInIdeal.nD Cert.KernelKvInIdeal.τ).loc Cert.KernelKvInIdeal.main_arg1))
      ∧ θ_run (Cert.ReferenceKvInIdeal.defs (F := Ideal)) (onTc (τ := Cert.ReferenceKvInIdeal.τ) (Cert.ReferenceKvInIdeal.main (F := Ideal))) ⟨m', fun _ => 0, g'⟩ (fun r => ∀ c : Dev Cert.ReferenceKvInIdeal.nD,
          r.2.mem ((c.tc : Thread Cert.ReferenceKvInIdeal.nD Cert.ReferenceKvInIdeal.τ).loc Cert.ReferenceKvInIdeal.main_v9) = v0 c
          ∧ r.2.mem ((c.tc : Thread Cert.ReferenceKvInIdeal.nD Cert.ReferenceKvInIdeal.τ).loc Cert.ReferenceKvInIdeal.main_arg0) = m' ((c.tc : Thread Cert.ReferenceKvInIdeal.nD Cert.ReferenceKvInIdeal.τ).loc Cert.ReferenceKvInIdeal.main_arg0)
          ∧ r.2.mem ((c.tc : Thread Cert.ReferenceKvInIdeal.nD Cert.ReferenceKvInIdeal.τ).loc Cert.ReferenceKvInIdeal.main_arg1) = m' ((c.tc : Thread Cert.ReferenceKvInIdeal.nD Cert.ReferenceKvInIdeal.τ).loc Cert.ReferenceKvInIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelGates : Cert.KernelGates.Facts) (hKernelGatesIdeal : Cert.KernelGatesIdeal.Facts) (hReferenceGatesIdeal : Cert.ReferenceGatesIdeal.Facts) (hKernelMlstmIn : Cert.KernelMlstmIn.Facts) (hKernelMlstmInIdeal : Cert.KernelMlstmInIdeal.Facts) (hReferenceMlstmInIdeal : Cert.ReferenceMlstmInIdeal.Facts) (hKernelRwkvIn : Cert.KernelRwkvIn.Facts) (hKernelRwkvInIdeal : Cert.KernelRwkvInIdeal.Facts) (hReferenceRwkvInIdeal : Cert.ReferenceRwkvInIdeal.Facts) (hKernelOut : Cert.KernelOut.Facts) (hKernelOutIdeal : Cert.KernelOutIdeal.Facts) (hReferenceOutIdeal : Cert.ReferenceOutIdeal.Facts) (hKernelMerge : Cert.KernelMerge.Facts) (hKernelMergeIdeal : Cert.KernelMergeIdeal.Facts) (hReferenceMergeIdeal : Cert.ReferenceMergeIdeal.Facts) (hKernelQIn : Cert.KernelQIn.Facts) (hKernelQInIdeal : Cert.KernelQInIdeal.Facts) (hReferenceQInIdeal : Cert.ReferenceQInIdeal.Facts) (hKernelKvIn : Cert.KernelKvIn.Facts) (hKernelKvInIdeal : Cert.KernelKvInIdeal.Facts) (hReferenceKvInIdeal : Cert.ReferenceKvInIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelMlstmIn (hKernelMlstmIn := hKernelMlstmIn)
    ∧ quiescent_KernelMlstmInIdeal (hKernelMlstmInIdeal := hKernelMlstmInIdeal)
    ∧ quiescent_ReferenceMlstmInIdeal (hReferenceMlstmInIdeal := hReferenceMlstmInIdeal)
    ∧ quiescent_KernelRwkvIn (hKernelRwkvIn := hKernelRwkvIn)
    ∧ quiescent_KernelRwkvInIdeal (hKernelRwkvInIdeal := hKernelRwkvInIdeal)
    ∧ quiescent_ReferenceRwkvInIdeal (hReferenceRwkvInIdeal := hReferenceRwkvInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelQIn (hKernelQIn := hKernelQIn)
    ∧ quiescent_KernelQInIdeal (hKernelQInIdeal := hKernelQInIdeal)
    ∧ quiescent_ReferenceQInIdeal (hReferenceQInIdeal := hReferenceQInIdeal)
    ∧ quiescent_KernelKvIn (hKernelKvIn := hKernelKvIn)
    ∧ quiescent_KernelKvInIdeal (hKernelKvInIdeal := hKernelKvInIdeal)
    ∧ quiescent_ReferenceKvInIdeal (hReferenceKvInIdeal := hReferenceKvInIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelMlstmIn_KernelMlstmInIdeal
    ∧ algebraic_KernelMlstmInIdeal_ReferenceMlstmInIdeal (hKernelMlstmInIdeal := hKernelMlstmInIdeal) (hReferenceMlstmInIdeal := hReferenceMlstmInIdeal)
    ∧ preserves_KernelRwkvIn_KernelRwkvInIdeal
    ∧ algebraic_KernelRwkvInIdeal_ReferenceRwkvInIdeal (hKernelRwkvInIdeal := hKernelRwkvInIdeal) (hReferenceRwkvInIdeal := hReferenceRwkvInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelQIn_KernelQInIdeal
    ∧ algebraic_KernelQInIdeal_ReferenceQInIdeal (hKernelQInIdeal := hKernelQInIdeal) (hReferenceQInIdeal := hReferenceQInIdeal)
    ∧ preserves_KernelKvIn_KernelKvInIdeal
    ∧ algebraic_KernelKvInIdeal_ReferenceKvInIdeal (hKernelKvInIdeal := hKernelKvInIdeal) (hReferenceKvInIdeal := hReferenceKvInIdeal)
-- ==== Pre_finite_inputs.lean ====
abbrev S8192x2048 : Shape := ⟨2, ![8192, 2048]⟩
abbrev S8192x1024 : Shape := ⟨2, ![8192, 1024]⟩
abbrev S8192x256 : Shape := ⟨2, ![8192, 256]⟩
abbrev S8192x128 : Shape := ⟨2, ![8192, 128]⟩
abbrev S256x8x128 : Shape := ⟨3, ![256, 8, 128]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x128 : S_.BroadcastsInDim S8192x128 (![] : Fin 0 → Fin S8192x128.rank)

variable [Facts]

def fn {F : FTy → Type} [FloatOps F] (main_arg0 : FVec F S8192x2048 .bf16) (main_arg1 : FVec F S8192x1024 .bf16) (main_arg2 : FVec F S8192x256 .bf16) (main_arg3 : FVec F S8192x128 .bf16) (main_arg4 : FVec F S256x8x128 .f32) : IVec S8192x2048 1 × IVec S8192x1024 1 × IVec S8192x256 1 × IVec S8192x128 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8192x256 .bf16 := Host.absf main_arg2
  let main_cst_1 : FVec F S_ .bf16 := constant S_ .bf16 0x7F80#16
  let main_v7 : FVec F S8192x256 .bf16 := broadcastInDim S8192x256 ![] bcast_S_S8192x256 main_cst_1
  let main_v8 : IVec S8192x256 1 := cmpf .olt main_v6 main_v7
  let main_v9 : FVec F S8192x128 .bf16 := Host.absf main_arg3
  let main_cst_2 : FVec F S_ .bf16 := constant S_ .bf16 0x7F80#16
  let main_v10 : FVec F S8192x128 .bf16 := broadcastInDim S8192x128 ![] bcast_S_S8192x128 main_cst_2
  let main_v11 : IVec S8192x128 1 := cmpf .olt main_v9 main_v10
  (main_v2, main_v5, main_v8, main_v11)
-- ==== Kernel.lean ====
abbrev S8192x2048 : Shape := ⟨2, ![8192, 2048]⟩
abbrev S8192x1024 : Shape := ⟨2, ![8192, 1024]⟩
abbrev S8192x256 : Shape := ⟨2, ![8192, 256]⟩
abbrev S8192x128 : Shape := ⟨2, ![8192, 128]⟩
abbrev S256x8x128 : Shape := ⟨3, ![256, 8, 128]⟩
abbrev S8x256x128 : Shape := ⟨3, ![8, 256, 128]⟩
abbrev S512x2048 : Shape := ⟨2, ![512, 2048]⟩
abbrev S512x1024 : Shape := ⟨2, ![512, 1024]⟩
abbrev S512x256 : Shape := ⟨2, ![512, 256]⟩
abbrev S512x128 : Shape := ⟨2, ![512, 128]⟩
abbrev S8x512x128 : Shape := ⟨3, ![8, 512, 128]⟩
abbrev S8x512x256 : Shape := ⟨3, ![8, 512, 256]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S1x256x128 : Shape := ⟨3, ![1, 256, 128]⟩
abbrev S256x128 : Shape := ⟨2, ![256, 128]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x256, .bf16⟩
  | .hbm, ⟨3, _⟩ => ⟨S8192x128, .bf16⟩
  | .hbm, ⟨4, _⟩ => ⟨S256x8x128, .f32⟩
  | .hbm, ⟨5, _⟩ => ⟨S8x256x128, .f32⟩
  | .hbm, ⟨6, _⟩ => ⟨S8x256x128, .bf16⟩
  | .hbm, ⟨7, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S8x256x128, .bf16⟩
  | .local _ .vmem, ⟨9, _⟩ => ⟨S512x1024, .bf16⟩
  | .local _ .vmem, ⟨10, _⟩ => ⟨S512x1024, .bf16⟩
  | .local _ .vmem, ⟨11, _⟩ => ⟨S8x512x128, .f32⟩
  | .local _ .vmem, ⟨12, _⟩ => ⟨S8x512x128, .f32⟩
  | .local _ .vmem, ⟨13, _⟩ => ⟨S8x512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S8192x2048 : Shape := ⟨2, ![8192, 2048]⟩
abbrev S8192x1024 : Shape := ⟨2, ![8192, 1024]⟩
abbrev S8192x256 : Shape := ⟨2, ![8192, 256]⟩
abbrev S8192x128 : Shape := ⟨2, ![8192, 128]⟩
abbrev S256x8x128 : Shape := ⟨3, ![256, 8, 128]⟩
abbrev S2x4096x8x256 : Shape := ⟨4, ![2, 4096, 8, 256]⟩
abbrev S2x4096x8x128 : Shape := ⟨4, ![2, 4096, 8, 128]⟩
abbrev S2x4096x256 : Shape := ⟨3, ![2, 4096, 256]⟩
abbrev S2x4096x128 : Shape := ⟨3, ![2, 4096, 128]⟩
abbrev S2x4096x4096x8 : Shape := ⟨4, ![2, 4096, 4096, 8]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x4096 : Shape := ⟨3, ![2, 8, 4096]⟩
abbrev S2x8x4096x1 : Shape := ⟨4, ![2, 8, 4096, 1]⟩
abbrev S2x256x8x4096 : Shape := ⟨4, ![2, 256, 8, 4096]⟩
abbrev S8x128x2x4096 : Shape := ⟨4, ![8, 128, 2, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x256, .bf16⟩
  | .hbm, ⟨3, _⟩ => ⟨S8192x128, .bf16⟩
  | .hbm, ⟨4, _⟩ => ⟨S256x8x128, .f32⟩
  | .hbm, ⟨5, _⟩ => ⟨S8192x2048, .f32⟩
  | .hbm, ⟨6, _⟩ => ⟨S2x4096x8x256, .f32⟩
  | .hbm, ⟨7, _⟩ => ⟨S8192x1024, .f32⟩
  | .hbm, ⟨8, _⟩ => ⟨S2x4096x8x128, .f32⟩
  | .hbm, ⟨9, _⟩ => ⟨S8192x256, .f32⟩
  | .hbm, ⟨10, _⟩ => ⟨S2x4096x256, .f32⟩
  | .hbm, ⟨11, _⟩ => ⟨S8192x128, .f32⟩
  | .hbm, ⟨12, _⟩ => ⟨S2x4096x128, .f32⟩
  | .hbm, ⟨13, _⟩ => ⟨S2x4096x4096x8, .f32⟩
  | .hbm, ⟨14, _⟩ => ⟨S2x8x4096x4096, .f32⟩
  | .hbm, ⟨15, _⟩ => ⟨S2x4096x4096x8, .f32⟩
  | .hbm, ⟨16, _⟩ => ⟨S2x8x4096x4096, .f32⟩
  | .hbm, ⟨17, _⟩ => ⟨S2x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S2x8x4096x4096, .i1⟩
  | .hbm, ⟨27, _⟩ => ⟨S2x8x4096x4096, .f32⟩
  | .hbm, ⟨28, _⟩ => ⟨S2x8x4096x4096, .f32⟩
  | .hbm, ⟨29, _⟩ => ⟨S_, .f32⟩
  | .hbm, ⟨30, _⟩ => ⟨S2x8x4096, .f32⟩
  | .hbm, ⟨31, _⟩ => ⟨S_, .f32⟩
  | .hbm, ⟨32, _⟩ => ⟨S2x8x4096, .f32⟩
  | .hbm, ⟨33, _⟩ => ⟨S2x8x4096, .f32⟩
  | .hbm, ⟨34, _⟩ => ⟨S2x8x4096x1, .f32⟩
  | .hbm, ⟨35, _⟩ => ⟨S2x8x4096x4096, .f32⟩
  | .hbm, ⟨36, _⟩ => ⟨S2x8x4096x4096, .f32⟩
  | .hbm, ⟨37, _⟩ => ⟨S2x8x4096x4096, .f32⟩
  | .hbm, ⟨38, _⟩ => ⟨S_, .f32⟩
  | .hbm, ⟨39, _⟩ => ⟨S2x8x4096, .f32⟩
  | .hbm, ⟨40, _⟩ => ⟨S2x8x4096x1, .f32⟩
  | .hbm, ⟨41, _⟩ => ⟨S2x8x4096x4096, .f32⟩
  | .hbm, ⟨42, _⟩ => ⟨S2x8x4096x4096, .f32⟩
  | .hbm, ⟨43, _⟩ => ⟨S2x256x8x4096, .f32⟩
  | .hbm, ⟨44, _⟩ => ⟨S2x4096x8x256, .f32⟩
  | .hbm, ⟨45, _⟩ => ⟨S8x128x2x4096, .f32⟩
  | .hbm, ⟨46, _⟩ => ⟨S2x4096x8x128, .f32⟩
  | .hbm, ⟨47, _⟩ => ⟨S8192x1024, .f32⟩
  | .hbm, ⟨48, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== KernelUp.lean ====
abbrev S9216x2048 : Shape := ⟨2, ![9216, 2048]⟩
abbrev S2x2048x8192 : Shape := ⟨3, ![2, 2048, 8192]⟩
abbrev S9216x8192 : Shape := ⟨2, ![9216, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x8192, .f32⟩
  | .hbm, ⟨2, _⟩ => ⟨S9216x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S9216x2048 : Shape := ⟨2, ![9216, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S9216x8192 : Shape := ⟨2, ![9216, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x8192, .f32⟩
  | .hbm, ⟨2, _⟩ => ⟨S9216x2048, .f32⟩
  | .hbm, ⟨3, _⟩ => ⟨S1x2048x8192, .f32⟩
  | .hbm, ⟨4, _⟩ => ⟨S2048x8192, .f32⟩
  | .hbm, ⟨5, _⟩ => ⟨S9216x8192, .f32⟩
  | .hbm, ⟨6, _⟩ => ⟨S_, .f32⟩
  | .hbm, ⟨7, _⟩ => ⟨S9216x8192, .f32⟩
  | .hbm, ⟨8, _⟩ => ⟨S9216x8192, .f32⟩
  | .hbm, ⟨9, _⟩ => ⟨S9216x8192, .f32⟩
  | .hbm, ⟨10, _⟩ => ⟨S9216x8192, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelDown.lean ====
abbrev S9216x8192 : Shape := ⟨2, ![9216, 8192]⟩
abbrev S2x8192x2048 : Shape := ⟨3, ![2, 8192, 2048]⟩
abbrev S9216x2048 : Shape := ⟨2, ![9216, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x8192, .bf16⟩
  | .hbm, ⟨1, _⟩ => ⟨S2x8192x2048, .f32⟩
  | .hbm, ⟨2, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S9216x8192 : Shape := ⟨2, ![9216, 8192]⟩
abbrev S2x8192x2048 : Shape := ⟨3, ![2, 8192, 2048]⟩
abbrev S1x8192x2048 : Shape := ⟨3, ![1, 8192, 2048]⟩
abbrev S8192x2048 : Shape := ⟨2, ![8192, 2048]⟩
abbrev S9216x2048 : Shape := ⟨2, ![9216, 2048]⟩

abbrev nBuf : Space → Nat
  | .hbm => 6
  | .vmem => 0
  | .smem => 0
  | _ => 0

abbrev bufTy : (tb : Table) → Fin (tcTables nBuf tb) → BufTy
  | .hbm, ⟨0, _⟩ => ⟨S9216x8192, .bf16⟩
  | .hbm, ⟨1, _⟩ => ⟨S2x8192x2048, .f32⟩
  | .hbm, ⟨2, _⟩ => ⟨S9216x8192, .f32⟩
  | .hbm, ⟨3, _⟩ => ⟨S1x8192x2048, .f32⟩
  | .hbm, ⟨4, _⟩ => ⟨S8192x2048, .f32⟩
  | .hbm, ⟨5, _⟩ => ⟨S9216x2048, .f32⟩
  | _, _ => ⟨S9216x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGates.lean ====
abbrev S9216x2048 : Shape := ⟨2, ![9216, 2048]⟩
abbrev S2x2048x15432 : Shape := ⟨3, ![2, 2048, 15432]⟩
abbrev S2x3x2048 : Shape := ⟨3, ![2, 3, 2048]⟩
abbrev S2x15432x2048 : Shape := ⟨3, ![2, 15432, 2048]⟩
abbrev S1x3x2048 : Shape := ⟨3, ![1, 3, 2048]⟩
abbrev S3x2048 : Shape := ⟨2, ![3, 2048]⟩
abbrev S6144 : Shape := ⟨1, ![6144]⟩
abbrev S1x6144 : Shape := ⟨2, ![1, 6144]⟩
abbrev S9216x6144 : Shape := ⟨2, ![9216, 6144]⟩
abbrev S1024x2048 : Shape := ⟨2, ![1024, 2048]⟩
abbrev S1x1024x2048 : Shape := ⟨3, ![1, 1024, 2048]⟩
abbrev S1x1024 : Shape := ⟨2, ![1, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S2x3x2048, .f32⟩
  | .hbm, ⟨3, _⟩ => ⟨S2x15432x2048, .f32⟩
  | .hbm, ⟨4, _⟩ => ⟨S1x3x2048, .f32⟩
  | .hbm, ⟨5, _⟩ => ⟨S3x2048, .f32⟩
  | .hbm, ⟨6, _⟩ => ⟨S6144, .f32⟩
  | .hbm, ⟨7, _⟩ => ⟨S1x6144, .f32⟩
  | .hbm, ⟨8, _⟩ => ⟨S9216x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1161_i32 : BitVec 32 := 1161#32
  let v1 : BitVec 32 := Scalar.addi c1161_i32 v0
  let c8_i32 : BitVec 32 := 8#32
  let v2 : BitVec 32 := Scalar.muli c8_i32 v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGatesIdeal.lean ====
abbrev S9216x2048 : Shape := ⟨2, ![9216, 2048]⟩
abbrev S2x2048x15432 : Shape := ⟨3, ![2, 2048, 15432]⟩
abbrev S2x3x2048 : Shape := ⟨3, ![2, 3, 2048]⟩
abbrev S1x2048x15432 : Shape := ⟨3, ![1, 2048, 15432]⟩
abbrev S2048x15432 : Shape := ⟨2, ![2048, 15432]⟩
abbrev S2048x6144 : Shape := ⟨2, ![2048, 6144]⟩
abbrev S9216x6144 : Shape := ⟨2, ![9216, 6144]⟩
abbrev S1x3x2048 : Shape := ⟨3, ![1, 3, 2048]⟩
abbrev S3x2048 : Shape := ⟨2, ![3, 2048]⟩
abbrev S6144 : Shape := ⟨1, ![6144]⟩
abbrev S1x6144 : Shape := ⟨2, ![1, 6144]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S2x3x2048, .f32⟩
  | .hbm, ⟨3, _⟩ => ⟨S9216x2048, .f32⟩
  | .hbm, ⟨4, _⟩ => ⟨S1x2048x15432, .f32⟩
  | .hbm, ⟨5, _⟩ => ⟨S2048x15432, .f32⟩
  | .hbm, ⟨6, _⟩ => ⟨S2048x6144, .f32⟩
  | .hbm, ⟨7, _⟩ => ⟨S9216x6144, .f32⟩
  | .hbm, ⟨8, _⟩ => ⟨S1x3x2048, .f32⟩
  | .hbm, ⟨9, _⟩ => ⟨S3x2048, .f32⟩
  | .hbm, ⟨10, _⟩ => ⟨S6144, .f32⟩
  | .hbm, ⟨11, _⟩ => ⟨S1x6144, .f32⟩
  | .hbm, ⟨12, _⟩ => ⟨S9216x6144, .f32⟩
  | .hbm, ⟨13, _⟩ => ⟨S9216x6144, .f32⟩
  | .hbm, ⟨14, _⟩ => ⟨S9216x6144, .f32⟩
  | .hbm, ⟨15, _⟩ => ⟨S9216x6144, .f32⟩
  | .hbm, ⟨16, _⟩ => ⟨S_, .f32⟩
  | .hbm, ⟨17, _⟩ => ⟨S9216x6144, .f32⟩
  | .hbm, ⟨18, _⟩ => ⟨S9216x6144, .f32⟩
  | .hbm, ⟨19, _⟩ => ⟨S_, .f32⟩
  | .hbm, ⟨20, _⟩ => ⟨S9216x6144, .f32⟩
  | .hbm, ⟨21, _⟩ => ⟨S9216x6144, .f32⟩
  | .hbm, ⟨22, _⟩ => ⟨S9216x6144, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== KernelMlstmIn.lean ====
abbrev S9216x2048 : Shape := ⟨2, ![9216, 2048]⟩
abbrev S2x2048x15432 : Shape := ⟨3, ![2, 2048, 15432]⟩
abbrev S2x15432x2048 : Shape := ⟨3, ![2, 15432, 2048]⟩
abbrev S9216x4096 : Shape := ⟨2, ![9216, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S2x15432x2048, .f32⟩
  | .hbm, ⟨3, _⟩ => ⟨S9216x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c648_i32 : BitVec 32 := 648#32
  let v1 : BitVec 32 := Scalar.addi c648_i32 v0
  let c8_i32 : BitVec 32 := 8#32
  let v2 : BitVec 32 := Scalar.muli c8_i32 v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlstmInIdeal.lean ====
abbrev S9216x2048 : Shape := ⟨2, ![9216, 2048]⟩
abbrev S2x2048x15432 : Shape := ⟨3, ![2, 2048, 15432]⟩
abbrev S1x2048x15432 : Shape := ⟨3, ![1, 2048, 15432]⟩
abbrev S2048x15432 : Shape := ⟨2, ![2048, 15432]⟩
abbrev S2048x4096 : Shape := ⟨2, ![2048, 4096]⟩
abbrev S9216x4096 : Shape := ⟨2, ![9216, 4096]⟩

abbrev nBuf : Space → Nat
  | .hbm => 7
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S9216x2048, .f32⟩
  | .hbm, ⟨3, _⟩ => ⟨S1x2048x15432, .f32⟩
  | .hbm, ⟨4, _⟩ => ⟨S2048x15432, .f32⟩
  | .hbm, ⟨5, _⟩ => ⟨S2048x4096, .f32⟩
  | .hbm, ⟨6, _⟩ => ⟨S9216x4096, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelRwkvIn.lean ====
abbrev S9216x2048 : Shape := ⟨2, ![9216, 2048]⟩
abbrev S2x2048x15432 : Shape := ⟨3, ![2, 2048, 15432]⟩
abbrev S2x15432x2048 : Shape := ⟨3, ![2, 15432, 2048]⟩
abbrev S9216x3584 : Shape := ⟨2, ![9216, 3584]⟩
abbrev S1024x2048 : Shape := ⟨2, ![1024, 2048]⟩
abbrev S1x896x2048 : Shape := ⟨3, ![1, 896, 2048]⟩
abbrev S1024x896 : Shape := ⟨2, ![1024, 896]⟩
abbrev S896x2048 : Shape := ⟨2, ![896, 2048]⟩

abbrev nBuf : Space → Nat
  | .hbm => 4
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S2x15432x2048, .f32⟩
  | .hbm, ⟨3, _⟩ => ⟨S9216x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x896x2048, .f32⟩
  | .local _ .vmem, ⟨3, _⟩ => ⟨S1x896x2048, .f32⟩
  | .local _ .vmem, ⟨4, _⟩ => ⟨S1024x896, .f32⟩
  | .local _ .vmem, ⟨5, _⟩ => ⟨S1024x896, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c112_i32 : BitVec 32 := 112#32
  let v0 : BitVec 32 := Scalar.muli arg1 c112_i32
  let c232_i32 : BitVec 32 := 232#32
  let v1 : BitVec 32 := Scalar.addi c232_i32 v0
  let c8_i32 : BitVec 32 := 8#32
  let v2 : BitVec 32 := Scalar.muli c8_i32 v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x896x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRwkvInIdeal.lean ====
abbrev S9216x2048 : Shape := ⟨2, ![9216, 2048]⟩
abbrev S2x2048x15432 : Shape := ⟨3, ![2, 2048, 15432]⟩
abbrev S1x2048x15432 : Shape := ⟨3, ![1, 2048, 15432]⟩
abbrev S2048x15432 : Shape := ⟨2, ![2048, 15432]⟩
abbrev S2048x3584 : Shape := ⟨2, ![2048, 3584]⟩
abbrev S9216x3584 : Shape := ⟨2, ![9216, 3584]⟩

abbrev nBuf : Space → Nat
  | .hbm => 7
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S9216x2048, .f32⟩
  | .hbm, ⟨3, _⟩ => ⟨S1x2048x15432, .f32⟩
  | .hbm, ⟨4, _⟩ => ⟨S2048x15432, .f32⟩
  | .hbm, ⟨5, _⟩ => ⟨S2048x3584, .f32⟩
  | .hbm, ⟨6, _⟩ => ⟨S9216x3584, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelOut.lean ====
abbrev S9216x2048 : Shape := ⟨2, ![9216, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x2048, .f32⟩
  | .hbm, ⟨2, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S9216x2048 : Shape := ⟨2, ![9216, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x2048, .f32⟩
  | .hbm, ⟨2, _⟩ => ⟨S9216x2048, .f32⟩
  | .hbm, ⟨3, _⟩ => ⟨S1x2048x2048, .f32⟩
  | .hbm, ⟨4, _⟩ => ⟨S2048x2048, .f32⟩
  | .hbm, ⟨5, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMerge.lean ====
abbrev S9216x1024 : Shape := ⟨2, ![9216, 1024]⟩
abbrev S2x1024x2048 : Shape := ⟨3, ![2, 1024, 2048]⟩
abbrev S9216x6144 : Shape := ⟨2, ![9216, 6144]⟩
abbrev S9216x2048 : Shape := ⟨2, ![9216, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S9216x6144, .bf16⟩
  | .hbm, ⟨7, _⟩ => ⟨S9216x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMergeIdeal.lean ====
abbrev S9216x1024 : Shape := ⟨2, ![9216, 1024]⟩
abbrev S2x1024x2048 : Shape := ⟨3, ![2, 1024, 2048]⟩
abbrev S9216x6144 : Shape := ⟨2, ![9216, 6144]⟩
abbrev S9216x3x2048 : Shape := ⟨3, ![9216, 3, 2048]⟩
abbrev S9216x1x2048 : Shape := ⟨3, ![9216, 1, 2048]⟩
abbrev S9216x2048 : Shape := ⟨2, ![9216, 2048]⟩
abbrev S1x1024x2048 : Shape := ⟨3, ![1, 1024, 2048]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S9216x6144, .bf16⟩
  | .hbm, ⟨7, _⟩ => ⟨S9216x6144, .f32⟩
  | .hbm, ⟨8, _⟩ => ⟨S9216x3x2048, .f32⟩
  | .hbm, ⟨9, _⟩ => ⟨S9216x1x2048, .f32⟩
  | .hbm, ⟨10, _⟩ => ⟨S9216x2048, .f32⟩
  | .hbm, ⟨11, _⟩ => ⟨S9216x1024, .f32⟩
  | .hbm, ⟨12, _⟩ => ⟨S1x1024x2048, .f32⟩
  | .hbm, ⟨13, _⟩ => ⟨S1024x2048, .f32⟩
  | .hbm, ⟨14, _⟩ => ⟨S9216x2048, .f32⟩
  | .hbm, ⟨15, _⟩ => ⟨S9216x2048, .f32⟩
  | .hbm, ⟨16, _⟩ => ⟨S9216x1x2048, .f32⟩
  | .hbm, ⟨17, _⟩ => ⟨S9216x2048, .f32⟩
  | .hbm, ⟨18, _⟩ => ⟨S9216x1024, .f32⟩
  | .hbm, ⟨19, _⟩ => ⟨S1x1024x2048, .f32⟩
  | .hbm, ⟨20, _⟩ => ⟨S1024x2048, .f32⟩
  | .hbm, ⟨21, _⟩ => ⟨S9216x2048, .f32⟩
  | .hbm, ⟨22, _⟩ => ⟨S9216x2048, .f32⟩
  | .hbm, ⟨23, _⟩ => ⟨S9216x2048, .f32⟩
  | .hbm, ⟨24, _⟩ => ⟨S9216x1x2048, .f32⟩
  | .hbm, ⟨25, _⟩ => ⟨S9216x2048, .f32⟩
  | .hbm, ⟨26, _⟩ => ⟨S9216x1024, .f32⟩
  | .hbm, ⟨27, _⟩ => ⟨S1x1024x2048, .f32⟩
  | .hbm, ⟨28, _⟩ => ⟨S1024x2048, .f32⟩
  | .hbm, ⟨29, _⟩ => ⟨S9216x2048, .f32⟩
  | .hbm, ⟨30, _⟩ => ⟨S9216x2048, .f32⟩
  | .hbm, ⟨31, _⟩ => ⟨S9216x2048, .f32⟩
  | .hbm, ⟨32, _⟩ => ⟨S9216x2048, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KernelQIn.lean ====
abbrev S9216x2048 : Shape := ⟨2, ![9216, 2048]⟩
abbrev S2x2048x15432 : Shape := ⟨3, ![2, 2048, 15432]⟩
abbrev S2048 : Shape := ⟨1, ![2048]⟩
abbrev S2x15432x2048 : Shape := ⟨3, ![2, 15432, 2048]⟩
abbrev S30864x2048 : Shape := ⟨2, ![30864, 2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 29
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S2048, .i32⟩
  | .hbm, ⟨3, _⟩ => ⟨S2x15432x2048, .f32⟩
  | .hbm, ⟨4, _⟩ => ⟨S30864x2048, .f32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x2048, .f32⟩
  | .hbm, ⟨24, _⟩ => ⟨S2048x2048, .i1⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQInIdeal.lean ====
abbrev S9216x2048 : Shape := ⟨2, ![9216, 2048]⟩
abbrev S2x2048x15432 : Shape := ⟨3, ![2, 2048, 15432]⟩
abbrev S1x2048x15432 : Shape := ⟨3, ![1, 2048, 15432]⟩
abbrev S2048x15432 : Shape := ⟨2, ![2048, 15432]⟩
abbrev S2048x1536 : Shape := ⟨2, ![2048, 1536]⟩
abbrev S9216x1536 : Shape := ⟨2, ![9216, 1536]⟩
abbrev S9216x8x192 : Shape := ⟨3, ![9216, 8, 192]⟩
abbrev S9216x8x128 : Shape := ⟨3, ![9216, 8, 128]⟩
abbrev S9216x8x64 : Shape := ⟨3, ![9216, 8, 64]⟩
abbrev S9216x8x32 : Shape := ⟨3, ![9216, 8, 32]⟩
abbrev S9216x1024 : Shape := ⟨2, ![9216, 1024]⟩

abbrev nBuf : Space → Nat
  | .hbm => 17
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S9216x2048, .f32⟩
  | .hbm, ⟨3, _⟩ => ⟨S1x2048x15432, .f32⟩
  | .hbm, ⟨4, _⟩ => ⟨S2048x15432, .f32⟩
  | .hbm, ⟨5, _⟩ => ⟨S2048x1536, .f32⟩
  | .hbm, ⟨6, _⟩ => ⟨S9216x1536, .f32⟩
  | .hbm, ⟨7, _⟩ => ⟨S9216x8x192, .f32⟩
  | .hbm, ⟨8, _⟩ => ⟨S9216x8x128, .f32⟩
  | .hbm, ⟨9, _⟩ => ⟨S9216x8x64, .f32⟩
  | .hbm, ⟨10, _⟩ => ⟨S9216x8x32, .f32⟩
  | .hbm, ⟨11, _⟩ => ⟨S9216x8x32, .f32⟩
  | .hbm, ⟨12, _⟩ => ⟨S9216x8x64, .f32⟩
  | .hbm, ⟨13, _⟩ => ⟨S9216x8x128, .f32⟩
  | .hbm, ⟨14, _⟩ => ⟨S9216x1024, .f32⟩
  | .hbm, ⟨15, _⟩ => ⟨S9216x1024, .f32⟩
  | .hbm, ⟨16, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== KernelKvIn.lean ====
abbrev S9216x2048 : Shape := ⟨2, ![9216, 2048]⟩
abbrev S2x2048x15432 : Shape := ⟨3, ![2, 2048, 15432]⟩
abbrev S384 : Shape := ⟨1, ![384]⟩
abbrev S2x15432x2048 : Shape := ⟨3, ![2, 15432, 2048]⟩
abbrev S30864x2048 : Shape := ⟨2, ![30864, 2048]⟩
abbrev S_ : Shape := ⟨0, ![]⟩
abbrev S384x1 : Shape := ⟨2, ![384, 1]⟩
abbrev S1 : Shape := ⟨1, ![1]⟩
abbrev S1x1 : Shape := ⟨2, ![1, 1]⟩
abbrev S384x2048 : Shape := ⟨2, ![384, 2048]⟩
abbrev S9216x384 : Shape := ⟨2, ![9216, 384]⟩
abbrev S1024x2048 : Shape := ⟨2, ![1024, 2048]⟩
abbrev S1024x384 : Shape := ⟨2, ![1024, 384]⟩

abbrev nBuf : Space → Nat
  | .hbm => 29
  | .vmem => 5
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S384, .i32⟩
  | .hbm, ⟨3, _⟩ => ⟨S2x15432x2048, .f32⟩
  | .hbm, ⟨4, _⟩ => ⟨S30864x2048, .f32⟩
  | .hbm, ⟨5, _⟩ => ⟨S_, .i32⟩
  | .hbm, ⟨6, _⟩ => ⟨S384, .i32⟩
  | .hbm, ⟨7, _⟩ => ⟨S384, .i1⟩
  | .hbm, ⟨8, _⟩ => ⟨S_, .i32⟩
  | .hbm, ⟨9, _⟩ => ⟨S384, .i32⟩
  | .hbm, ⟨10, _⟩ => ⟨S384, .i32⟩
  | .hbm, ⟨11, _⟩ => ⟨S384, .i32⟩
  | .hbm, ⟨12, _⟩ => ⟨S384x1, .i32⟩
  | .hbm, ⟨13, _⟩ => ⟨S1, .i32⟩
  | .hbm, ⟨14, _⟩ => ⟨S_, .i32⟩
  | .hbm, ⟨15, _⟩ => ⟨S384x1, .i32⟩
  | .hbm, ⟨16, _⟩ => ⟨S384x1, .i1⟩
  | .hbm, ⟨17, _⟩ => ⟨S1x1, .i32⟩
  | .hbm, ⟨18, _⟩ => ⟨S384x1, .i32⟩
  | .hbm, ⟨19, _⟩ => ⟨S384x1, .i1⟩
  | .hbm, ⟨20, _⟩ => ⟨S384x1, .i1⟩
  | .hbm, ⟨21, _⟩ => ⟨S_, .i1⟩
  | .hbm, ⟨22, _⟩ => ⟨S384, .i1⟩
  | .hbm, ⟨23, _⟩ => ⟨S384x2048, .f32⟩
  | .hbm, ⟨24, _⟩ => ⟨S384x2048, .i1⟩
  | .hbm, ⟨25, _⟩ => ⟨S_, .f32⟩
  | .hbm, ⟨26, _⟩ => ⟨S384x2048, .f32⟩
  | .hbm, ⟨27, _⟩ => ⟨S384x2048, .f32⟩
  | .hbm, ⟨28, _⟩ => ⟨S9216x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .f32⟩
  | .local _ .vmem, ⟨3, _⟩ => ⟨S1024x384, .f32⟩
  | .local _ .vmem, ⟨4, _⟩ => ⟨S1024x384, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvInIdeal.lean ====
abbrev S9216x2048 : Shape := ⟨2, ![9216, 2048]⟩
abbrev S2x2048x15432 : Shape := ⟨3, ![2, 2048, 15432]⟩
abbrev S1x2048x15432 : Shape := ⟨3, ![1, 2048, 15432]⟩
abbrev S2048x15432 : Shape := ⟨2, ![2048, 15432]⟩
abbrev S2048x320 : Shape := ⟨2, ![2048, 320]⟩
abbrev S9216x320 : Shape := ⟨2, ![9216, 320]⟩
abbrev S9216x256 : Shape := ⟨2, ![9216, 256]⟩
abbrev S9216x64 : Shape := ⟨2, ![9216, 64]⟩
abbrev S9216x32 : Shape := ⟨2, ![9216, 32]⟩
abbrev S9216x384 : Shape := ⟨2, ![9216, 384]⟩

abbrev nBuf : Space → Nat
  | .hbm => 12
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x15432, .f32⟩
  | .hbm, ⟨2, _⟩ => ⟨S9216x2048, .f32⟩
  | .hbm, ⟨3, _⟩ => ⟨S1x2048x15432, .f32⟩
  | .hbm, ⟨4, _⟩ => ⟨S2048x15432, .f32⟩
  | .hbm, ⟨5, _⟩ => ⟨S2048x320, .f32⟩
  | .hbm, ⟨6, _⟩ => ⟨S9216x320, .f32⟩
  | .hbm, ⟨7, _⟩ => ⟨S9216x256, .f32⟩
  | .hbm, ⟨8, _⟩ => ⟨S9216x64, .f32⟩
  | .hbm, ⟨9, _⟩ => ⟨S9216x32, .f32⟩
  | .hbm, ⟨10, _⟩ => ⟨S9216x32, .f32⟩
  | .hbm, ⟨11, _⟩ => ⟨S9216x384, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.Attn.Base.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 2).val) (BitVec.ofNat 32 (i 1).val))) 0#32) = 1#1
/-- It holds at the points whose coordinates have i2 ≤ i1 — decided over the grid. -/
theorem hcond0_1 : ∀ t : Fin cfg0.N, cond0_1 (grid0.coords t) ↔ t.val % 8 ≤ t.val / 8 % 8 :=
  (by decide +kernel : ∀ t : Fin grid0.N, cond0_1 (grid0.coords t) ↔ t.val % 8 ≤ t.val / 8 % 8)

/-- The condition of the body's `scf.if` 2 (`k0_h3`), from the grid coordinates (the skeleton's scalar
    chain substituted). -/
abbrev cond0_2 (i : grid0.Coords) : Prop := k0_cond3 i = 1#1
/-- It holds at the points whose coordinates have i1 = i2 — decided over the grid. -/
theorem hcond0_2 : ∀ t : Fin cfg0.N, cond0_2 (grid0.coords t) ↔ t.val / 8 % 8 = t.val % 8 :=
  (by decide +kernel : ∀ t : Fin grid0.N, cond0_2 (grid0.coords t) ↔ t.val / 8 % 8 = t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x512x128 .f32 := Memref.whole cc0_scratch0
abbrev scM0_1 : Memref sig .tc .vmem S8x512x128 .f32 := Memref.whole cc0_scratch1
abbrev scM0_2 : Memref sig .tc .vmem S8x512x256 .f32 := Memref.whole cc0_scratch2
/-- The scratch `arg9` the kernel carries between points, as a view: what it holds is stated through it. -/
abbrev VS0_0 : View sig .tc .vmem S8x512x128 .f32 := scM0_0.view
/-- The scratch `arg10` the kernel carries between points, as a view: what it holds is stated through it. -/
abbrev VS0_1 : View sig .tc .vmem S8x512x128 .f32 := scM0_1.view
/-- The scratch `arg11` the kernel carries between points, as a view: what it holds is stated through it. -/
abbrev VS0_2 : View sig .tc .vmem S8x512x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Attn

end
-- ==== Proof.Attn.RunA.lean ====
module

public import proofs.«01_k».proof.Proof.Attn.Base

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1200000 in
/-- The body at the first key block that is also the diagonal one: the carried statistics are reset, the block is attended to, the row block is finished. On whole buffers it runs to its end; the query, key and weight blocks stay as they were, and what it stores is the pieces the run finds. -/
noncomputable def runA (c : Dev nD) (i : grid0.Coords)
    (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : cond0_0 i) (hc1 : cond0_1 i) (hc2 : cond0_2 i)
    (x0 : Vec F S512x2048 .bf16) (x1 : Vec F S512x1024 .bf16) (x2 : Vec F S512x256 .bf16) (x3 : Vec F S512x128 .bf16) (x4 : Vec F S8x256x128 .bf16) :
    Σ' (L5 : List (View.Piece (Elt F) S512x1024 .bf16)), Σ' (LS0 : List (View.Piece (Elt F) S8x512x128 .f32)), Σ' (LS1 : List (View.Piece (Elt F) S8x512x128 .f32)), { LS2 : List (View.Piece (Elt F) S8x512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_attn_prompt_eq_skeleton]; unfold cc0_attn_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Attn

end
-- ==== Proof.Attn.RunB.lean ====
module

public import proofs.«01_k».proof.Proof.Attn.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1200000 in
/-- The body at a key block above the diagonal: nothing is done. On whole buffers it runs to its end; the query, key and weight blocks stay as they were, and so does everything else. -/
theorem runB (c : Dev nD) (i : grid0.Coords)
    (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : ¬cond0_0 i) (hc1 : ¬cond0_1 i) (hc2 : ¬cond0_2 i)
    (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (x5 : Vec F S512x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare x5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare x5 ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K := by
  intro E K
  · simp only [cc0_attn_prompt_eq_skeleton]; unfold cc0_attn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Attn

end
-- ==== Proof.Attn.RunC.lean ====
module

public import proofs.«01_k».proof.Proof.Attn.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1200000 in
/-- The body at the first key block, below the diagonal: the carried statistics are reset, the block is attended to. On whole buffers it runs to its end; the query, key and weight blocks stay as they were, and what it stores is the pieces the run finds; the output block is not touched. -/
noncomputable def runC (c : Dev nD) (i : grid0.Coords)
    (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : cond0_0 i) (hc1 : cond0_1 i) (hc2 : ¬cond0_2 i)
    (x0 : Vec F S512x2048 .bf16) (x1 : Vec F S512x1024 .bf16) (x2 : Vec F S512x256 .bf16) (x3 : Vec F S512x128 .bf16) (x4 : Vec F S8x256x128 .bf16) :
    Σ' (LS0 : List (View.Piece (Elt F) S8x512x128 .f32)), Σ' (LS1 : List (View.Piece (Elt F) S8x512x128 .f32)), { LS2 : List (View.Piece (Elt F) S8x512x256 .f32) //
      ∀ (x5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare x5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K } := by
  refine ⟨?_, ?_, ?_, fun x5 E K => ?run⟩
  case run =>
    simp only [cc0_attn_prompt_eq_skeleton]; unfold cc0_attn_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Attn

end
-- ==== Proof.Attn.RunD.lean ====
module

public import proofs.«01_k».proof.Proof.Attn.RunC

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1200000 in
/-- The body at the diagonal key block, not the first: it is attended to and the row block is finished. On whole buffers it runs to its end; the query, key and weight blocks stay as they were, and what it stores is the pieces the run finds. -/
noncomputable def runD (c : Dev nD) (i : grid0.Coords)
    (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : ¬cond0_0 i) (hc1 : cond0_1 i) (hc2 : cond0_2 i)
    (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    Σ' (L5 : List (View.Piece (Elt F) S512x1024 .bf16)), Σ' (LS0 : List (View.Piece (Elt F) S8x512x128 .f32)), Σ' (LS1 : List (View.Piece (Elt F) S8x512x128 .f32)), { LS2 : List (View.Piece (Elt F) S8x512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_attn_prompt_eq_skeleton]; unfold cc0_attn_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Attn

end
-- ==== Proof.Attn.RunE.lean ====
module

public import proofs.«01_k».proof.Proof.Attn.RunD

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1200000 in
/-- The body at a key block between the first and the diagonal: it is attended to. On whole buffers it runs to its end; the query, key and weight blocks stay as they were, and what it stores is the pieces the run finds; the output block is not touched. -/
noncomputable def runE (c : Dev nD) (i : grid0.Coords)
    (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : ¬cond0_0 i) (hc1 : cond0_1 i) (hc2 : ¬cond0_2 i)
    (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    Σ' (LS0 : List (View.Piece (Elt F) S8x512x128 .f32)), Σ' (LS1 : List (View.Piece (Elt F) S8x512x128 .f32)), { LS2 : List (View.Piece (Elt F) S8x512x256 .f32) //
      ∀ (x5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare x5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare x5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11) K } := by
  refine ⟨?_, ?_, ?_, fun x5 E K => ?run⟩
  case run =>
    simp only [cc0_attn_prompt_eq_skeleton]; unfold cc0_attn_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Attn

end
-- ==== Proof.Attn.Cover.lean ====
module

public import proofs.«01_k».proof.Proof.Attn.RunE

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Case A: the stores into the output block cover it (the eight heads tile it). -/
theorem coverA_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (y : S512x1024.Idx) :
    ∃ pc ∈ (runA c i arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (runA c i arg3 harg3 arg4 harg4 arg5 harg5 arg6 harg6 arg7 harg7 arg8 harg8 arg9 harg9 arg10 harg10 arg11 harg11 hc0 hc1 hc2 x0 x1 x2 x3 x4).1 S512x128.size (by sl_kernel_rfl) y

/-- Case A: the stores into the running maxima cover it (one store writes the whole buffer). -/
theorem coverA_1 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (y : S8x512x128.Idx) :
    ∃ pc ∈ (runA c i arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_wholeMem (runA c i arg3 harg3 arg4 harg4 arg5 harg5 arg6 harg6 arg7 harg7 arg8 harg8 arg9 harg9 arg10 harg10 arg11 harg11 hc0 hc1 hc2 x0 x1 x2 x3 x4).2.1 (by sl_whole_mem) y

/-- Case A: the stores into the running sums cover it (one store writes the whole buffer). -/
theorem coverA_2 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (y : S8x512x128.Idx) :
    ∃ pc ∈ (runA c i arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_wholeMem (runA c i arg3 harg3 arg4 harg4 arg5 harg5 arg6 harg6 arg7 harg7 arg8 harg8 arg9 harg9 arg10 harg10 arg11 harg11 hc0 hc1 hc2 x0 x1 x2 x3 x4).2.2.1 (by sl_whole_mem) y

/-- Case A: the stores into the running weighted sums cover it (one store writes the whole buffer). -/
theorem coverA_3 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (y : S8x512x256.Idx) :
    ∃ pc ∈ (runA c i arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_wholeMem (runA c i arg3 harg3 arg4 harg4 arg5 harg5 arg6 harg6 arg7 harg7 arg8 harg8 arg9 harg9 arg10 harg10 arg11 harg11 hc0 hc1 hc2 x0 x1 x2 x3 x4).2.2.2.1 (by sl_whole_mem) y

/-- Case C: the stores into the running maxima cover it (one store writes the whole buffer). -/
theorem coverC_1 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (y : S8x512x128.Idx) :
    ∃ pc ∈ (runC c i arg3 harg3 arg4 harg4 arg5 harg5 arg6 harg6 arg7 harg7 arg8 harg8 arg9 harg9 arg10 harg10 arg11 harg11 hc0 hc1 hc2 x0 x1 x2 x3 x4).1, y ∈ pc.1.set :=
  View.cover_of_wholeMem (runC c i arg3 harg3 arg4 harg4 arg5 harg5 arg6 harg6 arg7 harg7 arg8 harg8 arg9 harg9 arg10 harg10 arg11 harg11 hc0 hc1 hc2 x0 x1 x2 x3 x4).1 (by sl_whole_mem) y

/-- Case C: the stores into the running sums cover it (one store writes the whole buffer). -/
theorem coverC_2 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (y : S8x512x128.Idx) :
    ∃ pc ∈ (runC c i arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_wholeMem (runC c i arg3 harg3 arg4 harg4 arg5 harg5 arg6 harg6 arg7 harg7 arg8 harg8 arg9 harg9 arg10 harg10 arg11 harg11 hc0 hc1 hc2 x0 x1 x2 x3 x4).2.1 (by sl_whole_mem) y

/-- Case C: the stores into the running weighted sums cover it (one store writes the whole buffer). -/
theorem coverC_3 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (y : S8x512x256.Idx) :
    ∃ pc ∈ (runC c i arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_wholeMem (runC c i arg3 harg3 arg4 harg4 arg5 harg5 arg6 harg6 arg7 harg7 arg8 harg8 arg9 harg9 arg10 harg10 arg11 harg11 hc0 hc1 hc2 x0 x1 x2 x3 x4).2.2.1 (by sl_whole_mem) y

/-- Case D: the stores into the output block cover it (the eight heads tile it). -/
theorem coverD_0 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S512x1024.Idx) :
    ∃ pc ∈ (runD c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (runD c i arg3 harg3 arg4 harg4 arg5 harg5 arg6 harg6 arg7 harg7 arg8 harg8 arg9 harg9 arg10 harg10 arg11 harg11 hc0 hc1 hc2 x0 x1 x2 x3 x4 xs0 xs1 xs2).1 S512x128.size (by sl_kernel_rfl) y

/-- Case D: the stores into the running maxima cover it (the eight heads tile it). -/
theorem coverD_1 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S8x512x128.Idx) :
    ∃ pc ∈ (runD c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (runD c i arg3 harg3 arg4 harg4 arg5 harg5 arg6 harg6 arg7 harg7 arg8 harg8 arg9 harg9 arg10 harg10 arg11 harg11 hc0 hc1 hc2 x0 x1 x2 x3 x4 xs0 xs1 xs2).2.1 S1x512x128.size (by sl_kernel_rfl) y

/-- Case D: the stores into the running sums cover it (the eight heads tile it). -/
theorem coverD_2 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S8x512x128.Idx) :
    ∃ pc ∈ (runD c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (runD c i arg3 harg3 arg4 harg4 arg5 harg5 arg6 harg6 arg7 harg7 arg8 harg8 arg9 harg9 arg10 harg10 arg11 harg11 hc0 hc1 hc2 x0 x1 x2 x3 x4 xs0 xs1 xs2).2.2.1 S1x512x128.size (by sl_kernel_rfl) y

/-- Case D: the stores into the running weighted sums cover it (the eight heads tile it). -/
theorem coverD_3 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S8x512x256.Idx) :
    ∃ pc ∈ (runD c i arg3 harg3 arg4 harg4 arg5 harg5 arg6 harg6 arg7 harg7 arg8 harg8 arg9 harg9 arg10 harg10 arg11 harg11 hc0 hc1 hc2 x0 x1 x2 x3 x4 xs0 xs1 xs2).2.2.2.1, y ∈ pc.1.set :=
  View.cover_of_tiledL (runD c i arg3 harg3 arg4 harg4 arg5 harg5 arg6 harg6 arg7 harg7 arg8 harg8 arg9 harg9 arg10 harg10 arg11 harg11 hc0 hc1 hc2 x0 x1 x2 x3 x4 xs0 xs1 xs2).2.2.2.1 S1x512x256.size (by sl_kernel_rfl) y

/-- Case E: the stores into the running maxima cover it (the eight heads tile it). -/
theorem coverE_1 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S8x512x128.Idx) :
    ∃ pc ∈ (runE c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (runE c i arg3 harg3 arg4 harg4 arg5 harg5 arg6 harg6 arg7 harg7 arg8 harg8 arg9 harg9 arg10 harg10 arg11 harg11 hc0 hc1 hc2 x0 x1 x2 x3 x4 xs0 xs1 xs2).1 S1x512x128.size (by sl_kernel_rfl) y

/-- Case E: the stores into the running sums cover it (the eight heads tile it). -/
theorem coverE_2 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S8x512x128.Idx) :
    ∃ pc ∈ (runE c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (runE c i arg3 harg3 arg4 harg4 arg5 harg5 arg6 harg6 arg7 harg7 arg8 harg8 arg9 harg9 arg10 harg10 arg11 harg11 hc0 hc1 hc2 x0 x1 x2 x3 x4 xs0 xs1 xs2).2.1 S1x512x128.size (by sl_kernel_rfl) y

/-- Case E: the stores into the running weighted sums cover it (the eight heads tile it). -/
theorem coverE_3 (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S8x256x128 .bf16) (harg7 : arg7.IsWhole) (arg8 : Memref sig .tc .vmem S512x1024 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) (y : S8x512x256.Idx) :
    ∃ pc ∈ (runE c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (runE c i arg3 harg3 arg4 harg4 arg5 harg5 arg6 harg6 arg7 harg7 arg8 harg8 arg9 harg9 arg10 harg10 arg11 harg11 hc0 hc1 hc2 x0 x1 x2 x3 x4 xs0 xs1 xs2).2.2.1 S1x512x256.size (by sl_kernel_rfl) y

end Cert.KernelIdeal.Attn

end
-- ==== Proof.Attn.State.lean ====
module

public import proofs.«01_k».proof.Proof.Attn.Cover

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the region carries from point to point: the heads' running maxima, their running sums, their running
    weighted sums of latent rows, and the output block that the diagonal point of the row block has finished. -/
abbrev St (F : FTy → Type) : Type :=
  Vec F S8x512x128 .f32 × Vec F S8x512x128 .f32 × Vec F S8x512x256 .f32 × Vec F S512x1024 .bf16

/-- Case A's run at point `t`, on the point's blocks. -/
abbrev atA (c : Dev nD) (t : Fin cfg0.N) (h0 : t.val % 8 = 0) (h1 : t.val % 8 ≤ t.val / 8 % 8) (h2 : t.val / 8 % 8 = t.val % 8) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t) (iblk m c 4 t)

/-- The carried state after case A. -/
def stA (c : Dev nD) (t : Fin cfg0.N) (h0 : t.val % 8 = 0) (h1 : t.val % 8 ≤ t.val / 8 % 8) (h2 : t.val / 8 % 8 = t.val % 8) : St F :=
  (View.canon (atA m c t h0 h1 h2).2.1, View.canon (atA m c t h0 h1 h2).2.2.1, View.canon (atA m c t h0 h1 h2).2.2.2.1, View.canon (atA m c t h0 h1 h2).1)

/-- Case C's run at point `t`, on the point's blocks and the carried state `p`. -/
abbrev atC (c : Dev nD) (t : Fin cfg0.N) (h0 : t.val % 8 = 0) (h1 : t.val % 8 ≤ t.val / 8 % 8) (h2 : ¬t.val / 8 % 8 = t.val % 8) (p : St F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)

/-- The carried state after case C. -/
def stC (c : Dev nD) (t : Fin cfg0.N) (h0 : t.val % 8 = 0) (h1 : t.val % 8 ≤ t.val / 8 % 8) (h2 : ¬t.val / 8 % 8 = t.val % 8) (p : St F) : St F :=
  (View.canon (atC m c t h0 h1 h2 p).1, View.canon (atC m c t h0 h1 h2 p).2.1, View.canon (atC m c t h0 h1 h2 p).2.2.1, p.2.2.2)

/-- Case D's run at point `t`, on the point's blocks and the carried state `p`. -/
abbrev atD (c : Dev nD) (t : Fin cfg0.N) (h0 : ¬t.val % 8 = 0) (h1 : t.val % 8 ≤ t.val / 8 % 8) (h2 : t.val / 8 % 8 = t.val % 8) (p : St F) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) p.1 p.2.1 p.2.2.1

/-- The carried state after case D. -/
def stD (c : Dev nD) (t : Fin cfg0.N) (h0 : ¬t.val % 8 = 0) (h1 : t.val % 8 ≤ t.val / 8 % 8) (h2 : t.val / 8 % 8 = t.val % 8) (p : St F) : St F :=
  (View.canon (atD m c t h0 h1 h2 p).2.1, View.canon (atD m c t h0 h1 h2 p).2.2.1, View.canon (atD m c t h0 h1 h2 p).2.2.2.1, View.canon (atD m c t h0 h1 h2 p).1)

/-- Case E's run at point `t`, on the point's blocks and the carried state `p`. -/
abbrev atE (c : Dev nD) (t : Fin cfg0.N) (h0 : ¬t.val % 8 = 0) (h1 : t.val % 8 ≤ t.val / 8 % 8) (h2 : ¬t.val / 8 % 8 = t.val % 8) (p : St F) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.1 p.2.1 p.2.2.1

/-- The carried state after case E. -/
def stE (c : Dev nD) (t : Fin cfg0.N) (h0 : ¬t.val % 8 = 0) (h1 : t.val % 8 ≤ t.val / 8 % 8) (h2 : ¬t.val / 8 % 8 = t.val % 8) (p : St F) : St F :=
  (View.canon (atE m c t h0 h1 h2 p).1, View.canon (atE m c t h0 h1 h2 p).2.1, View.canon (atE m c t h0 h1 h2 p).2.2.1, p.2.2.2)

/-- The carried state after point `n`. -/
def stAt (c : Dev nD) : (n : ℕ) → n < cfg0.N → St F
  | 0, hn => stA m c ⟨0, hn⟩ (Nat.zero_mod 8) (Nat.zero_le _) (by decide : 0 / 8 % 8 = 0 % 8)
  | n + 1, hn =>
    if h0 : (n + 1) % 8 = 0 then
      if h2 : (n + 1) / 8 % 8 = (n + 1) % 8 then stA m c ⟨n + 1, hn⟩ h0 (le_of_eq_of_le h0 (Nat.zero_le _)) h2
      else stC m c ⟨n + 1, hn⟩ h0 (le_of_eq_of_le h0 (Nat.zero_le _)) h2 (stAt c n (Nat.lt_of_succ_lt hn))
    else if h1 : (n + 1) % 8 ≤ (n + 1) / 8 % 8 then
      if h2 : (n + 1) / 8 % 8 = (n + 1) % 8 then stD m c ⟨n + 1, hn⟩ h0 h1 h2 (stAt c n (Nat.lt_of_succ_lt hn))
      else stE m c ⟨n + 1, hn⟩ h0 h1 h2 (stAt c n (Nat.lt_of_succ_lt hn))
    else stAt c n (Nat.lt_of_succ_lt hn)

/-- The carried state before point `t`, a point that is not the first. -/
abbrev stBefore (c : Dev nD) (t : Fin cfg0.N) : St F := stAt m c (t.val - 1) (Nat.lt_of_le_of_lt (Nat.sub_le _ _) t.isLt)

/-- The carried state after a point of case A. -/
theorem stAt_A (c : Dev nD) (t : Fin cfg0.N) (h0 : t.val % 8 = 0) (h1 : t.val % 8 ≤ t.val / 8 % 8) (h2 : t.val / 8 % 8 = t.val % 8) : stAt m c t.val t.isLt = stA m c t h0 h1 h2 := by
  obtain ⟨n, hn⟩ := t
  cases n with
  | zero => rfl
  | succ n => exact (dif_pos h0).trans ((dif_pos h2).trans rfl)

/-- The carried state after a point of case C. -/
theorem stAt_C (c : Dev nD) (t : Fin cfg0.N) (h0 : t.val % 8 = 0) (h1 : t.val % 8 ≤ t.val / 8 % 8) (h2 : ¬t.val / 8 % 8 = t.val % 8) : stAt m c t.val t.isLt = stC m c t h0 h1 h2 (stBefore m c t) := by
  obtain ⟨n, hn⟩ := t
  cases n with
  | zero => exact absurd (by decide : 0 / 8 % 8 = 0 % 8) h2
  | succ n => exact (dif_pos h0).trans ((dif_neg h2).trans rfl)

/-- The carried state after a point of case D. -/
theorem stAt_D (c : Dev nD) (t : Fin cfg0.N) (h0 : ¬t.val % 8 = 0) (h1 : t.val % 8 ≤ t.val / 8 % 8) (h2 : t.val / 8 % 8 = t.val % 8) : stAt m c t.val t.isLt = stD m c t h0 h1 h2 (stBefore m c t) := by
  obtain ⟨n, hn⟩ := t
  cases n with
  | zero => exact absurd (Nat.zero_mod _) h0
  | succ n => exact (dif_neg h0).trans ((dif_pos h1).trans ((dif_pos h2).trans rfl))

/-- The carried state after a point of case E. -/
theorem stAt_E (c : Dev nD) (t : Fin cfg0.N) (h0 : ¬t.val % 8 = 0) (h1 : t.val % 8 ≤ t.val / 8 % 8) (h2 : ¬t.val / 8 % 8 = t.val % 8) : stAt m c t.val t.isLt = stE m c t h0 h1 h2 (stBefore m c t) := by
  obtain ⟨n, hn⟩ := t
  cases n with
  | zero => exact absurd (Nat.zero_mod _) h0
  | succ n => exact (dif_neg h0).trans ((dif_pos h1).trans ((dif_neg h2).trans rfl))

/-- The carried state after a point of case B. -/
theorem stAt_B (c : Dev nD) (t : Fin cfg0.N) (h0 : ¬t.val % 8 = 0) (h1 : ¬t.val % 8 ≤ t.val / 8 % 8) (h2 : ¬t.val / 8 % 8 = t.val % 8) : stAt m c t.val t.isLt = stBefore m c t := by
  obtain ⟨n, hn⟩ := t
  cases n with
  | zero => exact absurd (Nat.zero_mod _) h0
  | succ n => exact (dif_neg h0).trans ((dif_neg h1).trans rfl)

end Cert.KernelIdeal.Attn

end
-- ==== Proof.Attn.Data.lean ====
module

public import proofs.«01_k».proof.Proof.Attn.State
public import Idealize.ShloMosaic.Lib.Pipeline.TableIdle

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before point `n`: at first every scratch buffer at anything; afterwards the three running
    statistics at what the point before left in them. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2.1)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2.1)) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)).1) ∗ owns (c : Thread nD τ) scM0_1 fullShare ((stAt m c (n - 1) (by omega)).2.1) ∗ owns (c : Thread nD τ) scM0_2 fullShare ((stAt m c (n - 1) (by omega)).2.2.1)) ∗ (∃ r, prngReg c r)) := by
  cases n with
  | zero => exact absurd rfl hz
  | succ n => rfl

/-- The proof data of the pipeline: the arrays as the region finds them; each input's buffer left at its block, the output
    window's buffer at the block last finished. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- The output window's buffer after point `t`: the block last finished. -/
theorem after0_5 (c : Dev nD) (t : Fin cfg0.N) : (dats m 0 c).after 5 t = (stAt m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output window is idle exactly off the diagonal. -/
theorem idle0_5 (t : Fin cfg0.N) : cfg0.idle 5 (grid0.coords t) = true ↔ ¬t.val / 8 % 8 = t.val % 8 := by
  rw [← hcond0_2 t]
  show (!(k0_cond3 (grid0.coords t) == 1#1)) = true ↔ _
  rw [Bool.not_eq_true', beq_eq_false_iff_ne]

/-- The output window's buffer holds nothing of the row block's before point `n` exactly up to the diagonal. -/
theorem fresh0_5 (n : ℕ) (hn : n ≤ cfg0.N) : cfg0.fresh 5 n = decide (n % 8 ≤ n / 8 % 8) :=
  Pipeline.Cfg.fresh_tab cfg0 5 (fun n => decide (n % 8 ≤ n / 8 % 8)) rfl (fun t => by
    have ht : t.val < 128 := Nat.lt_of_lt_of_eq t.isLt N_0
    have hf := flush0_5 t
    have hi := idle0_5 t
    have key : ∀ t : Fin 128, (t.val + 1) % 8 ≤ (t.val + 1) / 8 % 8 ↔ t.val % 8 = 7 ∨ ¬t.val / 8 % 8 = t.val % 8 ∧ t.val % 8 ≤ t.val / 8 % 8 := by decide
    rw [Bool.eq_iff_iff, decide_eq_true_iff, Bool.or_eq_true, Bool.and_eq_true, decide_eq_true_iff, hf, hi]
    exact key ⟨t.val, ht⟩) n hn

/-- Off the diagonal the carried output block stays. -/
theorem after0_5_idle (c : Dev nD) (t : Fin cfg0.N) (hz : t.val ≠ 0) (hi : cfg0.idle 5 (grid0.coords t) = true) :
    (dats m 0 c).after 5 t = (dats m 0 c).after 5 ⟨t.val - 1, by omega⟩ := by
  have h2 := (idle0_5 t).mp hi
  rw [after0_5, after0_5]
  by_cases h0 : t.val % 8 = 0
  · rw [stAt_C m c t h0 (by omega) h2]; unfold stC; dsimp only
  · by_cases h1 : t.val % 8 ≤ t.val / 8 % 8
    · rw [stAt_E m c t h0 h1 h2]; unfold stE; dsimp only
    · rw [stAt_B m c t h0 h1 h2]

/-- What the body finds in the output window's buffer: anything before the diagonal, the finished block after it. -/
theorem before0_5 (c : Dev nD) (t : Fin cfg0.N) (h1 : ¬t.val % 8 ≤ t.val / 8 % 8) (d) :
    (dats m 0 c).before 5 t d = (dats m 0 c).after 5 t := by
  have hz : t.val ≠ 0 := fun h => h1 (by rw [h])
  rw [(dats m 0 c).before_out_traj 5 rfl (fun _ _ => rfl) (fun t hz hi _ => after0_5_idle m c t hz hi) t.val t rfl d,
    fresh0_5 t.val (Nat.le_of_lt t.isLt), decide_eq_false h1, if_neg Bool.false_ne_true]
  exact (after0_5_idle m c t hz ((idle0_5 t).mpr (by omega))).symm

end Cert.KernelIdeal.Attn

end
-- ==== Proof.Attn.Body.lean ====
module

public import proofs.«01_k».proof.Proof.Attn.Data

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
/-- On the diagonal the output window's buffer is left at the finished block. -/
theorem leaves0_5_diag (c : Dev nD) (t : Fin cfg0.N) (h2 : t.val / 8 % 8 = t.val % 8) :
    (dats m 0 c).leavesExact 5 t = owns (c : Thread nD τ) (ms0_5 t) fullShare (stAt m c t.val t.isLt).2.2.2 := by
  have hi : cfg0.idle 5 (grid0.coords t) = false := eq_false_of_ne_true fun h => (idle0_5 t).mp h h2
  unfold Dat.leavesExact; rw [hi, after0_5]
/-- Off the diagonal, not the row block's last point: as it was found. -/
theorem leaves0_5_idle (c : Dev nD) (t : Fin cfg0.N) (h2 : ¬t.val / 8 % 8 = t.val % 8) (h7 : ¬t.val % 8 = 7) :
    (dats m 0 c).leavesExact 5 t = iprop(∃ d, owns (c : Thread nD τ) (ms0_5 t) fullShare ((dats m 0 c).before 5 t d)) :=
  (dats m 0 c).leavesExact_idle 5 t ((idle0_5 t).mpr h2) (eq_false_of_ne_true fun h => h7 ((flush0_5 t).mp h))
/-- At the row block's last point the buffer is written back: it is at the finished block. -/
theorem leaves0_5_last (c : Dev nD) (t : Fin cfg0.N) (h2 : ¬t.val / 8 % 8 = t.val % 8) (h7 : t.val % 8 = 7) :
    (dats m 0 c).leavesExact 5 t = owns (c : Thread nD τ) (ms0_5 t) fullShare ((dats m 0 c).after 5 t) := by
  unfold Dat.leavesExact; rw [(idle0_5 t).mpr h2, (flush0_5 t).mpr h7]

set_option maxHeartbeats 4000000 in
/-- The body at a point where the first key block is the diagonal one. -/
theorem bodyA (c : Dev nD) (t : Fin cfg0.N) (h0 : t.val % 8 = 0) (h1 : t.val % 8 ≤ t.val / 8 % 8) (h2 : t.val / 8 % 8 = t.val % 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_5_diag m c t h2]
  rw [stAt_A m c t h0 h1 h2]
  unfold stA; dsimp only
  by_cases hz : t.val = 0
  · rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_eq_canon _ _ _ (coverA_1 c _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverA_2 c _ _ _ _ _ _ _ _ _ _ _ _ _ _ _ _ _ _ _ _ _ _ _ _ _ _ _)
        unfold owns; iexists _; isplitr
        swap; · iexact HS2
        ipureintro; exact View.read_writes_eq_canon _ _ _ (coverA_3 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (coverA_0 c _ _ _ _ _ _ _ _ _ _ _ _ _ _ _ _ _ _ _ _ _ _ _ _ _ _ _)
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    isplitl [HS2]; · iexists _; iexact HS2
    iintro ⟨H0, H1, H2, H3, H4, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_eq_canon _ _ _ (coverA_1 c _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverA_2 c _ _ _ _ _ _ _ _ _ _ _ _ _ _ _ _ _ _ _ _ _ _ _ _ _ _ _)
        unfold owns; iexists _; isplitr
        swap; · iexact HS2
        ipureintro; exact View.read_writes_eq_canon _ _ _ (coverA_3 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (coverA_0 c _ _ _ _ _ _ _ _ _ _ _ _ _ _ _ _ _ _ _ _ _ _ _ _ _ _ _)

set_option maxHeartbeats 4000000 in
/-- The body at a point where the key block lies above the diagonal. -/
theorem bodyB (c : Dev nD) (t : Fin cfg0.N) (h0 : ¬t.val % 8 = 0) (h1 : ¬t.val % 8 ≤ t.val / 8 % 8) (h2 : ¬t.val / 8 % 8 = t.val % 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have hz : t.val ≠ 0 := fun h => h0 (by rw [h])
  rw [stAt_B m c t h0 h1 h2]
  by_cases h7 : t.val % 8 = 7
  · rw [leaves0_5_last m c t h2 h7]
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    rw [before0_5 m c t h1 d5]
    iexact H5
  · rw [leaves0_5_idle m c t h2 h7]
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5

set_option maxHeartbeats 4000000 in
/-- The body at a point where the first key block, below the diagonal. -/
theorem bodyC (c : Dev nD) (t : Fin cfg0.N) (h0 : t.val % 8 = 0) (h1 : t.val % 8 ≤ t.val / 8 % 8) (h2 : ¬t.val / 8 % 8 = t.val % 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_5_idle m c t h2 (by omega)]
  rw [stAt_C m c t h0 h1 h2]
  unfold stC; dsimp only
  have hz : t.val ≠ 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((runC c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_eq_canon _ _ _ (coverC_1 c _ _ _ _ _ _ _ _ _ _ _ _ _ _ _ _ _ _ _ _ _ _ _ _ _ _ _)
      isplitl [HS1]
      · unfold owns; iexists _; isplitr
        swap; · iexact HS1
        ipureintro; exact View.read_writes_eq_canon _ _ _ (coverC_2 c _ _ _ _ _ _ _ _ _ _ _ _ _ _ _ _ _ _ _ _ _ _ _ _ _ _ _)
      unfold owns; iexists _; isplitr
      swap; · iexact HS2
      ipureintro; exact View.read_writes_eq_canon _ _ _ (coverC_3 c _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 4000000 in
/-- The body at a point where the diagonal key block, not the first. -/
theorem bodyD (c : Dev nD) (t : Fin cfg0.N) (h0 : ¬t.val % 8 = 0) (h1 : t.val % 8 ≤ t.val / 8 % 8) (h2 : t.val / 8 % 8 = t.val % 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_5_diag m c t h2]
  rw [stAt_D m c t h0 h1 h2]
  unfold stD; dsimp only
  have hz : t.val ≠ 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((runD c (grid0.coords t) _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (stBefore m c t).1 (stBefore m c t).2.1 (stBefore m c t).2.2.1).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_eq_canon _ _ _ (coverD_1 c _ _ _ _ _ _ _ _ _ _ _ _ _ _ _ _ _ _ _ _ _ _ _ _ _ _ _ _ _ _)
      isplitl [HS1]
      · unfold owns; iexists _; isplitr
        swap; · iexact HS1
        ipureintro; exact View.read_writes_eq_canon _ _ _ (coverD_2 c _ _ _ _ _ _ _ _ _ _ _ _ _ _ _ _ _ _ _ _ _ _ _ _ _ _ _ _ _ _)
      unfold owns; iexists _; isplitr
      swap; · iexact HS2
      ipureintro; exact View.read_writes_eq_canon _ _ _ (coverD_3 c _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (coverD_0 c _ _ _ _ _ _ _ _ _ _ _ _ _ _ _ _ _ _ _ _ _ _ _ _ _ _ _ _ _ _)

set_option maxHeartbeats 4000000 in
/-- The body at a point where a key block between the first and the diagonal one. -/
theorem bodyE (c : Dev nD) (t : Fin cfg0.N) (h0 : ¬t.val % 8 = 0) (h1 : t.val % 8 ≤ t.val / 8 % 8) (h2 : ¬t.val / 8 % 8 = t.val % 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_5_idle m c t h2 (by omega)]
  rw [stAt_E m c t h0 h1 h2]
  unfold stE; dsimp only
  have hz : t.val ≠ 0 := by omega
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((runE c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (stBefore m c t).1 (stBefore m c t).2.1 (stBefore m c t).2.2.1).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_eq_canon _ _ _ (coverE_1 c _ _ _ _ _ _ _ _ _ _ _ _ _ _ _ _ _ _ _ _ _ _ _ _ _ _ _ _ _ _)
      isplitl [HS1]
      · unfold owns; iexists _; isplitr
        swap; · iexact HS1
        ipureintro; exact View.read_writes_eq_canon _ _ _ (coverE_2 c _ _ _ _ _ _ _ _ _ _ _ _ _ _ _ _ _ _ _ _ _ _ _ _ _ _ _ _ _ _)
      unfold owns; iexists _; isplitr
      swap; · iexact HS2
      ipureintro; exact View.read_writes_eq_canon _ _ _ (coverE_3 c _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists d5; iexact H5

end Cert.KernelIdeal.Attn

end
-- ==== Proof.Attn.Frame.lean ====
module

public import proofs.«01_k».proof.Proof.Attn.Body
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h2 : t.val / 8 % 8 = t.val % 8
  · by_cases h0 : t.val % 8 = 0
    · exact bodyA m c t h0 (le_of_eq h2.symm) h2
    · exact bodyD m c t h0 (le_of_eq h2.symm) h2
  · by_cases h0 : t.val % 8 = 0
    · exact bodyC m c t h0 (le_of_eq_of_le h0 (Nat.zero_le _)) h2
    · by_cases h1 : t.val % 8 ≤ t.val / 8 % 8
      · exact bodyE m c t h0 h1 h2
      · exact bodyB m c t h0 h1 h2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 128 from N_0]; decide), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every run ends with each array of the pipeline at what the write-backs left in it, everything else as the region found
    it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Attn.Step.lean ====
module

public import proofs.«01_k».proof.Proof.Attn.Base
public import Idealize.ShloMosaic.Lib.ValueIdx

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-! ## One head of one grid point, from what it loads -/

/-- The scores of a head's query block against a key block, `-∞` where the mask hides the key. -/
def headS (msk : IVec S512x512 1) (k : Vec F S512x256 .bf16) (kp : Vec F S512x128 .bf16) (q : Vec F S512x256 .bf16) (qp : Vec F S512x128 .bf16) :
    FVec F S512x512 .f32 :=
  select msk
    (addf (matmul dot_S512x256_S512x256_S512x512_1_1_0_0_n_n none q k (constant S512x512 .f32 0x00000000#32))
      (matmul dot_S512x128_S512x128_S512x512_1_1_0_0_n_n none qp kp (constant S512x512 .f32 0x00000000#32)))
    (broadcast S512x512 (Scalar.ofBits .f32 0xFF800000#32))

/-- The new running maxima, each in every lane of its row. -/
def headMax (s : FVec F S512x512 .f32) (mp : Vec F S1x512x128 .f32) : FVec F S512x128 .f32 :=
  maximumf (shapeCast S512x128 mp shapeCasts_S1x512x128_S512x128)
    (broadcastTo S512x128 (shapeCast S512x1 (multiReduction .maximumf [1] S512 s 0xFF800000#32 reduces_S512x512_S512 (.inl rfl) rfl) shapeCasts_S512_S512x1) broadcasts_S512x1_S512x128)

/-- The factor by which the earlier statistics shrink. -/
def headDecay (s : FVec F S512x512 .f32) (mp : Vec F S1x512x128 .f32) : FVec F S512x128 .f32 :=
  exp (subf (shapeCast S512x128 mp shapeCasts_S1x512x128_S512x128) (headMax s mp))

/-- The unnormalised weights of the block's keys. -/
def headW (s : FVec F S512x512 .f32) (mp : Vec F S1x512x128 .f32) : FVec F S512x512 .f32 :=
  exp (subf s (broadcastTo S512x512 (extractStridedSlice S512x1 ![0, 0] (headMax s mp) slices_S512x128_o0_0_S512x1) broadcasts_S512x1_S512x512))

/-- The new maxima, as the slab that is stored. -/
def headM (s : FVec F S512x512 .f32) (mp : Vec F S1x512x128 .f32) : Vec F S1x512x128 .f32 :=
  shapeCast S1x512x128 (headMax s mp) shapeCasts_S512x128_S1x512x128

/-- The new sums, as the slab that is stored. -/
def headL (s : FVec F S512x512 .f32) (mp lp : Vec F S1x512x128 .f32) : Vec F S1x512x128 .f32 :=
  shapeCast S1x512x128
    (addf (mulf (headDecay s mp) (shapeCast S512x128 lp shapeCasts_S1x512x128_S512x128))
      (broadcastTo S512x128 (shapeCast S512x1 (multiReduction .add [1] S512 (headW s mp) 0x00000000#32 reduces_S512x512_S512 (.inl rfl) rfl) shapeCasts_S512_S512x1) broadcasts_S512x1_S512x128))
    shapeCasts_S512x128_S1x512x128

/-- The new weighted sums of latent rows, as the slab that is stored. -/
def headA (k : Vec F S512x256 .bf16) (s : FVec F S512x512 .f32) (mp : Vec F S1x512x128 .f32) (ap : Vec F S1x512x256 .f32) : Vec F S1x512x256 .f32 :=
  shapeCast S1x512x256
    (addf (mulf (shapeCast S512x256 ap shapeCasts_S1x512x256_S512x256)
        (broadcastTo S512x256 (extractStridedSlice S512x1 ![0, 0] (headDecay s mp) slices_S512x128_o0_0_S512x1) broadcasts_S512x1_S512x256))
      (matmul dot_S512x512_S512x256_S512x256_1_0_0_1_n_n none (truncf .bf16 (headW s mp) bitsLt_bf16_f32) k (constant S512x256 .f32 0x00000000#32)))
    shapeCasts_S512x256_S1x512x256

/-- A head's finished output columns. -/
def headO (ap : Vec F S1x512x256 .f32) (lp : Vec F S1x512x128 .f32) (w : Vec F S1x256x128 .bf16) : Vec F S512x128 .bf16 :=
  truncf .bf16
    (matmul dot_S512x256_S256x128_S512x128_1_0_0_1_n_n none
      (truncf .bf16 (divf (shapeCast S512x256 ap shapeCasts_S1x512x256_S512x256)
        (broadcastTo S512x256 (extractStridedSlice S512x1 ![0, 0] (shapeCast S512x128 lp shapeCasts_S1x512x128_S512x128) slices_S512x128_o0_0_S512x1) broadcasts_S512x1_S512x256)) bitsLt_bf16_f32)
      (shapeCast S256x128 w shapeCasts_S1x256x128_S256x128) (constant S512x128 .f32 0x00000000#32)) bitsLt_bf16_f32

/-! ## The rectangles of a head -/

/-- Column `j` of head `h` in an output block. -/
abbrev outCol (h : Fin 8) (j : Fin 128) : Fin 1024 := ⟨h.val * 128 + j.val, by omega⟩

/-- Head `h`'s slab of a buffer of statistics. -/
abbrev slabM (h : Fin 8) : Rect S8x512x128 :=
  Rect.unit ![h.val, 0, 0] ![1, 512, 128] (by intro a; fin_cases a <;> simp <;> omega)
/-- Head `h`'s slab of the buffer of weighted sums. -/
abbrev slabA (h : Fin 8) : Rect S8x512x256 :=
  Rect.unit ![h.val, 0, 0] ![1, 512, 256] (by intro a; fin_cases a <;> simp <;> omega)
/-- Head `h`'s slab of the weights. -/
abbrev slabW (h : Fin 8) : Rect S8x256x128 :=
  Rect.unit ![h.val, 0, 0] ![1, 256, 128] (by intro a; fin_cases a <;> simp <;> omega)
/-- Head `h`'s columns of the latent queries. -/
abbrev colsQ (h : Fin 8) : Rect S512x2048 :=
  Rect.unit ![0, h.val * 256] ![512, 256] (by intro a; fin_cases a <;> simp <;> omega)
/-- Head `h`'s columns of the rotary queries, and of the output block. -/
abbrev colsP (h : Fin 8) : Rect S512x1024 :=
  Rect.unit ![0, h.val * 128] ![512, 128] (by intro a; fin_cases a <;> simp <;> omega)
/-- The whole key block, and the whole rotary key block. -/
abbrev wholeK : Rect S512x256 := Rect.unit ![0, 0] ![512, 256] (by intro a; fin_cases a <;> simp)
abbrev wholeP : Rect S512x128 := Rect.unit ![0, 0] ![512, 128] (by intro a; fin_cases a <;> simp)

/-! ## One grid point, on the blocks and on the statistics it finds -/

/-- A point's scores for head `h`. -/
def scoresAt (qi ki : BitVec 32) (x0 : Vec F S512x2048 .bf16) (x1 : Vec F S512x1024 .bf16) (x2 : Vec F S512x256 .bf16) (x3 : Vec F S512x128 .bf16) (h : Fin 8) :
    FVec F S512x512 .f32 :=
  headS (k0_pay6 qi ki) x2 x3 (View.ld x0 (colsQ h)) (View.ld x1 (colsP h))

/-- The maxima that a point leaves, from its scores and the maxima it finds. -/
def stepM (s : Fin 8 → FVec F S512x512 .f32) (xs0 : Vec F S8x512x128 .f32) : Vec F S8x512x128 .f32 :=
  fun y => headM (s (y 0)) (View.ld xs0 (slabM (y 0))) (ix3 (0 : Fin 1) (y 1) (y 2))
/-- The sums that a point leaves. -/
def stepL (s : Fin 8 → FVec F S512x512 .f32) (xs0 xs1 : Vec F S8x512x128 .f32) : Vec F S8x512x128 .f32 :=
  fun y => headL (s (y 0)) (View.ld xs0 (slabM (y 0))) (View.ld xs1 (slabM (y 0))) (ix3 (0 : Fin 1) (y 1) (y 2))
/-- The weighted sums that a point leaves. -/
def stepA (x2 : Vec F S512x256 .bf16) (s : Fin 8 → FVec F S512x512 .f32) (xs0 : Vec F S8x512x128 .f32) (xs2 : Vec F S8x512x256 .f32) : Vec F S8x512x256 .f32 :=
  fun y => headA x2 (s (y 0)) (View.ld xs0 (slabM (y 0))) (View.ld xs2 (slabA (y 0))) (ix3 (0 : Fin 1) (y 1) (y 2))
/-- The output block that a diagonal point leaves, from the statistics it leaves. -/
def stepO (x4 : Vec F S8x256x128 .bf16) (ys1 : Vec F S8x512x128 .f32) (ys2 : Vec F S8x512x256 .f32) : Vec F S512x1024 .bf16 :=
  fun y => headO (View.ld ys2 (slabA ⟨(y 1).val / 128, by have := (y 1).isLt; simp at this; omega⟩))
    (View.ld ys1 (slabM ⟨(y 1).val / 128, by have := (y 1).isLt; simp at this; omega⟩))
    (View.ld x4 (slabW ⟨(y 1).val / 128, by have := (y 1).isLt; simp at this; omega⟩))
    (ix2 (y 0) ⟨(y 1).val % 128, Nat.mod_lt _ (by decide)⟩)

/-! ## Lists of slabs -/

/-- The eight slabs stored, head 7 last. -/
def slabsM (f : Fin 8 → Vec F S1x512x128 .f32) : List (View.Piece (Elt F) S8x512x128 .f32) :=
  [⟨slabM 7, f 7⟩, ⟨slabM 6, f 6⟩, ⟨slabM 5, f 5⟩, ⟨slabM 4, f 4⟩, ⟨slabM 3, f 3⟩, ⟨slabM 2, f 2⟩, ⟨slabM 1, f 1⟩, ⟨slabM 0, f 0⟩]
def slabsA (f : Fin 8 → Vec F S1x512x256 .f32) : List (View.Piece (Elt F) S8x512x256 .f32) :=
  [⟨slabA 7, f 7⟩, ⟨slabA 6, f 6⟩, ⟨slabA 5, f 5⟩, ⟨slabA 4, f 4⟩, ⟨slabA 3, f 3⟩, ⟨slabA 2, f 2⟩, ⟨slabA 1, f 1⟩, ⟨slabA 0, f 0⟩]
def colsO (f : Fin 8 → Vec F S512x128 .bf16) : List (View.Piece (Elt F) S512x1024 .bf16) :=
  [⟨colsP 7, f 7⟩, ⟨colsP 6, f 6⟩, ⟨colsP 5, f 5⟩, ⟨colsP 4, f 4⟩, ⟨colsP 3, f 3⟩, ⟨colsP 2, f 2⟩, ⟨colsP 1, f 1⟩, ⟨colsP 0, f 0⟩]

theorem slabM_emb (h : Fin 8) (r : Fin 512) (j : Fin 128) : (slabM h).emb (ix3 (0 : Fin 1) r j) = (ix3 h r j) := by
  funext a; apply Fin.ext; fin_cases a <;> simp [Rect.emb_apply]
theorem slabA_emb (h : Fin 8) (r : Fin 512) (j : Fin 256) : (slabA h).emb (ix3 (0 : Fin 1) r j) = (ix3 h r j) := by
  funext a; apply Fin.ext; fin_cases a <;> simp [Rect.emb_apply]
theorem colsP_emb (h : Fin 8) (r : Fin 512) (j : Fin 128) : (colsP h).emb (ix2 r j) = (ix2 r (outCol h j)) := by
  funext a; apply Fin.ext; fin_cases a <;> simp [Rect.emb_apply]

theorem not_mem_slabM {h g : Fin 8} (hg : h ≠ g) (r : Fin 512) (j : Fin 128) : (ix3 h r j : S8x512x128.Idx) ∉ (slabM g).set := by
  rw [Rect.mem_set_unit]; intro H; have := H 0; simp at this; exact hg (Fin.ext (by omega))
theorem not_mem_slabA {h g : Fin 8} (hg : h ≠ g) (r : Fin 512) (j : Fin 256) : (ix3 h r j : S8x512x256.Idx) ∉ (slabA g).set := by
  rw [Rect.mem_set_unit]; intro H; have := H 0; simp at this; exact hg (Fin.ext (by omega))
theorem not_mem_colsP {h g : Fin 8} (hg : h ≠ g) (r : Fin 512) (j : Fin 128) :
    (ix2 r (outCol h j) : S512x1024.Idx) ∉ (colsP g).set := by
  rw [Rect.mem_set_unit]; intro H; have := H 1; simp at this; exact hg (Fin.ext (by omega))

/-- Under a slab written last one reads it; under another slab, what was there before. -/
theorem canon_slabM_hit (h : Fin 8) (w : Vec F S1x512x128 .f32) (L : List (View.Piece (Elt F) S8x512x128 .f32)) (r : Fin 512) (j : Fin 128) :
    View.canon ((⟨slabM h, w⟩ : View.Piece (Elt F) S8x512x128 .f32) :: L) (ix3 h r j) = w (ix3 (0 : Fin 1) r j) := by
  rw [← slabM_emb h r j]; exact View.canon_cons_emb _ _ _ _
theorem canon_slabM_miss {h g : Fin 8} (hg : h ≠ g) (w : Vec F S1x512x128 .f32) (L : List (View.Piece (Elt F) S8x512x128 .f32)) (r : Fin 512) (j : Fin 128) :
    View.canon ((⟨slabM g, w⟩ : View.Piece (Elt F) S8x512x128 .f32) :: L) (ix3 h r j) = View.canon L (ix3 h r j) :=
  View.canon_cons_of_not_mem _ _ (not_mem_slabM hg r j)
theorem canon_slabA_hit (h : Fin 8) (w : Vec F S1x512x256 .f32) (L : List (View.Piece (Elt F) S8x512x256 .f32)) (r : Fin 512) (j : Fin 256) :
    View.canon ((⟨slabA h, w⟩ : View.Piece (Elt F) S8x512x256 .f32) :: L) (ix3 h r j) = w (ix3 (0 : Fin 1) r j) := by
  rw [← slabA_emb h r j]; exact View.canon_cons_emb _ _ _ _
theorem canon_slabA_miss {h g : Fin 8} (hg : h ≠ g) (w : Vec F S1x512x256 .f32) (L : List (View.Piece (Elt F) S8x512x256 .f32)) (r : Fin 512) (j : Fin 256) :
    View.canon ((⟨slabA g, w⟩ : View.Piece (Elt F) S8x512x256 .f32) :: L) (ix3 h r j) = View.canon L (ix3 h r j) :=
  View.canon_cons_of_not_mem _ _ (not_mem_slabA hg r j)
theorem canon_colsP_hit (h : Fin 8) (w : Vec F S512x128 .bf16) (L : List (View.Piece (Elt F) S512x1024 .bf16)) (r : Fin 512) (j : Fin 128) :
    View.canon ((⟨colsP h, w⟩ : View.Piece (Elt F) S512x1024 .bf16) :: L) (ix2 r (outCol h j)) = w (ix2 r j) := by
  rw [← colsP_emb h r j]; exact View.canon_cons_emb _ _ _ _
theorem canon_colsP_miss {h g : Fin 8} (hg : h ≠ g) (w : Vec F S512x128 .bf16) (L : List (View.Piece (Elt F) S512x1024 .bf16)) (r : Fin 512) (j : Fin 128) :
    View.canon ((⟨colsP g, w⟩ : View.Piece (Elt F) S512x1024 .bf16) :: L) (ix2 r (outCol h j)) = View.canon L (ix2 r (outCol h j)) :=
  View.canon_cons_of_not_mem _ _ (not_mem_colsP hg r j)

/-- The eight slabs written over anything: at head `h`, slab `h`. -/
theorem canon_slabsM (f : Fin 8 → Vec F S1x512x128 .f32) (L : List (View.Piece (Elt F) S8x512x128 .f32)) (h : Fin 8) (r : Fin 512) (j : Fin 128) :
    View.canon (slabsM f ++ L) (ix3 h r j) = f h (ix3 (0 : Fin 1) r j) := by
  simp only [slabsM, List.cons_append, List.nil_append]
  fin_cases h <;> (repeat rw [canon_slabM_miss (by decide)]) <;> exact canon_slabM_hit _ _ _ r j
theorem canon_slabsA (f : Fin 8 → Vec F S1x512x256 .f32) (L : List (View.Piece (Elt F) S8x512x256 .f32)) (h : Fin 8) (r : Fin 512) (j : Fin 256) :
    View.canon (slabsA f ++ L) (ix3 h r j) = f h (ix3 (0 : Fin 1) r j) := by
  simp only [slabsA, List.cons_append, List.nil_append]
  fin_cases h <;> (repeat rw [canon_slabA_miss (by decide)]) <;> exact canon_slabA_hit _ _ _ r j
theorem canon_colsO (f : Fin 8 → Vec F S512x128 .bf16) (h : Fin 8) (r : Fin 512) (j : Fin 128) :
    View.canon (colsO f) (ix2 r (outCol h j)) = f h (ix2 r j) := by
  simp only [colsO]
  fin_cases h <;> (repeat rw [canon_colsP_miss (h := _) (g := _) (by decide)]) <;> exact canon_colsP_hit _ _ _ r j

/-- The slabs below head `n` stored over the reset buffer, each computed from what was loaded of its slab. -/
def towerM (v : View sig .tc .vmem S8x512x128 .f32) (g : Fin 8 → Vec F S1x512x128 .f32 → Vec F S1x512x128 .f32) (w : Vec F S8x512x128 .f32) :
    ℕ → List (View.Piece (Elt F) S8x512x128 .f32)
  | 0 => [⟨Rect.unit ![0, 0, 0] ![8, 512, 128] (by intro a; fin_cases a <;> simp), w⟩]
  | n + 1 => ⟨slabM (Fin.ofNat 8 n), g (Fin.ofNat 8 n) (v.readCov (towerM v g w n) (slabM (Fin.ofNat 8 n)).toLoadRect)⟩ :: towerM v g w n
def towerA (v : View sig .tc .vmem S8x512x256 .f32) (g : Fin 8 → Vec F S1x512x256 .f32 → Vec F S1x512x256 .f32) (w : Vec F S8x512x256 .f32) :
    ℕ → List (View.Piece (Elt F) S8x512x256 .f32)
  | 0 => [⟨Rect.unit ![0, 0, 0] ![8, 512, 256] (by intro a; fin_cases a <;> simp), w⟩]
  | n + 1 => ⟨slabA (Fin.ofNat 8 n), g (Fin.ofNat 8 n) (v.readCov (towerA v g w n) (slabA (Fin.ofNat 8 n)).toLoadRect)⟩ :: towerA v g w n

end Cert.KernelIdeal.Attn

end
-- ==== Proof.Attn.Pieces.lean ====
module

public import proofs.«01_k».proof.Proof.Attn.RunE
public import proofs.«01_k».proof.Proof.Attn.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-- The scores of head `h` from what the point's loads read. -/
abbrev SC (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole)
    (x0 : Vec F S512x2048 .bf16) (x1 : Vec F S512x1024 .bf16) (x2 : Vec F S512x256 .bf16) (x3 : Vec F S512x128 .bf16) (h : Fin 8) : FVec F S512x512 .f32 :=
  headS (k0_pay6 (BitVec.ofNat 32 (i 1).val) (BitVec.ofNat 32 (i 2).val)) (View.readAt (Elt F) arg5.view wholeK.toLoadRect (harg5.unread x2))
    (View.readAt (Elt F) arg6.view wholeP.toLoadRect (harg6.unread x3)) (View.readAt (Elt F) arg3.view (colsQ h).toLoadRect (harg3.unread x0))
    (View.readAt (Elt F) arg4.view (colsP h).toLoadRect (harg4.unread x1))

set_option maxHeartbeats 2000000 in
/-- Case A: the stores into the output block, head by head. -/
theorem piecesA_0 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    (runA c i arg3 harg3 arg4 harg4 arg5 harg5 arg6 harg6 arg7 harg7 arg8 harg8 arg9 harg9 arg10 harg10 arg11 harg11 hc0 hc1 hc2 x0 x1 x2 x3 x4).1 = colsO (fun h => headO (arg11.view.readCov (runA c i arg3 harg3 arg4 harg4 arg5 harg5 arg6 harg6 arg7 harg7 arg8 harg8 arg9 harg9 arg10 harg10 arg11 harg11 hc0 hc1 hc2 x0 x1 x2 x3 x4).2.2.2.1 (slabA h).toLoadRect) (arg10.view.readCov (runA c i arg3 harg3 arg4 harg4 arg5 harg5 arg6 harg6 arg7 harg7 arg8 harg8 arg9 harg9 arg10 harg10 arg11 harg11 hc0 hc1 hc2 x0 x1 x2 x3 x4).2.2.1 (slabM h).toLoadRect) (View.readAt (Elt F) arg7.view (slabW h).toLoadRect (harg7.unread x4))) := by
  unfold runA; rfl

set_option maxHeartbeats 2000000 in
/-- Case A: the stores into the running maxima, head by head. -/
theorem piecesA_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    (runA c i arg3 harg3 arg4 harg4 arg5 harg5 arg6 harg6 arg7 harg7 arg8 harg8 arg9 harg9 arg10 harg10 arg11 harg11 hc0 hc1 hc2 x0 x1 x2 x3 x4).2.1 = towerM arg9.view (fun h mp => headM (SC i arg3 harg3 arg4 harg4 arg5 harg5 arg6 harg6 x0 x1 x2 x3 h) mp) k0_pay1 8 := by
  unfold runA; rfl

set_option maxHeartbeats 2000000 in
/-- Case A: the stores into the running sums, head by head. -/
theorem piecesA_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    (runA c i arg3 harg3 arg4 harg4 arg5 harg5 arg6 harg6 arg7 harg7 arg8 harg8 arg9 harg9 arg10 harg10 arg11 harg11 hc0 hc1 hc2 x0 x1 x2 x3 x4).2.2.1 = towerM arg10.view (fun h lp => headL (SC i arg3 harg3 arg4 harg4 arg5 harg5 arg6 harg6 x0 x1 x2 x3 h) (arg9.view.readCov (towerM arg9.view (fun h mp => headM (SC i arg3 harg3 arg4 harg4 arg5 harg5 arg6 harg6 x0 x1 x2 x3 h) mp) k0_pay1 h.val) (slabM h).toLoadRect) lp) k0_pay2 8 := by
  unfold runA; rfl

set_option maxHeartbeats 2000000 in
/-- Case A: the stores into the running weighted sums, head by head. -/
theorem piecesA_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    (runA c i arg3 harg3 arg4 harg4 arg5 harg5 arg6 harg6 arg7 harg7 arg8 harg8 arg9 harg9 arg10 harg10 arg11 harg11 hc0 hc1 hc2 x0 x1 x2 x3 x4).2.2.2.1 = towerA arg11.view (fun h ap => headA (View.readAt (Elt F) arg5.view wholeK.toLoadRect (harg5.unread x2)) (SC i arg3 harg3 arg4 harg4 arg5 harg5 arg6 harg6 x0 x1 x2 x3 h) (arg9.view.readCov (towerM arg9.view (fun h mp => headM (SC i arg3 harg3 arg4 harg4 arg5 harg5 arg6 harg6 x0 x1 x2 x3 h) mp) k0_pay1 h.val) (slabM h).toLoadRect) ap) k0_pay3 8 := by
  unfold runA; rfl

set_option maxHeartbeats 2000000 in
/-- Case C: the stores into the running maxima, head by head. -/
theorem piecesC_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) :
    (runC c i arg3 harg3 arg4 harg4 arg5 harg5 arg6 harg6 arg7 harg7 arg8 harg8 arg9 harg9 arg10 harg10 arg11 harg11 hc0 hc1 hc2 x0 x1 x2 x3 x4).1 = towerM arg9.view (fun h mp => headM (SC i arg3 harg3 arg4 harg4 arg5 harg5 arg6 harg6 x0 x1 x2 x3 h) mp) k0_pay1 8 := by
  unfold runC; rfl

set_option maxHeartbeats 2000000 in
/-- Case C: the stores into the running sums, head by head. -/
theorem piecesC_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) :
    (runC c i arg3 harg3 arg4 harg4 arg5 harg5 arg6 harg6 arg7 harg7 arg8 harg8 arg9 harg9 arg10 harg10 arg11 harg11 hc0 hc1 hc2 x0 x1 x2 x3 x4).2.1 = towerM arg10.view (fun h lp => headL (SC i arg3 harg3 arg4 harg4 arg5 harg5 arg6 harg6 x0 x1 x2 x3 h) (arg9.view.readCov (towerM arg9.view (fun h mp => headM (SC i arg3 harg3 arg4 harg4 arg5 harg5 arg6 harg6 x0 x1 x2 x3 h) mp) k0_pay1 h.val) (slabM h).toLoadRect) lp) k0_pay2 8 := by
  unfold runC; rfl

set_option maxHeartbeats 2000000 in
/-- Case C: the stores into the running weighted sums, head by head. -/
theorem piecesC_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) :
    (runC c i arg3 harg3 arg4 harg4 arg5 harg5 arg6 harg6 arg7 harg7 arg8 harg8 arg9 harg9 arg10 harg10 arg11 harg11 hc0 hc1 hc2 x0 x1 x2 x3 x4).2.2.1 = towerA arg11.view (fun h ap => headA (View.readAt (Elt F) arg5.view wholeK.toLoadRect (harg5.unread x2)) (SC i arg3 harg3 arg4 harg4 arg5 harg5 arg6 harg6 x0 x1 x2 x3 h) (arg9.view.readCov (towerM arg9.view (fun h mp => headM (SC i arg3 harg3 arg4 harg4 arg5 harg5 arg6 harg6 x0 x1 x2 x3 h) mp) k0_pay1 h.val) (slabM h).toLoadRect) ap) k0_pay3 8 := by
  unfold runC; rfl

set_option maxHeartbeats 2000000 in
/-- Case D: the stores into the output block, head by head. -/
theorem piecesD_0 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runD c i arg3 harg3 arg4 harg4 arg5 harg5 arg6 harg6 arg7 harg7 arg8 harg8 arg9 harg9 arg10 harg10 arg11 harg11 hc0 hc1 hc2 x0 x1 x2 x3 x4 xs0 xs1 xs2).1 = colsO (fun h => headO (arg11.view.readCov (runD c i arg3 harg3 arg4 harg4 arg5 harg5 arg6 harg6 arg7 harg7 arg8 harg8 arg9 harg9 arg10 harg10 arg11 harg11 hc0 hc1 hc2 x0 x1 x2 x3 x4 xs0 xs1 xs2).2.2.2.1 (slabA h).toLoadRect) (arg10.view.readCov (runD c i arg3 harg3 arg4 harg4 arg5 harg5 arg6 harg6 arg7 harg7 arg8 harg8 arg9 harg9 arg10 harg10 arg11 harg11 hc0 hc1 hc2 x0 x1 x2 x3 x4 xs0 xs1 xs2).2.2.1 (slabM h).toLoadRect) (View.readAt (Elt F) arg7.view (slabW h).toLoadRect (harg7.unread x4))) := by
  unfold runD; rfl

set_option maxHeartbeats 2000000 in
/-- Case D: the stores into the running maxima, head by head. -/
theorem piecesD_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runD c i arg3 harg3 arg4 harg4 arg5 harg5 arg6 harg6 arg7 harg7 arg8 harg8 arg9 harg9 arg10 harg10 arg11 harg11 hc0 hc1 hc2 x0 x1 x2 x3 x4 xs0 xs1 xs2).2.1 = slabsM (fun h => headM (SC i arg3 harg3 arg4 harg4 arg5 harg5 arg6 harg6 x0 x1 x2 x3 h) (View.readAt (Elt F) arg9.view (slabM h).toLoadRect (harg9.unread xs0))) := by
  unfold runD; rfl

set_option maxHeartbeats 2000000 in
/-- Case D: the stores into the running sums, head by head. -/
theorem piecesD_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runD c i arg3 harg3 arg4 harg4 arg5 harg5 arg6 harg6 arg7 harg7 arg8 harg8 arg9 harg9 arg10 harg10 arg11 harg11 hc0 hc1 hc2 x0 x1 x2 x3 x4 xs0 xs1 xs2).2.2.1 = slabsM (fun h => headL (SC i arg3 harg3 arg4 harg4 arg5 harg5 arg6 harg6 x0 x1 x2 x3 h) (View.readAt (Elt F) arg9.view (slabM h).toLoadRect (harg9.unread xs0)) (View.readAt (Elt F) arg10.view (slabM h).toLoadRect (harg10.unread xs1))) := by
  unfold runD; rfl

set_option maxHeartbeats 2000000 in
/-- Case D: the stores into the running weighted sums, head by head. -/
theorem piecesD_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runD c i arg3 harg3 arg4 harg4 arg5 harg5 arg6 harg6 arg7 harg7 arg8 harg8 arg9 harg9 arg10 harg10 arg11 harg11 hc0 hc1 hc2 x0 x1 x2 x3 x4 xs0 xs1 xs2).2.2.2.1 = slabsA (fun h => headA (View.readAt (Elt F) arg5.view wholeK.toLoadRect (harg5.unread x2)) (SC i arg3 harg3 arg4 harg4 arg5 harg5 arg6 harg6 x0 x1 x2 x3 h) (View.readAt (Elt F) arg9.view (slabM h).toLoadRect (harg9.unread xs0)) (View.readAt (Elt F) arg11.view (slabA h).toLoadRect (harg11.unread xs2))) := by
  unfold runD; rfl

set_option maxHeartbeats 2000000 in
/-- Case E: the stores into the running maxima, head by head. -/
theorem piecesE_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runE c i arg3 harg3 arg4 harg4 arg5 harg5 arg6 harg6 arg7 harg7 arg8 harg8 arg9 harg9 arg10 harg10 arg11 harg11 hc0 hc1 hc2 x0 x1 x2 x3 x4 xs0 xs1 xs2).1 = slabsM (fun h => headM (SC i arg3 harg3 arg4 harg4 arg5 harg5 arg6 harg6 x0 x1 x2 x3 h) (View.readAt (Elt F) arg9.view (slabM h).toLoadRect (harg9.unread xs0))) := by
  unfold runE; rfl

set_option maxHeartbeats 2000000 in
/-- Case E: the stores into the running sums, head by head. -/
theorem piecesE_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runE c i arg3 harg3 arg4 harg4 arg5 harg5 arg6 harg6 arg7 harg7 arg8 harg8 arg9 harg9 arg10 harg10 arg11 harg11 hc0 hc1 hc2 x0 x1 x2 x3 x4 xs0 xs1 xs2).2.1 = slabsM (fun h => headL (SC i arg3 harg3 arg4 harg4 arg5 harg5 arg6 harg6 x0 x1 x2 x3 h) (View.readAt (Elt F) arg9.view (slabM h).toLoadRect (harg9.unread xs0)) (View.readAt (Elt F) arg10.view (slabM h).toLoadRect (harg10.unread xs1))) := by
  unfold runE; rfl

set_option maxHeartbeats 2000000 in
/-- Case E: the stores into the running weighted sums, head by head. -/
theorem piecesE_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    (runE c i arg3 harg3 arg4 harg4 arg5 harg5 arg6 harg6 arg7 harg7 arg8 harg8 arg9 harg9 arg10 harg10 arg11 harg11 hc0 hc1 hc2 x0 x1 x2 x3 x4 xs0 xs1 xs2).2.2.1 = slabsA (fun h => headA (View.readAt (Elt F) arg5.view wholeK.toLoadRect (harg5.unread x2)) (SC i arg3 harg3 arg4 harg4 arg5 harg5 arg6 harg6 x0 x1 x2 x3 h) (View.readAt (Elt F) arg9.view (slabM h).toLoadRect (harg9.unread xs0)) (View.readAt (Elt F) arg11.view (slabA h).toLoadRect (harg11.unread xs2))) := by
  unfold runE; rfl

end Cert.KernelIdeal.Attn

end
-- ==== Proof.Attn.Steps.lean ====
module

public import proofs.«01_k».proof.Proof.Attn.State
public import proofs.«01_k».proof.Proof.Attn.Pieces
public import Idealize.ShloMosaic.Lib.WholeRead

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-! ## Loads -/

/-- A load of a buffer that holds `X` reads `X` in the rectangle. -/
theorem readAt_ld {sp : Space} {s : Shape} {e : EltTy} {a : Memref sig .tc sp s e} (ha : a.IsWhole) (X : s.Idx → Elt F e) (R : Rect s) :
    View.readAt (Elt F) a.view R.toLoadRect (ha.unread X) = View.ld X R :=
  funext fun x => ha.readAt_unread X R.toLoadRect x

theorem ld_wholeK (X : Vec F S512x256 .bf16) : View.ld X wholeK = X :=
  View.ld_unit_zero (S := S512x256) (by funext a; fin_cases a <;> rfl) _ X
theorem ld_wholeP (X : Vec F S512x128 .bf16) : View.ld X wholeP = X :=
  View.ld_unit_zero (S := S512x128) (by funext a; fin_cases a <;> rfl) _ X

theorem ld_slabM (X : Vec F S8x512x128 .f32) (h : Fin 8) (r : Fin 512) (j : Fin 128) : View.ld X (slabM h) (ix3 (0 : Fin 1) r j) = X (ix3 h r j) :=
  congrArg X (slabM_emb h r j)
theorem ld_slabA (X : Vec F S8x512x256 .f32) (h : Fin 8) (r : Fin 512) (j : Fin 256) : View.ld X (slabA h) (ix3 (0 : Fin 1) r j) = X (ix3 h r j) :=
  congrArg X (slabA_emb h r j)

/-! ## The towers of slabs over a reset buffer -/

/-- Of the slabs from head `n` on the tower still holds the reset value. -/
theorem towerM_above (v : View sig .tc .vmem S8x512x128 .f32) (g : Fin 8 → Vec F S1x512x128 .f32 → Vec F S1x512x128 .f32) (w : Vec F S8x512x128 .f32)
    (h : Fin 8) (r : Fin 512) (j : Fin 128) : ∀ n, n ≤ h.val → View.canon (towerM v g w n) (ix3 h r j) = w (ix3 h r j)
  | 0, _ => congrFun (View.canon_unit_zero (S := S8x512x128) (by funext a; fin_cases a <;> rfl) _ w) _
  | n + 1, hn => by
    have hne : h ≠ Fin.ofNat 8 n := fun e => by
      have := congrArg Fin.val e; simp only [Fin.val_ofNat] at this; omega
    exact (canon_slabM_miss hne _ _ r j).trans (towerM_above v g w h r j n (by omega))

/-- So a head's first load of its slab reads the reset value. -/
theorem readCov_towerM (v : View sig .tc .vmem S8x512x128 .f32) (g : Fin 8 → Vec F S1x512x128 .f32 → Vec F S1x512x128 .f32) (w : Vec F S8x512x128 .f32)
    (h : Fin 8) : v.readCov (towerM v g w h.val) (slabM h).toLoadRect = View.ld w (slabM h) := by
  funext x
  rw [View.readCov_eq_canon']
  obtain ⟨z, r, j, rfl⟩ : ∃ (z : Fin 1) (r : Fin 512) (j : Fin 128), x = ix3 z r j := ⟨x 0, x 1, x 2, eq_ix3 x⟩
  obtain rfl : z = 0 := Subsingleton.elim _ _
  exact ((congrArg _ (slabM_emb h r j)).trans (towerM_above v g w h r j h.val le_rfl)).trans (ld_slabM w h r j).symm

/-- What the whole tower holds. -/
theorem canon_towerM (v : View sig .tc .vmem S8x512x128 .f32) (g : Fin 8 → Vec F S1x512x128 .f32 → Vec F S1x512x128 .f32) (w : Vec F S8x512x128 .f32)
    (h : Fin 8) (r : Fin 512) (j : Fin 128) : ∀ n, n ≤ 8 → h.val < n →
      View.canon (towerM v g w n) (ix3 h r j) = g h (View.ld w (slabM h)) (ix3 (0 : Fin 1) r j)
  | 0, _, hn => absurd hn (Nat.not_lt_zero _)
  | n + 1, h8, hn => by
    by_cases hh : h.val = n
    · subst hh
      have e : Fin.ofNat 8 h.val = h := Fin.ext (by simp only [Fin.val_ofNat]; omega)
      show View.canon (⟨slabM (Fin.ofNat 8 h.val), g (Fin.ofNat 8 h.val) (v.readCov (towerM v g w h.val) (slabM (Fin.ofNat 8 h.val)).toLoadRect)⟩ :: towerM v g w h.val) _ = _
      rw [e, canon_slabM_hit, readCov_towerM]
    · have hne : h ≠ Fin.ofNat 8 n := fun e => by
        have := congrArg Fin.val e; simp only [Fin.val_ofNat] at this; omega
      exact (canon_slabM_miss hne _ _ r j).trans (canon_towerM v g w h r j n (by omega) (by omega))

/-! ## The towers of slabs over a reset buffer -/

/-- Of the slabs from head `n` on the tower still holds the reset value. -/
theorem towerA_above (v : View sig .tc .vmem S8x512x256 .f32) (g : Fin 8 → Vec F S1x512x256 .f32 → Vec F S1x512x256 .f32) (w : Vec F S8x512x256 .f32)
    (h : Fin 8) (r : Fin 512) (j : Fin 256) : ∀ n, n ≤ h.val → View.canon (towerA v g w n) (ix3 h r j) = w (ix3 h r j)
  | 0, _ => congrFun (View.canon_unit_zero (S := S8x512x256) (by funext a; fin_cases a <;> rfl) _ w) _
  | n + 1, hn => by
    have hne : h ≠ Fin.ofNat 8 n := fun e => by
      have := congrArg Fin.val e; simp only [Fin.val_ofNat] at this; omega
    exact (canon_slabA_miss hne _ _ r j).trans (towerA_above v g w h r j n (by omega))

/-- So a head's first load of its slab reads the reset value. -/
theorem readCov_towerA (v : View sig .tc .vmem S8x512x256 .f32) (g : Fin 8 → Vec F S1x512x256 .f32 → Vec F S1x512x256 .f32) (w : Vec F S8x512x256 .f32)
    (h : Fin 8) : v.readCov (towerA v g w h.val) (slabA h).toLoadRect = View.ld w (slabA h) := by
  funext x
  rw [View.readCov_eq_canon']
  obtain ⟨z, r, j, rfl⟩ : ∃ (z : Fin 1) (r : Fin 512) (j : Fin 256), x = ix3 z r j := ⟨x 0, x 1, x 2, eq_ix3 x⟩
  obtain rfl : z = 0 := Subsingleton.elim _ _
  exact ((congrArg _ (slabA_emb h r j)).trans (towerA_above v g w h r j h.val le_rfl)).trans (ld_slabA w h r j).symm

/-- What the whole tower holds. -/
theorem canon_towerA (v : View sig .tc .vmem S8x512x256 .f32) (g : Fin 8 → Vec F S1x512x256 .f32 → Vec F S1x512x256 .f32) (w : Vec F S8x512x256 .f32)
    (h : Fin 8) (r : Fin 512) (j : Fin 256) : ∀ n, n ≤ 8 → h.val < n →
      View.canon (towerA v g w n) (ix3 h r j) = g h (View.ld w (slabA h)) (ix3 (0 : Fin 1) r j)
  | 0, _, hn => absurd hn (Nat.not_lt_zero _)
  | n + 1, h8, hn => by
    by_cases hh : h.val = n
    · subst hh
      have e : Fin.ofNat 8 h.val = h := Fin.ext (by simp only [Fin.val_ofNat]; omega)
      show View.canon (⟨slabA (Fin.ofNat 8 h.val), g (Fin.ofNat 8 h.val) (v.readCov (towerA v g w h.val) (slabA (Fin.ofNat 8 h.val)).toLoadRect)⟩ :: towerA v g w h.val) _ = _
      rw [e, canon_slabA_hit, readCov_towerA]
    · have hne : h ≠ Fin.ofNat 8 n := fun e => by
        have := congrArg Fin.val e; simp only [Fin.val_ofNat] at this; omega
      exact (canon_slabA_miss hne _ _ r j).trans (canon_towerA v g w h r j n (by omega) (by omega))

/-! ## The lists of stores, over the whole buffers -/

theorem SC_eq (i : grid0.Coords) (arg3 : Memref sig .tc .vmem S512x2048 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x128 .bf16) (harg6 : arg6.IsWhole)
    (x0 : Vec F S512x2048 .bf16) (x1 : Vec F S512x1024 .bf16) (x2 : Vec F S512x256 .bf16) (x3 : Vec F S512x128 .bf16) (h : Fin 8) :
    SC i arg3 harg3 arg4 harg4 arg5 harg5 arg6 harg6 x0 x1 x2 x3 h = scoresAt (BitVec.ofNat 32 (i 1).val) (BitVec.ofNat 32 (i 2).val) x0 x1 x2 x3 h := by
  unfold SC scoresAt; simp only [readAt_ld, ld_wholeK, ld_wholeP]

theorem towM (v : View sig .tc .vmem S8x512x128 .f32) (S : Fin 8 → FVec F S512x512 .f32) (w : Vec F S8x512x128 .f32) :
    View.canon (towerM v (fun h mp => headM (S h) mp) w 8) = stepM S w := by
  funext y
  obtain ⟨h, r, j, rfl⟩ : ∃ (h : Fin 8) (r : Fin 512) (j : Fin 128), y = ix3 h r j := ⟨y 0, y 1, y 2, eq_ix3 y⟩
  exact canon_towerM v _ w h r j 8 le_rfl h.isLt

theorem towL (v v' : View sig .tc .vmem S8x512x128 .f32) (S : Fin 8 → FVec F S512x512 .f32) (w w' : Vec F S8x512x128 .f32) :
    View.canon (towerM v' (fun h lp => headL (S h) (v.readCov (towerM v (fun h mp => headM (S h) mp) w h.val) (slabM h).toLoadRect) lp) w' 8) = stepL S w w' := by
  funext y
  obtain ⟨h, r, j, rfl⟩ : ∃ (h : Fin 8) (r : Fin 512) (j : Fin 128), y = ix3 h r j := ⟨y 0, y 1, y 2, eq_ix3 y⟩
  rw [canon_towerM v' _ w' h r j 8 le_rfl h.isLt, readCov_towerM]
  rfl

theorem towA (v : View sig .tc .vmem S8x512x128 .f32) (v' : View sig .tc .vmem S8x512x256 .f32) (k : Vec F S512x256 .bf16) (S : Fin 8 → FVec F S512x512 .f32)
    (w : Vec F S8x512x128 .f32) (w' : Vec F S8x512x256 .f32) :
    View.canon (towerA v' (fun h ap => headA k (S h) (v.readCov (towerM v (fun h mp => headM (S h) mp) w h.val) (slabM h).toLoadRect) ap) w' 8) = stepA k S w w' := by
  funext y
  obtain ⟨h, r, j, rfl⟩ : ∃ (h : Fin 8) (r : Fin 512) (j : Fin 256), y = ix3 h r j := ⟨y 0, y 1, y 2, eq_ix3 y⟩
  rw [canon_towerA v' _ w' h r j 8 le_rfl h.isLt, readCov_towerM]
  rfl

theorem slbM (S : Fin 8 → FVec F S512x512 .f32) (w : Vec F S8x512x128 .f32) :
    View.canon (slabsM (fun h => headM (S h) (View.ld w (slabM h)))) = stepM S w := by
  funext y
  obtain ⟨h, r, j, rfl⟩ : ∃ (h : Fin 8) (r : Fin 512) (j : Fin 128), y = ix3 h r j := ⟨y 0, y 1, y 2, eq_ix3 y⟩
  rw [← List.append_nil (slabsM _), canon_slabsM]; rfl

theorem slbL (S : Fin 8 → FVec F S512x512 .f32) (w w' : Vec F S8x512x128 .f32) :
    View.canon (slabsM (fun h => headL (S h) (View.ld w (slabM h)) (View.ld w' (slabM h)))) = stepL S w w' := by
  funext y
  obtain ⟨h, r, j, rfl⟩ : ∃ (h : Fin 8) (r : Fin 512) (j : Fin 128), y = ix3 h r j := ⟨y 0, y 1, y 2, eq_ix3 y⟩
  rw [← List.append_nil (slabsM _), canon_slabsM]; rfl

theorem slbA (k : Vec F S512x256 .bf16) (S : Fin 8 → FVec F S512x512 .f32) (w : Vec F S8x512x128 .f32) (w' : Vec F S8x512x256 .f32) :
    View.canon (slabsA (fun h => headA k (S h) (View.ld w (slabM h)) (View.ld w' (slabA h)))) = stepA k S w w' := by
  funext y
  obtain ⟨h, r, j, rfl⟩ : ∃ (h : Fin 8) (r : Fin 512) (j : Fin 256), y = ix3 h r j := ⟨y 0, y 1, y 2, eq_ix3 y⟩
  rw [← List.append_nil (slabsA _), canon_slabsA]; rfl

theorem colO (v : View sig .tc .vmem S8x512x128 .f32) (v' : View sig .tc .vmem S8x512x256 .f32) (x4 : Vec F S8x256x128 .bf16)
    (L : List (View.Piece (Elt F) S8x512x128 .f32)) (L' : List (View.Piece (Elt F) S8x512x256 .f32)) :
    View.canon (colsO (fun h => headO (v'.readCov L' (slabA h).toLoadRect) (v.readCov L (slabM h).toLoadRect) (View.ld x4 (slabW h)))) = stepO x4 (View.canon L) (View.canon L') := by
  funext y
  have hy : y = ix2 (y 0 : Fin 512) (outCol ⟨(y 1).val / 128, by have := idx2_lt1 (n1 := 1024) y; omega⟩ ⟨(y 1).val % 128, Nat.mod_lt _ (by decide)⟩) := by
    funext a; apply Fin.ext; fin_cases a
    · rfl
    · exact (Nat.div_add_mod' (y 1).val 128).symm
  refine (congrArg (View.canon (colsO _)) hy).trans ((canon_colsO _ _ _ _).trans ?_)
  simp only [View.readCov_eq_canon']
  rfl

/-! ## What each case leaves, from the contents it finds -/

/-- Case A: the output block. -/
theorem outA_0 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    View.canon (runA c i arg3 harg3 arg4 harg4 arg5 harg5 arg6 harg6 arg7 harg7 arg8 harg8 arg9 harg9 arg10 harg10 arg11 harg11 hc0 hc1 hc2 x0 x1 x2 x3 x4).1 = stepO x4 (View.canon (runA c i arg3 harg3 arg4 harg4 arg5 harg5 arg6 harg6 arg7 harg7 arg8 harg8 arg9 harg9 arg10 harg10 arg11 harg11 hc0 hc1 hc2 x0 x1 x2 x3 x4).2.2.1) (View.canon (runA c i arg3 harg3 arg4 harg4 arg5 harg5 arg6 harg6 arg7 harg7 arg8 harg8 arg9 harg9 arg10 harg10 arg11 harg11 hc0 hc1 hc2 x0 x1 x2 x3 x4).2.2.2.1) := by
  refine (congrArg View.canon (piecesA_0 c i arg3 harg3 arg4 harg4 arg5 harg5 arg6 harg6 arg7 harg7 arg8 harg8 arg9 harg9 arg10 harg10 arg11 harg11 hc0 hc1 hc2 x0 x1 x2 x3 x4)).trans ?_
  simp only [readAt_ld]; exact colO _ _ x4 _ _

/-- Case A: the maxima. -/
theorem outA_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    View.canon (runA c i arg3 harg3 arg4 harg4 arg5 harg5 arg6 harg6 arg7 harg7 arg8 harg8 arg9 harg9 arg10 harg10 arg11 harg11 hc0 hc1 hc2 x0 x1 x2 x3 x4).2.1 = stepM (scoresAt (BitVec.ofNat 32 (i 1).val) (BitVec.ofNat 32 (i 2).val) x0 x1 x2 x3) k0_pay1 := by
  refine (congrArg View.canon (piecesA_1 c i arg3 harg3 arg4 harg4 arg5 harg5 arg6 harg6 arg7 harg7 arg8 harg8 arg9 harg9 arg10 harg10 arg11 harg11 hc0 hc1 hc2 x0 x1 x2 x3 x4)).trans ?_
  simp only [SC_eq]; exact towM _ (scoresAt (BitVec.ofNat 32 (i 1).val) (BitVec.ofNat 32 (i 2).val) x0 x1 x2 x3) _

/-- Case A: the sums. -/
theorem outA_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    View.canon (runA c i arg3 harg3 arg4 harg4 arg5 harg5 arg6 harg6 arg7 harg7 arg8 harg8 arg9 harg9 arg10 harg10 arg11 harg11 hc0 hc1 hc2 x0 x1 x2 x3 x4).2.2.1 = stepL (scoresAt (BitVec.ofNat 32 (i 1).val) (BitVec.ofNat 32 (i 2).val) x0 x1 x2 x3) k0_pay1 k0_pay2 := by
  refine (congrArg View.canon (piecesA_2 c i arg3 harg3 arg4 harg4 arg5 harg5 arg6 harg6 arg7 harg7 arg8 harg8 arg9 harg9 arg10 harg10 arg11 harg11 hc0 hc1 hc2 x0 x1 x2 x3 x4)).trans ?_
  simp only [SC_eq]; exact towL _ _ (scoresAt (BitVec.ofNat 32 (i 1).val) (BitVec.ofNat 32 (i 2).val) x0 x1 x2 x3) _ _

/-- Case A: the weighted sums. -/
theorem outA_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) :
    View.canon (runA c i arg3 harg3 arg4 harg4 arg5 harg5 arg6 harg6 arg7 harg7 arg8 harg8 arg9 harg9 arg10 harg10 arg11 harg11 hc0 hc1 hc2 x0 x1 x2 x3 x4).2.2.2.1 = stepA x2 (scoresAt (BitVec.ofNat 32 (i 1).val) (BitVec.ofNat 32 (i 2).val) x0 x1 x2 x3) k0_pay1 k0_pay3 := by
  refine (congrArg View.canon (piecesA_3 c i arg3 harg3 arg4 harg4 arg5 harg5 arg6 harg6 arg7 harg7 arg8 harg8 arg9 harg9 arg10 harg10 arg11 harg11 hc0 hc1 hc2 x0 x1 x2 x3 x4)).trans ?_
  simp only [SC_eq, readAt_ld, ld_wholeK]; exact towA _ _ x2 (scoresAt (BitVec.ofNat 32 (i 1).val) (BitVec.ofNat 32 (i 2).val) x0 x1 x2 x3) _ _

/-- Case C: the maxima. -/
theorem outC_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) :
    View.canon (runC c i arg3 harg3 arg4 harg4 arg5 harg5 arg6 harg6 arg7 harg7 arg8 harg8 arg9 harg9 arg10 harg10 arg11 harg11 hc0 hc1 hc2 x0 x1 x2 x3 x4).1 = stepM (scoresAt (BitVec.ofNat 32 (i 1).val) (BitVec.ofNat 32 (i 2).val) x0 x1 x2 x3) k0_pay1 := by
  refine (congrArg View.canon (piecesC_1 c i arg3 harg3 arg4 harg4 arg5 harg5 arg6 harg6 arg7 harg7 arg8 harg8 arg9 harg9 arg10 harg10 arg11 harg11 hc0 hc1 hc2 x0 x1 x2 x3 x4)).trans ?_
  simp only [SC_eq]; exact towM _ (scoresAt (BitVec.ofNat 32 (i 1).val) (BitVec.ofNat 32 (i 2).val) x0 x1 x2 x3) _

/-- Case C: the sums. -/
theorem outC_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) :
    View.canon (runC c i arg3 harg3 arg4 harg4 arg5 harg5 arg6 harg6 arg7 harg7 arg8 harg8 arg9 harg9 arg10 harg10 arg11 harg11 hc0 hc1 hc2 x0 x1 x2 x3 x4).2.1 = stepL (scoresAt (BitVec.ofNat 32 (i 1).val) (BitVec.ofNat 32 (i 2).val) x0 x1 x2 x3) k0_pay1 k0_pay2 := by
  refine (congrArg View.canon (piecesC_2 c i arg3 harg3 arg4 harg4 arg5 harg5 arg6 harg6 arg7 harg7 arg8 harg8 arg9 harg9 arg10 harg10 arg11 harg11 hc0 hc1 hc2 x0 x1 x2 x3 x4)).trans ?_
  simp only [SC_eq]; exact towL _ _ (scoresAt (BitVec.ofNat 32 (i 1).val) (BitVec.ofNat 32 (i 2).val) x0 x1 x2 x3) _ _

/-- Case C: the weighted sums. -/
theorem outC_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) :
    View.canon (runC c i arg3 harg3 arg4 harg4 arg5 harg5 arg6 harg6 arg7 harg7 arg8 harg8 arg9 harg9 arg10 harg10 arg11 harg11 hc0 hc1 hc2 x0 x1 x2 x3 x4).2.2.1 = stepA x2 (scoresAt (BitVec.ofNat 32 (i 1).val) (BitVec.ofNat 32 (i 2).val) x0 x1 x2 x3) k0_pay1 k0_pay3 := by
  refine (congrArg View.canon (piecesC_3 c i arg3 harg3 arg4 harg4 arg5 harg5 arg6 harg6 arg7 harg7 arg8 harg8 arg9 harg9 arg10 harg10 arg11 harg11 hc0 hc1 hc2 x0 x1 x2 x3 x4)).trans ?_
  simp only [SC_eq, readAt_ld, ld_wholeK]; exact towA _ _ x2 (scoresAt (BitVec.ofNat 32 (i 1).val) (BitVec.ofNat 32 (i 2).val) x0 x1 x2 x3) _ _

/-- Case D: the output block. -/
theorem outD_0 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runD c i arg3 harg3 arg4 harg4 arg5 harg5 arg6 harg6 arg7 harg7 arg8 harg8 arg9 harg9 arg10 harg10 arg11 harg11 hc0 hc1 hc2 x0 x1 x2 x3 x4 xs0 xs1 xs2).1 = stepO x4 (View.canon (runD c i arg3 harg3 arg4 harg4 arg5 harg5 arg6 harg6 arg7 harg7 arg8 harg8 arg9 harg9 arg10 harg10 arg11 harg11 hc0 hc1 hc2 x0 x1 x2 x3 x4 xs0 xs1 xs2).2.2.1) (View.canon (runD c i arg3 harg3 arg4 harg4 arg5 harg5 arg6 harg6 arg7 harg7 arg8 harg8 arg9 harg9 arg10 harg10 arg11 harg11 hc0 hc1 hc2 x0 x1 x2 x3 x4 xs0 xs1 xs2).2.2.2.1) := by
  refine (congrArg View.canon (piecesD_0 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [readAt_ld]; exact colO _ _ x4 _ _

/-- Case D: the maxima. -/
theorem outD_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runD c i arg3 harg3 arg4 harg4 arg5 harg5 arg6 harg6 arg7 harg7 arg8 harg8 arg9 harg9 arg10 harg10 arg11 harg11 hc0 hc1 hc2 x0 x1 x2 x3 x4 xs0 xs1 xs2).2.1 = stepM (scoresAt (BitVec.ofNat 32 (i 1).val) (BitVec.ofNat 32 (i 2).val) x0 x1 x2 x3) xs0 := by
  refine (congrArg View.canon (piecesD_1 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [SC_eq, readAt_ld]; exact slbM (scoresAt (BitVec.ofNat 32 (i 1).val) (BitVec.ofNat 32 (i 2).val) x0 x1 x2 x3) xs0

/-- Case D: the sums. -/
theorem outD_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runD c i arg3 harg3 arg4 harg4 arg5 harg5 arg6 harg6 arg7 harg7 arg8 harg8 arg9 harg9 arg10 harg10 arg11 harg11 hc0 hc1 hc2 x0 x1 x2 x3 x4 xs0 xs1 xs2).2.2.1 = stepL (scoresAt (BitVec.ofNat 32 (i 1).val) (BitVec.ofNat 32 (i 2).val) x0 x1 x2 x3) xs0 xs1 := by
  refine (congrArg View.canon (piecesD_2 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [SC_eq, readAt_ld]; exact slbL (scoresAt (BitVec.ofNat 32 (i 1).val) (BitVec.ofNat 32 (i 2).val) x0 x1 x2 x3) xs0 xs1

/-- Case D: the weighted sums. -/
theorem outD_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runD c i arg3 harg3 arg4 harg4 arg5 harg5 arg6 harg6 arg7 harg7 arg8 harg8 arg9 harg9 arg10 harg10 arg11 harg11 hc0 hc1 hc2 x0 x1 x2 x3 x4 xs0 xs1 xs2).2.2.2.1 = stepA x2 (scoresAt (BitVec.ofNat 32 (i 1).val) (BitVec.ofNat 32 (i 2).val) x0 x1 x2 x3) xs0 xs2 := by
  refine (congrArg View.canon (piecesD_3 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [SC_eq, readAt_ld, ld_wholeK]; exact slbA x2 (scoresAt (BitVec.ofNat 32 (i 1).val) (BitVec.ofNat 32 (i 2).val) x0 x1 x2 x3) xs0 xs2

/-- Case E: the maxima. -/
theorem outE_1 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runE c i arg3 harg3 arg4 harg4 arg5 harg5 arg6 harg6 arg7 harg7 arg8 harg8 arg9 harg9 arg10 harg10 arg11 harg11 hc0 hc1 hc2 x0 x1 x2 x3 x4 xs0 xs1 xs2).1 = stepM (scoresAt (BitVec.ofNat 32 (i 1).val) (BitVec.ofNat 32 (i 2).val) x0 x1 x2 x3) xs0 := by
  refine (congrArg View.canon (piecesE_1 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [SC_eq, readAt_ld]; exact slbM (scoresAt (BitVec.ofNat 32 (i 1).val) (BitVec.ofNat 32 (i 2).val) x0 x1 x2 x3) xs0

/-- Case E: the sums. -/
theorem outE_2 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runE c i arg3 harg3 arg4 harg4 arg5 harg5 arg6 harg6 arg7 harg7 arg8 harg8 arg9 harg9 arg10 harg10 arg11 harg11 hc0 hc1 hc2 x0 x1 x2 x3 x4 xs0 xs1 xs2).2.1 = stepL (scoresAt (BitVec.ofNat 32 (i 1).val) (BitVec.ofNat 32 (i 2).val) x0 x1 x2 x3) xs0 xs1 := by
  refine (congrArg View.canon (piecesE_2 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [SC_eq, readAt_ld]; exact slbL (scoresAt (BitVec.ofNat 32 (i 1).val) (BitVec.ofNat 32 (i 2).val) x0 x1 x2 x3) xs0 xs1

/-- Case E: the weighted sums. -/
theorem outE_3 (c : Dev nD) (i : grid0.Coords) (arg3 : Memref sig .tc .vmem S512x2048 .bf16) (harg3 : arg3.IsWhole)
    (arg4 : Memref sig .tc .vmem S512x1024 .bf16) (harg4 : arg4.IsWhole)
    (arg5 : Memref sig .tc .vmem S512x256 .bf16) (harg5 : arg5.IsWhole)
    (arg6 : Memref sig .tc .vmem S512x128 .bf16) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole) (hc0 : ¬cond0_0 i) (hc1 : cond0_1 i) (hc2 : ¬cond0_2 i) (x0 : Vec F S512x2048 .bf16) (x1 : Vec F S512x1024 .bf16) (x2 : Vec F S512x256 .bf16) (x3 : Vec F S512x128 .bf16) (x4 : Vec F S8x256x128 .bf16) (xs0 : Vec F S8x512x128 .f32) (xs1 : Vec F S8x512x128 .f32) (xs2 : Vec F S8x512x256 .f32) :
    View.canon (runE c i arg3 harg3 arg4 harg4 arg5 harg5 arg6 harg6 arg7 harg7 arg8 harg8 arg9 harg9 arg10 harg10 arg11 harg11 hc0 hc1 hc2 x0 x1 x2 x3 x4 xs0 xs1 xs2).2.2.1 = stepA x2 (scoresAt (BitVec.ofNat 32 (i 1).val) (BitVec.ofNat 32 (i 2).val) x0 x1 x2 x3) xs0 xs2 := by
  refine (congrArg View.canon (piecesE_3 c i arg3 harg3 arg4 harg4 arg5 harg5 arg6 harg6 arg7 harg7 arg8 harg8 arg9 harg9 arg10 harg10 arg11 harg11 hc0 hc1 hc2 x0 x1 x2 x3 x4 xs0 xs1 xs2)).trans ?_
  simp only [SC_eq, readAt_ld, ld_wholeK]; exact slbA x2 (scoresAt (BitVec.ofNat 32 (i 1).val) (BitVec.ofNat 32 (i 2).val) x0 x1 x2 x3) xs0 xs2

variable (m : (ℓ : Loc nD τ sig) → Buf (Elt F) ℓ)

/-- The scores at point `t`. -/
abbrev scPt (c : Dev nD) (t : Fin cfg0.N) : Fin 8 → FVec F S512x512 .f32 :=
  scoresAt (BitVec.ofNat 32 (grid0.coords t 1).val) (BitVec.ofNat 32 (grid0.coords t 2).val) (iblk m c 0 t) (iblk m c 1 t) (iblk m c 2 t) (iblk m c 3 t)

/-- Case A: the output block it leaves. -/
theorem stA_0 (c : Dev nD) (t : Fin cfg0.N) (h0 : t.val % 8 = 0) (h1 : t.val % 8 ≤ t.val / 8 % 8) (h2 : t.val / 8 % 8 = t.val % 8) : (stA m c t h0 h1 h2).2.2.2 = stepO (iblk m c 4 t) (stA m c t h0 h1 h2).2.1 (stA m c t h0 h1 h2).2.2.1 := by
  unfold stA atA; dsimp only; exact outA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t) (iblk m c 4 t)

/-- Case A: the maxima it leaves. -/
theorem stA_1 (c : Dev nD) (t : Fin cfg0.N) (h0 : t.val % 8 = 0) (h1 : t.val % 8 ≤ t.val / 8 % 8) (h2 : t.val / 8 % 8 = t.val % 8) : (stA m c t h0 h1 h2).1 = stepM (scPt m c t) k0_pay1 := by
  unfold stA atA; dsimp only; rw [outA_1]

/-- Case A: the sums it leaves. -/
theorem stA_2 (c : Dev nD) (t : Fin cfg0.N) (h0 : t.val % 8 = 0) (h1 : t.val % 8 ≤ t.val / 8 % 8) (h2 : t.val / 8 % 8 = t.val % 8) : (stA m c t h0 h1 h2).2.1 = stepL (scPt m c t) k0_pay1 k0_pay2 := by
  unfold stA atA; dsimp only; rw [outA_2]

/-- Case A: the weighted sums it leaves. -/
theorem stA_3 (c : Dev nD) (t : Fin cfg0.N) (h0 : t.val % 8 = 0) (h1 : t.val % 8 ≤ t.val / 8 % 8) (h2 : t.val / 8 % 8 = t.val % 8) : (stA m c t h0 h1 h2).2.2.1 = stepA (iblk m c 2 t) (scPt m c t) k0_pay1 k0_pay3 := by
  unfold stA atA; dsimp only; rw [outA_3]

/-- Case C: the maxima it leaves. -/
theorem stC_1 (c : Dev nD) (t : Fin cfg0.N) (h0 : t.val % 8 = 0) (h1 : t.val % 8 ≤ t.val / 8 % 8) (h2 : ¬t.val / 8 % 8 = t.val % 8) (p : St F) : (stC m c t h0 h1 h2 p).1 = stepM (scPt m c t) k0_pay1 := by
  unfold stC atC; dsimp only; rw [outC_1]

/-- Case C: the sums it leaves. -/
theorem stC_2 (c : Dev nD) (t : Fin cfg0.N) (h0 : t.val % 8 = 0) (h1 : t.val % 8 ≤ t.val / 8 % 8) (h2 : ¬t.val / 8 % 8 = t.val % 8) (p : St F) : (stC m c t h0 h1 h2 p).2.1 = stepL (scPt m c t) k0_pay1 k0_pay2 := by
  unfold stC atC; dsimp only; rw [outC_2]

/-- Case C: the weighted sums it leaves. -/
theorem stC_3 (c : Dev nD) (t : Fin cfg0.N) (h0 : t.val % 8 = 0) (h1 : t.val % 8 ≤ t.val / 8 % 8) (h2 : ¬t.val / 8 % 8 = t.val % 8) (p : St F) : (stC m c t h0 h1 h2 p).2.2.1 = stepA (iblk m c 2 t) (scPt m c t) k0_pay1 k0_pay3 := by
  unfold stC atC; dsimp only; rw [outC_3]

/-- Case D: the output block it leaves. -/
theorem stD_0 (c : Dev nD) (t : Fin cfg0.N) (h0 : ¬t.val % 8 = 0) (h1 : t.val % 8 ≤ t.val / 8 % 8) (h2 : t.val / 8 % 8 = t.val % 8) (p : St F) : (stD m c t h0 h1 h2 p).2.2.2 = stepO (iblk m c 4 t) (stD m c t h0 h1 h2 p).2.1 (stD m c t h0 h1 h2 p).2.2.1 := by
  unfold stD atD; dsimp only; exact outD_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) p.1 p.2.1 p.2.2.1

/-- Case D: the maxima it leaves. -/
theorem stD_1 (c : Dev nD) (t : Fin cfg0.N) (h0 : ¬t.val % 8 = 0) (h1 : t.val % 8 ≤ t.val / 8 % 8) (h2 : t.val / 8 % 8 = t.val % 8) (p : St F) : (stD m c t h0 h1 h2 p).1 = stepM (scPt m c t) p.1 := by
  unfold stD atD; dsimp only; rw [outD_1]

/-- Case D: the sums it leaves. -/
theorem stD_2 (c : Dev nD) (t : Fin cfg0.N) (h0 : ¬t.val % 8 = 0) (h1 : t.val % 8 ≤ t.val / 8 % 8) (h2 : t.val / 8 % 8 = t.val % 8) (p : St F) : (stD m c t h0 h1 h2 p).2.1 = stepL (scPt m c t) p.1 p.2.1 := by
  unfold stD atD; dsimp only; rw [outD_2]

/-- Case D: the weighted sums it leaves. -/
theorem stD_3 (c : Dev nD) (t : Fin cfg0.N) (h0 : ¬t.val % 8 = 0) (h1 : t.val % 8 ≤ t.val / 8 % 8) (h2 : t.val / 8 % 8 = t.val % 8) (p : St F) : (stD m c t h0 h1 h2 p).2.2.1 = stepA (iblk m c 2 t) (scPt m c t) p.1 p.2.2.1 := by
  unfold stD atD; dsimp only; rw [outD_3]

/-- Case E: the maxima it leaves. -/
theorem stE_1 (c : Dev nD) (t : Fin cfg0.N) (h0 : ¬t.val % 8 = 0) (h1 : t.val % 8 ≤ t.val / 8 % 8) (h2 : ¬t.val / 8 % 8 = t.val % 8) (p : St F) : (stE m c t h0 h1 h2 p).1 = stepM (scPt m c t) p.1 := by
  unfold stE atE; dsimp only; rw [outE_1]

/-- Case E: the sums it leaves. -/
theorem stE_2 (c : Dev nD) (t : Fin cfg0.N) (h0 : ¬t.val % 8 = 0) (h1 : t.val % 8 ≤ t.val / 8 % 8) (h2 : ¬t.val / 8 % 8 = t.val % 8) (p : St F) : (stE m c t h0 h1 h2 p).2.1 = stepL (scPt m c t) p.1 p.2.1 := by
  unfold stE atE; dsimp only; rw [outE_2]

/-- Case E: the weighted sums it leaves. -/
theorem stE_3 (c : Dev nD) (t : Fin cfg0.N) (h0 : ¬t.val % 8 = 0) (h1 : t.val % 8 ≤ t.val / 8 % 8) (h2 : ¬t.val / 8 % 8 = t.val % 8) (p : St F) : (stE m c t h0 h1 h2 p).2.2.1 = stepA (iblk m c 2 t) (scPt m c t) p.1 p.2.2.1 := by
  unfold stE atE; dsimp only; rw [outE_3]

end Cert.KernelIdeal.Attn

end
-- ==== Proof.Math.lean ====
module

public import Idealize.ShloMosaic.PureOps.Ideal.Laws

@[expose] public section

noncomputable section

namespace Cert.Attn

open Idealize.ShloMosaic

/-! ## Real entries among the extended reals -/

/-- The entry is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩

/-- The sum of real numbers is the sum of the extended reals that they are. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i ∈ s, IsReal (f i)) : IsReal (∑ i ∈ s, f i) := by
  refine ⟨∑ i ∈ s, (f i).toReal, ?_⟩
  rw [coe_sum]
  refine Finset.sum_congr rfl fun i hi => ?_
  obtain ⟨r, hr⟩ := h i hi
  rw [hr, EReal.toReal_coe]

theorem IsReal.coe_toReal {x : EReal} : IsReal x → ((x.toReal : ℝ) : EReal) = x
  | ⟨r, hr⟩ => by rw [hr, EReal.toReal_coe]

theorem isReal_of_ne {x : EReal} (hb : x ≠ ⊥) (ht : x ≠ ⊤) : IsReal x := ⟨x.toReal, (EReal.coe_toReal ht hb).symm⟩

theorem div_real (x : ℝ) {y : ℝ} (h : y ≠ 0) : Ideal.div (x : EReal) (y : EReal) = ((x / y : ℝ) : EReal) := by
  rw [Ideal.div_coe h, ← EReal.coe_mul, mul_one_div]

/-! ## The causal weights of one query -/

/-- The weight of key `k` for the query at position `q`, with scores `σ` shifted by `μ`: nothing past the query. -/
def wgt (q : ℕ) (σ : ℕ → ℝ) (μ : ℝ) (k : ℕ) : ℝ := if k ≤ q then Real.exp (σ k - μ) else 0
/-- The weights of the first `n` keys, summed. -/
def tot (q : ℕ) (σ : ℕ → ℝ) (μ : ℝ) (n : ℕ) : ℝ := ∑ k ∈ Finset.range n, wgt q σ μ k
/-- The values `v` of the first `n` keys, weighted and summed. -/
def wtot (q : ℕ) (σ v : ℕ → ℝ) (μ : ℝ) (n : ℕ) : ℝ := ∑ k ∈ Finset.range n, wgt q σ μ k * v k

/-- Another shift scales every weight alike. -/
theorem wgt_shift (q : ℕ) (σ : ℕ → ℝ) (μ ν : ℝ) (k : ℕ) : wgt q σ ν k = Real.exp (μ - ν) * wgt q σ μ k := by
  unfold wgt
  split
  · rw [← Real.exp_add]; congr 1; ring
  · rw [mul_zero]
theorem tot_shift (q : ℕ) (σ : ℕ → ℝ) (μ ν : ℝ) (n : ℕ) : tot q σ ν n = Real.exp (μ - ν) * tot q σ μ n := by
  unfold tot; rw [Finset.mul_sum]; exact Finset.sum_congr rfl fun k _ => wgt_shift q σ μ ν k
theorem wtot_shift (q : ℕ) (σ v : ℕ → ℝ) (μ ν : ℝ) (n : ℕ) : wtot q σ v ν n = Real.exp (μ - ν) * wtot q σ v μ n := by
  unfold wtot; rw [Finset.mul_sum]; exact Finset.sum_congr rfl fun k _ => by rw [wgt_shift q σ μ ν k, mul_assoc]

theorem tot_pos (q : ℕ) (σ : ℕ → ℝ) (μ : ℝ) {n : ℕ} (hn : q < n) : 0 < tot q σ μ n := by
  unfold tot
  refine Finset.sum_pos' (fun k _ => ?_) ⟨q, Finset.mem_range.2 hn, ?_⟩
  · unfold wgt; split
    · exact (Real.exp_pos _).le
    · exact le_rfl
  · unfold wgt; rw [if_pos le_rfl]; exact Real.exp_pos _

/-- Keys past the query add nothing. -/
theorem tot_stop (q : ℕ) (σ : ℕ → ℝ) (μ : ℝ) {n : ℕ} (hn : q < n) : tot q σ μ n = tot q σ μ (q + 1) := by
  unfold tot
  refine (Finset.sum_subset (Finset.range_mono hn) fun k _ hk => ?_).symm
  unfold wgt; rw [if_neg (by simpa using hk)]
theorem wtot_stop (q : ℕ) (σ v : ℕ → ℝ) (μ : ℝ) {n : ℕ} (hn : q < n) : wtot q σ v μ n = wtot q σ v μ (q + 1) := by
  unfold wtot
  refine (Finset.sum_subset (Finset.range_mono hn) fun k _ hk => ?_).symm
  unfold wgt; rw [if_neg (by simpa using hk), zero_mul]

/-- The attention of one query over the values `v`: the softmax of the visible scores, applied to the values. -/
def att (q : ℕ) (σ v : ℕ → ℝ) : ℝ := wtot q σ v 0 (q + 1) / tot q σ 0 (q + 1)

/-- It may be computed with any shift, over any number of keys that covers the visible ones. -/
theorem att_eq (q : ℕ) (σ v : ℕ → ℝ) (μ : ℝ) {n : ℕ} (hn : q < n) : wtot q σ v μ n / tot q σ μ n = att q σ v := by
  rw [wtot_stop q σ v μ hn, tot_stop q σ μ hn, wtot_shift q σ v 0 μ, tot_shift q σ 0 μ, att]
  exact mul_div_mul_left _ _ (Real.exp_pos _).ne'

/-! ## One block of keys -/

/-- A block's scores, `-∞` at the hidden keys. -/
abbrev blockScore (q : ℕ) (σ : ℕ → ℝ) (n c : ℕ) : EReal := if n + c ≤ q then ((σ (n + c) : ℝ) : EReal) else ⊥

/-- A block's weight, under a real shift. -/
theorem exp_blockScore (q : ℕ) (σ : ℕ → ℝ) (n c : ℕ) (μ : ℝ) :
    Ideal.exp (blockScore q σ n c - (μ : EReal)) = ((wgt q σ μ (n + c) : ℝ) : EReal) := by
  unfold blockScore wgt
  split
  · rw [← EReal.coe_sub, Ideal.exp_coe]
  · rw [EReal.bot_sub, Ideal.exp_bot]; rfl

/-- The maximum that a block with a visible key leaves is a real number. -/
theorem max_isReal {B : ℕ} (q : ℕ) (σ : ℕ → ℝ) (n : ℕ) (hB : 0 < B) (hn : n ≤ q) (M : EReal) (hM : M = ⊥ ∨ IsReal M) :
    IsReal (max M ((Finset.univ : Finset (Fin B)).fold max ⊥ (fun c => blockScore q σ n c.val))) := by
  refine isReal_of_ne (ne_of_gt ?_) (ne_of_lt ?_)
  · refine lt_of_lt_of_le ?_ (le_max_right _ _)
    refine lt_of_lt_of_le (EReal.bot_lt_coe (σ n)) ((Finset.le_fold_max _).2 (Or.inr ⟨⟨0, hB⟩, Finset.mem_univ _, ?_⟩))
    show _ ≤ blockScore q σ n 0
    unfold blockScore; rw [if_pos (by simpa using hn)]; simp
  · refine max_lt ?_ ((Finset.fold_max_lt _).2 ⟨bot_lt_top, fun c _ => ?_⟩)
    · rcases hM with rfl | ⟨r, rfl⟩
      · exact bot_lt_top
      · exact EReal.coe_lt_top r
    · show blockScore q σ n c.val < ⊤
      unfold blockScore; split
      · exact EReal.coe_lt_top _
      · exact bot_lt_top

/-- What the statistics of a query are after its first `n` keys: nothing yet, or the weighted sums under some real shift. -/
def Stat {D : ℕ} (q : ℕ) (σ : ℕ → ℝ) (v : Fin D → ℕ → ℝ) (n : ℕ) (M L : EReal) (A : Fin D → EReal) : Prop :=
  (n = 0 ∧ M = ⊥ ∧ L = 0 ∧ ∀ d, A d = 0) ∨
    ∃ μ : ℝ, M = (μ : EReal) ∧ L = ((tot q σ μ n : ℝ) : EReal) ∧ ∀ d, A d = ((wtot q σ (v d) μ n : ℝ) : EReal)

/-- The step of a block: the earlier statistics scaled to the new shift, and the block's own weights added. -/
theorem Stat.step {D B : ℕ} {q : ℕ} {σ : ℕ → ℝ} {v : Fin D → ℕ → ℝ} {n : ℕ} {M L : EReal} {A : Fin D → EReal} (hS : Stat q σ v n M L A)
    (hB : 0 < B) (hn : n ≤ q) {M' : EReal} (hM' : M' = max M ((Finset.univ : Finset (Fin B)).fold max ⊥ (fun c => blockScore q σ n c.val))) :
    ∃ μ : ℝ, M' = (μ : EReal) ∧
      Ideal.exp (M - M') * L + ∑ c : Fin B, Ideal.exp (blockScore q σ n c.val - M') = ((tot q σ μ (n + B) : ℝ) : EReal) ∧
      ∀ d, A d * Ideal.exp (M - M') + ∑ c : Fin B, Ideal.exp (blockScore q σ n c.val - M') * ((v d (n + c.val) : ℝ) : EReal)
        = ((wtot q σ (v d) μ (n + B) : ℝ) : EReal) := by
  obtain ⟨μ, hμ⟩ := max_isReal (B := B) q σ n hB hn M (by
    rcases hS with ⟨_, h, _⟩ | ⟨μ, h, _⟩
    · exact Or.inl h
    · exact Or.inr ⟨μ, h⟩)
  rw [← hM'] at hμ
  refine ⟨μ, hμ, ?_, fun d => ?_⟩
  · have e1 : Ideal.exp (M - M') * L = ((tot q σ μ n : ℝ) : EReal) := by
      rcases hS with ⟨rfl, _, hL, _⟩ | ⟨ν, hM, hL, _⟩
      · rw [hL, mul_zero]; unfold tot; simp
      · rw [hM, hL, hμ, ← EReal.coe_sub, Ideal.exp_coe, ← EReal.coe_mul, tot_shift q σ ν μ]
    have e2 : ∑ c : Fin B, Ideal.exp (blockScore q σ n c.val - M') = ((∑ c ∈ Finset.range B, wgt q σ μ (n + c) : ℝ) : EReal) := by
      rw [coe_sum, Finset.sum_range]
      exact Finset.sum_congr rfl fun c _ => by rw [hμ, exp_blockScore]
    rw [e1, e2, ← EReal.coe_add]
    unfold tot; rw [Finset.sum_range_add]
  · have e1 : A d * Ideal.exp (M - M') = ((wtot q σ (v d) μ n : ℝ) : EReal) := by
      rcases hS with ⟨rfl, _, _, hA⟩ | ⟨ν, hM, _, hA⟩
      · rw [hA d, zero_mul]; unfold wtot; simp
      · rw [hM, hA d, hμ, ← EReal.coe_sub, Ideal.exp_coe, ← EReal.coe_mul, wtot_shift q σ (v d) ν μ, mul_comm]
    have e2 : ∑ c : Fin B, Ideal.exp (blockScore q σ n c.val - M') * ((v d (n + c.val) : ℝ) : EReal)
        = ((∑ c ∈ Finset.range B, wgt q σ μ (n + c) * v d (n + c) : ℝ) : EReal) := by
      rw [coe_sum, Finset.sum_range]
      exact Finset.sum_congr rfl fun c _ => by rw [hμ, exp_blockScore, EReal.coe_mul]
    rw [e1, e2, ← EReal.coe_add]
    unfold wtot; rw [Finset.sum_range_add]

theorem Stat.ofReal {D : ℕ} {q : ℕ} {σ : ℕ → ℝ} {v : Fin D → ℕ → ℝ} {n : ℕ} {M L : EReal} {A : Fin D → EReal}
    (h : ∃ μ : ℝ, M = (μ : EReal) ∧ L = ((tot q σ μ n : ℝ) : EReal) ∧ ∀ d, A d = ((wtot q σ (v d) μ n : ℝ) : EReal)) : Stat q σ v n M L A := Or.inr h

/-- Once the visible keys are covered, the quotient is the attention. -/
theorem Stat.quot {D : ℕ} {q : ℕ} {σ : ℕ → ℝ} {v : Fin D → ℕ → ℝ} {n : ℕ} {M L : EReal} {A : Fin D → EReal} (hS : Stat q σ v n M L A)
    (hn : q < n) (d : Fin D) : Ideal.div (A d) L = ((att q σ (v d) : ℝ) : EReal) := by
  rcases hS with ⟨rfl, _⟩ | ⟨μ, _, hL, hA⟩
  · exact absurd hn (Nat.not_lt_zero _)
  · rw [hA d, hL, div_real _ (tot_pos q σ μ hn).ne', att_eq q σ (v d) μ hn]

/-- The same attention with the weights normalised first, over `n` keys that cover the visible ones. -/
theorem softmax_att {n : ℕ} (q : ℕ) (σ v : ℕ → ℝ) (hn : q < n) {M : EReal} (hM : IsReal M) :
    ∑ k : Fin n, ((v k.val : ℝ) : EReal) * Ideal.div (Ideal.exp (blockScore q σ 0 k.val - M)) (0 + ∑ i : Fin n, Ideal.exp (blockScore q σ 0 i.val - M))
      = ((att q σ v : ℝ) : EReal) := by
  obtain ⟨μ, rfl⟩ := hM
  have et : (0 : EReal) + ∑ i : Fin n, Ideal.exp (blockScore q σ 0 i.val - (μ : EReal)) = ((tot q σ μ n : ℝ) : EReal) := by
    unfold tot
    rw [zero_add, coe_sum, Finset.sum_range]
    exact Finset.sum_congr rfl fun i _ => by rw [exp_blockScore, Nat.zero_add]
  rw [et, ← att_eq q σ v μ hn]
  unfold wtot
  rw [Finset.sum_div, coe_sum, Finset.sum_range]
  refine Finset.sum_congr rfl fun k _ => ?_
  rw [exp_blockScore, Nat.zero_add, div_real _ (tot_pos q σ μ hn).ne', ← EReal.coe_mul]
  congr 1; ring

/-! ## The arrays -/

/-- Row `k` of sequence `b` among the rows of the two sequences. -/
def rowOf (b k : ℕ) : Fin 8192 := ⟨(b * 4096 + k) % 8192, Nat.mod_lt _ (by decide)⟩
/-- Column `d` of head `h` among a head's 256, and among a head's 128. -/
def col256 (h : Fin 8) (d : Fin 256) : Fin 2048 := ⟨h.val * 256 + d.val, by omega⟩
def col128 (h : Fin 8) (d : Fin 128) : Fin 1024 := ⟨h.val * 128 + d.val, by omega⟩

/-- The score of a key row for a query row: the latent part and the rotary part. -/
def score (Q : Fin 8192 → Fin 2048 → EReal) (P : Fin 8192 → Fin 1024 → EReal) (C : Fin 8192 → Fin 256 → EReal) (R : Fin 8192 → Fin 128 → EReal)
    (h : Fin 8) (q k : Fin 8192) : EReal :=
  ∑ d : Fin 256, Q q (col256 h d) * C k d + ∑ d : Fin 128, P q (col128 h d) * R k d

theorem score_isReal {Q : Fin 8192 → Fin 2048 → EReal} {P : Fin 8192 → Fin 1024 → EReal} {C : Fin 8192 → Fin 256 → EReal} {R : Fin 8192 → Fin 128 → EReal}
    (hQ : ∀ r c, IsReal (Q r c)) (hP : ∀ r c, IsReal (P r c)) (hC : ∀ r c, IsReal (C r c)) (hR : ∀ r c, IsReal (R r c)) (h : Fin 8) (q k : Fin 8192) :
    IsReal (score Q P C R h q k) :=
  (IsReal.sum _ _ fun d _ => (hQ _ _).mul (hC _ _)).add (IsReal.sum _ _ fun d _ => (hP _ _).mul (hR _ _))

/-- The real scores of the query at position `q` of sequence `b`, key by key. -/
def scoreR (Q : Fin 8192 → Fin 2048 → EReal) (P : Fin 8192 → Fin 1024 → EReal) (C : Fin 8192 → Fin 256 → EReal) (R : Fin 8192 → Fin 128 → EReal)
    (b : ℕ) (h : Fin 8) (q k : ℕ) : ℝ := (score Q P C R h (rowOf b q) (rowOf b k)).toReal
/-- The real latent values, key by key. -/
def valR (C : Fin 8192 → Fin 256 → EReal) (b : ℕ) (d : Fin 256) (k : ℕ) : ℝ := (C (rowOf b k) d).toReal

/-- The result at position `q` of sequence `b`, head `h`, lane `j`: the attended latent row times the head's value weights. -/
def result (Q : Fin 8192 → Fin 2048 → EReal) (P : Fin 8192 → Fin 1024 → EReal) (C : Fin 8192 → Fin 256 → EReal) (R : Fin 8192 → Fin 128 → EReal)
    (W : Fin 256 → Fin 8 → Fin 128 → EReal) (b q : ℕ) (h : Fin 8) (j : Fin 128) : EReal :=
  ∑ d : Fin 256, ((att q (scoreR Q P C R b h q) (valR C b d) : ℝ) : EReal) * W d h j

end Cert.Attn

end
-- ==== Proof.Attn.Read.lean ====
module

public import proofs.«01_k».proof.Proof.Attn.Steps
public import proofs.«01_k».proof.Proof.Math
public import Idealize.ShloMosaic.Lib.ValueIdx
public import Idealize.ShloMosaic.Lib.MatmulPlain
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx Cert.Attn

/-! ## Layout operations at an index -/

theorem drop1 {α : Type} {n k : ℕ} (x : (⟨3, ![1, n, k]⟩ : Shape).Idx → α) (h : (⟨3, ![1, n, k]⟩ : Shape).ShapeCasts ⟨2, ![n, k]⟩) (r : Fin n) (j : Fin k) :
    shapeCast ⟨2, ![n, k]⟩ x h (ix2 r j) = x (ix3 (0 : Fin 1) r j) :=
  (shapeCast_dropUnit_apply ![n, k] x h (ix2 r j)).trans (congrArg x (by funext a; match a with | ⟨0, _⟩ => rfl | ⟨1, _⟩ => rfl | ⟨2, _⟩ => rfl))

theorem add1 {α : Type} {n k : ℕ} (x : (⟨2, ![n, k]⟩ : Shape).Idx → α) (h : (⟨2, ![n, k]⟩ : Shape).ShapeCasts ⟨3, ![1, n, k]⟩) (r : Fin n) (j : Fin k) :
    shapeCast ⟨3, ![1, n, k]⟩ x h (ix3 (0 : Fin 1) r j) = x (ix2 r j) :=
  (shapeCast_addUnit_apply ![n, k] x h (ix3 (0 : Fin 1) r j)).trans (congrArg x (by funext a; match a with | ⟨0, _⟩ => rfl | ⟨1, _⟩ => rfl))

/-- A column broadcast along its rows. -/
theorem bcol {α : Type} {n k : ℕ} (hn : n ≠ 1) (x : (⟨2, ![n, 1]⟩ : Shape).Idx → α) (h : (⟨2, ![n, 1]⟩ : Shape).Broadcasts ⟨2, ![n, k]⟩) (r : Fin n) (j : Fin k) :
    broadcastTo ⟨2, ![n, k]⟩ x h (ix2 r j) = x (ix2 r (0 : Fin 1)) :=
  broadcastTo_apply x h (ix2 r j) (ix2 r (0 : Fin 1)) (fun a => match a with | ⟨0, _⟩ => (if_neg hn).symm | ⟨1, _⟩ => rfl)

/-- A vector as a column. -/
theorem tocol {α : Type} {n : ℕ} (x : (⟨1, ![n]⟩ : Shape).Idx → α) (h : (⟨1, ![n]⟩ : Shape).ShapeCasts ⟨2, ![n, 1]⟩) (r : Fin n) :
    shapeCast ⟨2, ![n, 1]⟩ x h (ix2 r (0 : Fin 1)) = x (ix1 r) :=
  shapeCast_apply x h _ (ix1 r) (by
    rw [Shape.rowMajor_val_one, Shape.rowMajor_val_two]
    show r.val = r.val * 1 + 0
    omega)

/-- The first column. -/
theorem scol {α : Type} {n k : ℕ} (x : (⟨2, ![n, k + 1]⟩ : Shape).Idx → α) (h : (⟨2, ![n, k + 1]⟩ : Shape).Slices ![0, 0] ⟨2, ![n, 1]⟩) (r : Fin n) :
    extractStridedSlice ⟨2, ![n, 1]⟩ ![0, 0] x h (ix2 r (0 : Fin 1)) = x (ix2 r (0 : Fin (k + 1))) :=
  extractStridedSlice_apply _ x h _ _ (fun a => match a with | ⟨0, _⟩ => (Nat.zero_add _).symm | ⟨1, _⟩ => rfl)

theorem ofBits_zero : Ideal.ofBits .f32 0x00000000#32 = 0 := Ideal.ofBits_zero_f32
theorem ofBits_neginf : Ideal.ofBits .f32 0xFF800000#32 = ⊥ := by simp [Ideal.ofBits, Ideal.ieee]

/-! ## Reductions and products at an index -/

theorem sumRow (x : FVec Ideal S512x512 .f32) (r : Fin 512) :
    multiReduction .add [1] S512 x 0x00000000#32 reduces_S512x512_S512 (.inl rfl) rfl (ix1 r) = ∑ c : Fin 512, x (ix2 r c) := by
  refine (Ideal.multiReduction_add_single x _ _ _ _ _).trans ?_
  refine Finset.sum_congr rfl fun c _ => congrArg x ?_
  funext a; match a with | ⟨0, _⟩ => rfl | ⟨1, _⟩ => rfl

theorem maxRow (x : FVec Ideal S512x512 .f32) (r : Fin 512) :
    multiReduction .maximumf [1] S512 x 0xFF800000#32 reduces_S512x512_S512 (.inl rfl) rfl (ix1 r)
      = (Finset.univ : Finset (Fin 512)).fold max ⊥ (fun c => x (ix2 r c)) := by
  refine (Ideal.multiReduction_maximumf_single x _ _ _ _ _).trans ?_
  have e : (FloatOps.ofBits (F := Ideal) .f32 0xFF800000#32 : EReal) = ⊥ := ofBits_neginf
  rw [e]
  refine congrArg ((Finset.univ : Finset (Fin 512)).fold max ⊥) (funext fun c => congrArg x ?_)
  funext a; match a with | ⟨0, _⟩ => rfl | ⟨1, _⟩ => rfl

/-! ## One head of one grid point -/

theorem headS_apply (msk : IVec S512x512 1) (k : Vec Ideal S512x256 .bf16) (kp : Vec Ideal S512x128 .bf16) (q : Vec Ideal S512x256 .bf16) (qp : Vec Ideal S512x128 .bf16)
    (r c : Fin 512) :
    headS msk k kp q qp (ix2 r c) = Scalar.select (msk (ix2 r c)) ((∑ d : Fin 256, q (ix2 r d) * k (ix2 c d)) + ∑ d : Fin 128, qp (ix2 r d) * kp (ix2 c d) : EReal) ⊥ := by
  unfold headS
  have e1 : FloatOps.matmul (F := Ideal) dot_S512x256_S512x256_S512x512_1_1_0_0_n_n none q k (constant S512x512 .f32 0x00000000#32) (ix2 r c) = ∑ d : Fin 256, q (ix2 r d) * k (ix2 c d) :=
    (Ideal.matmul_transposedRhs_apply (M := 512) (K := 256) (N := 512) none q k (constant S512x512 .f32 0x00000000#32) r c).trans (by
      rw [constant_apply, ofBits_zero, zero_add])
  have e2 : FloatOps.matmul (F := Ideal) dot_S512x128_S512x128_S512x512_1_1_0_0_n_n none qp kp (constant S512x512 .f32 0x00000000#32) (ix2 r c) = ∑ d : Fin 128, qp (ix2 r d) * kp (ix2 c d) :=
    (Ideal.matmul_transposedRhs_apply (M := 512) (K := 128) (N := 512) none qp kp (constant S512x512 .f32 0x00000000#32) r c).trans (by
      rw [constant_apply, ofBits_zero, zero_add])
  have e3 : (Scalar.ofBits (F := Ideal) .f32 0xFF800000#32 : EReal) = ⊥ := ofBits_neginf
  show Scalar.select (msk (ix2 r c)) (_ + _) (Scalar.ofBits (F := Ideal) .f32 0xFF800000#32) = _
  exact congrArg₂ (Scalar.select (msk (ix2 r c))) (congrArg₂ (· + ·) e1 e2) e3

theorem headMax_apply (s : FVec Ideal S512x512 .f32) (mp : Vec Ideal S1x512x128 .f32) (r : Fin 512) (j : Fin 128) :
    headMax s mp (ix2 r j) = max (mp (ix3 (0 : Fin 1) r j)) ((Finset.univ : Finset (Fin 512)).fold max ⊥ (fun c => s (ix2 r c))) := by
  unfold headMax
  rw [maximumf_apply]
  refine congrArg₂ max (drop1 mp _ r j) ?_
  exact (bcol (by decide) _ _ r j).trans ((tocol _ _ r).trans (maxRow s r))

theorem headM_apply (s : FVec Ideal S512x512 .f32) (mp : Vec Ideal S1x512x128 .f32) (r : Fin 512) (j : Fin 128) :
    headM s mp (ix3 (0 : Fin 1) r j) = headMax s mp (ix2 r j) := add1 _ _ r j

theorem headDecay_apply (s : FVec Ideal S512x512 .f32) (mp : Vec Ideal S1x512x128 .f32) (r : Fin 512) (j : Fin 128) :
    headDecay s mp (ix2 r j) = Ideal.exp (mp (ix3 (0 : Fin 1) r j) - headMax s mp (ix2 r j)) := by
  unfold headDecay
  exact congrArg (fun z => Ideal.exp (z - headMax s mp (ix2 r j))) (drop1 mp _ r j)

theorem headW_apply (s : FVec Ideal S512x512 .f32) (mp : Vec Ideal S1x512x128 .f32) (r c : Fin 512) :
    headW s mp (ix2 r c) = Ideal.exp (s (ix2 r c) - headMax s mp (ix2 r (0 : Fin 128))) := by
  unfold headW
  exact congrArg (fun z => Ideal.exp (s (ix2 r c) - z)) ((bcol (by decide) _ _ r c).trans (scol (k := 127) _ _ r))

theorem headL_apply (s : FVec Ideal S512x512 .f32) (mp lp : Vec Ideal S1x512x128 .f32) (r : Fin 512) (j : Fin 128) :
    headL s mp lp (ix3 (0 : Fin 1) r j) = headDecay s mp (ix2 r j) * lp (ix3 (0 : Fin 1) r j) + ∑ c : Fin 512, headW s mp (ix2 r c) := by
  unfold headL
  refine (add1 _ _ r j).trans ?_
  rw [addf_apply, mulf_apply]
  refine congrArg₂ (fun a b : EReal => headDecay s mp (ix2 r j) * a + b) (drop1 lp _ r j) ?_
  exact (bcol (by decide) _ _ r j).trans ((tocol _ _ r).trans (sumRow _ r))

theorem headA_apply (k : Vec Ideal S512x256 .bf16) (s : FVec Ideal S512x512 .f32) (mp : Vec Ideal S1x512x128 .f32) (ap : Vec Ideal S1x512x256 .f32) (r : Fin 512) (d : Fin 256) :
    headA k s mp ap (ix3 (0 : Fin 1) r d) = ap (ix3 (0 : Fin 1) r d) * headDecay s mp (ix2 r (0 : Fin 128)) + ∑ c : Fin 512, headW s mp (ix2 r c) * k (ix2 c d) := by
  unfold headA
  refine (add1 _ _ r d).trans ?_
  rw [addf_apply, mulf_apply]
  have e1 := drop1 ap shapeCasts_S1x512x256_S512x256 r d
  have e2 : broadcastTo S512x256 (extractStridedSlice S512x1 ![0, 0] (headDecay s mp) slices_S512x128_o0_0_S512x1) broadcasts_S512x1_S512x256 (ix2 r d) = headDecay s mp (ix2 r (0 : Fin 128)) :=
    (bcol (by decide) _ _ r d).trans (scol (k := 127) _ _ r)
  have e3 : FloatOps.matmul (F := Ideal) dot_S512x512_S512x256_S512x256_1_0_0_1_n_n none (truncf .bf16 (headW s mp) bitsLt_bf16_f32) k (constant S512x256 .f32 0x00000000#32) (ix2 r d)
      = ∑ c : Fin 512, headW s mp (ix2 r c) * k (ix2 c d) :=
    (Ideal.matmul_plain_apply (M := 512) (K := 512) (N := 256) none (truncf .bf16 (headW s mp) bitsLt_bf16_f32) k (constant S512x256 .f32 0x00000000#32) r d).trans (by
      rw [constant_apply, ofBits_zero, zero_add]; rfl)
  exact congrArg₂ (· + ·) (congrArg₂ (· * ·) e1 e2) e3

theorem headO_apply (ap : Vec Ideal S1x512x256 .f32) (lp : Vec Ideal S1x512x128 .f32) (w : Vec Ideal S1x256x128 .bf16) (r : Fin 512) (j : Fin 128) :
    headO ap lp w (ix2 r j) = ∑ d : Fin 256, Ideal.div (ap (ix3 (0 : Fin 1) r d)) (lp (ix3 (0 : Fin 1) r (0 : Fin 128))) * w (ix3 (0 : Fin 1) d j) := by
  unfold headO
  rw [truncf_apply]
  refine (Ideal.matmul_plain_apply (M := 512) (K := 256) (N := 128) none _ _ (constant S512x128 .f32 0x00000000#32) r j).trans ?_
  rw [constant_apply, ofBits_zero, zero_add]
  refine Finset.sum_congr rfl fun d _ => ?_
  refine congrArg₂ (· * ·) ?_ (drop1 w _ d j)
  rw [truncf_apply, divf_apply]
  refine congrArg₂ Ideal.div (drop1 ap _ r d) ?_
  exact (bcol (by decide) _ _ r d).trans ((scol (k := 127) _ _ r).trans (drop1 lp _ r (0 : Fin 128)))

end Cert.KernelIdeal.Attn

end
-- ==== Proof.Attn.Blocks.lean ====
module

public import proofs.«01_k».proof.Proof.Attn.Read
public import Mathlib.Tactic.IntervalCases

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx Cert.Attn

/-! ## The causal mask -/

theorem toInt_small (n : ℕ) (h : n < 2147483648) : (BitVec.ofNat 32 n).toInt = (n : ℤ) := by
  rw [BitVec.toInt_eq_toNat_cond, BitVec.toNat_ofNat, Nat.mod_eq_of_lt (by omega)]
  rw [if_pos (by omega)]

theorem toInt_diff (a b : ℕ) (ha : a < 1073741824) (hb : b < 1073741824) : (BitVec.ofNat 32 a - BitVec.ofNat 32 b).toInt = (a : ℤ) - (b : ℤ) := by
  rw [BitVec.toInt_sub, toInt_small a (by omega), toInt_small b (by omega)]
  refine Int.bmod_eq_of_le ?_ ?_ <;> omega

theorem mul512 (n : ℕ) (h : n < 8) : Scalar.muli (BitVec.ofNat 32 n) 512#32 = BitVec.ofNat 32 (n * 512) := by
  interval_cases n <;> rfl

/-- A key is visible exactly when its position in the sequence is not after the query's. -/
theorem mask_apply (qi ki : ℕ) (hq : qi < 8) (hk : ki < 8) (r c : Fin 512) :
    k0_pay6 (BitVec.ofNat 32 qi) (BitVec.ofNat 32 ki) (ix2 r c) = if ki * 512 + c.val ≤ qi * 512 + r.val then 1#1 else 0#1 := by
  unfold k0_pay6
  show BitVec.ofBool (BitVec.sle (iota .tc S512x512 32 [1] iota_S512x512_d1_w32 (ix2 r c) - iota .tc S512x512 32 [0] iota_S512x512_d0_w32 (ix2 r c))
    (Scalar.muli (BitVec.ofNat 32 qi) 512#32 - Scalar.muli (BitVec.ofNat 32 ki) 512#32)) = _
  rw [mul512 qi hq, mul512 ki hk, iota_single_apply, iota_single_apply]
  show BitVec.ofBool (BitVec.sle (BitVec.ofNat 32 c.val - BitVec.ofNat 32 r.val) (BitVec.ofNat 32 (qi * 512) - BitVec.ofNat 32 (ki * 512))) = _
  have e : BitVec.sle (BitVec.ofNat 32 c.val - BitVec.ofNat 32 r.val) (BitVec.ofNat 32 (qi * 512) - BitVec.ofNat 32 (ki * 512))
      = decide (ki * 512 + c.val ≤ qi * 512 + r.val) := by
    rw [BitVec.sle, toInt_diff c.val r.val (by omega) (by omega), toInt_diff (qi * 512) (ki * 512) (by omega) (by omega)]
    exact decide_eq_decide.2 (by omega)
  rw [e]
  by_cases h : ki * 512 + c.val ≤ qi * 512 + r.val
  · rw [if_pos h, decide_eq_true h]; rfl
  · rw [if_neg h, decide_eq_false h]; rfl

/-! ## The blocks of the arguments -/

theorem rowB : ∀ (a : Fin 2) (b : Fin 8), (Scalar.addi (Scalar.muli (BitVec.ofNat 32 a.val) 8#32) (BitVec.ofNat 32 b.val)).toNat = a.val * 8 + b.val := by decide
theorem rowK : ∀ (a : Fin 2) (b c : Fin 8),
    (Scalar.addi (Scalar.muli (BitVec.ofNat 32 a.val) 8#32) (Scalar.minsi (BitVec.ofNat 32 c.val) (BitVec.ofNat 32 b.val))).toNat = a.val * 8 + min c.val b.val := by decide

theorem coord0 (t : Fin cfg0.N) : (grid0.coords t 0).val = t.val / 64 % 2 := Pipeline.Grid.coords_val t 0 (by decide) rfl
theorem coord1 (t : Fin cfg0.N) : (grid0.coords t 1).val = t.val / 8 % 8 := Pipeline.Grid.coords_val t 1 (by decide) rfl
theorem coord2 (t : Fin cfg0.N) : (grid0.coords t 2).val = t.val / 1 % 8 := Pipeline.Grid.coords_val t 2 (by decide) rfl
theorem lt128 (t : Fin cfg0.N) : t.val < 128 := lt_of_lt_of_eq t.isLt N_0

theorem ldQ {α : Type} (X : S512x2048.Idx → α) (h : Fin 8) (r : Fin 512) (d : Fin 256) : X ((colsQ h).emb (ix2 r d)) = X (ix2 r (col256 h d)) :=
  congrArg X (funext fun a => match a with
    | ⟨0, _⟩ => Fin.ext (show 0 + 1 * r.val = r.val by omega)
    | ⟨1, _⟩ => Fin.ext (show h.val * 256 + 1 * d.val = h.val * 256 + d.val by omega))
theorem ldP {α : Type} (X : S512x1024.Idx → α) (h : Fin 8) (r : Fin 512) (d : Fin 128) : X ((colsP h).emb (ix2 r d)) = X (ix2 r (col128 h d)) :=
  congrArg X (funext fun a => match a with
    | ⟨0, _⟩ => Fin.ext (show 0 + 1 * r.val = r.val by omega)
    | ⟨1, _⟩ => Fin.ext (show h.val * 128 + 1 * d.val = h.val * 128 + d.val by omega))
theorem ldW {α : Type} (X : S8x256x128.Idx → α) (h : Fin 8) (d : Fin 256) (j : Fin 128) : X ((slabW h).emb (ix3 (0 : Fin 1) d j)) = X (ix3 h d j) :=
  congrArg X (funext fun a => match a with
    | ⟨0, _⟩ => Fin.ext (show h.val + 1 * 0 = h.val by omega)
    | ⟨1, _⟩ => Fin.ext (show 0 + 1 * d.val = d.val by omega)
    | ⟨2, _⟩ => Fin.ext (show 0 + 1 * j.val = j.val by omega))

section Values

variable (m : (ℓ : Loc nD τ sig) → Buf (Elt Ideal) ℓ)

/-- The arguments by coordinates: latent and rotary queries, latent and rotary keys, the value weights. -/
def argQ (c : Dev nD) (r : Fin 8192) (d : Fin 2048) : EReal := (m ((c : Thread nD τ).loc main_arg0) : S8192x2048.Idx → EReal) (ix2 r d)
def argP (c : Dev nD) (r : Fin 8192) (d : Fin 1024) : EReal := (m ((c : Thread nD τ).loc main_arg1) : S8192x1024.Idx → EReal) (ix2 r d)
def argC (c : Dev nD) (r : Fin 8192) (d : Fin 256) : EReal := (m ((c : Thread nD τ).loc main_arg2) : S8192x256.Idx → EReal) (ix2 r d)
def argR (c : Dev nD) (r : Fin 8192) (d : Fin 128) : EReal := (m ((c : Thread nD τ).loc main_arg3) : S8192x128.Idx → EReal) (ix2 r d)
def argW (c : Dev nD) (d : Fin 256) (h : Fin 8) (j : Fin 128) : EReal := (m ((c : Thread nD τ).loc main_arg4) : S256x8x128.Idx → EReal) (ix3 d h j)

theorem index0_0 (t : Fin cfg0.N) : (cfg0.win 0).index t 0 = t.val / 64 % 2 * 8 + t.val / 8 % 8 := by
  rw [← coord0, ← coord1]
  exact rowB (grid0.coords t 0) (grid0.coords t 1)
theorem iblk0_apply (c : Dev nD) (t : Fin cfg0.N) (r : Fin 512) (d : Fin 2048) :
    (iblk m c 0 t : S512x2048.Idx → EReal) (ix2 r d) = argQ m c (rowOf (t.val / 64) (t.val / 8 % 8 * 512 + r.val)) d := by
  have hV := V_main_arg0 m c
  have ht := lt128 t
  unfold argQ
  show V m c main_arg0 (((cfg0.win 0).rect t).emb (ix2 r d)) = _
  rw [hV]
  refine congrArg (m ((c : Thread nD τ).loc main_arg0) : S8192x2048.Idx → EReal) (funext fun a => match a with
    | ⟨0, _⟩ => Fin.ext ?_
    | ⟨1, _⟩ => Fin.ext ?_)
  · refine ((cfg0.win 0).rect_emb_val t (ix2 r d) 0).trans ?_
    rw [index0_0]
    show (t.val / 64 % 2 * 8 + _) * 512 + r.val = (t.val / 64 * 4096 + (t.val / 8 % 8 * 512 + r.val)) % 8192
    have := r.isLt
    omega
  · refine ((cfg0.win 0).rect_emb_val t (ix2 r d) 1).trans ?_
    show 0 * 2048 + d.val = d.val
    omega

theorem index0_1 (t : Fin cfg0.N) : (cfg0.win 1).index t 0 = t.val / 64 % 2 * 8 + t.val / 8 % 8 := by
  rw [← coord0, ← coord1]
  exact rowB (grid0.coords t 0) (grid0.coords t 1)
theorem iblk1_apply (c : Dev nD) (t : Fin cfg0.N) (r : Fin 512) (d : Fin 1024) :
    (iblk m c 1 t : S512x1024.Idx → EReal) (ix2 r d) = argP m c (rowOf (t.val / 64) (t.val / 8 % 8 * 512 + r.val)) d := by
  have hV := V_main_arg1 m c
  have ht := lt128 t
  unfold argP
  show V m c main_arg1 (((cfg0.win 1).rect t).emb (ix2 r d)) = _
  rw [hV]
  refine congrArg (m ((c : Thread nD τ).loc main_arg1) : S8192x1024.Idx → EReal) (funext fun a => match a with
    | ⟨0, _⟩ => Fin.ext ?_
    | ⟨1, _⟩ => Fin.ext ?_)
  · refine ((cfg0.win 1).rect_emb_val t (ix2 r d) 0).trans ?_
    rw [index0_1]
    show (t.val / 64 % 2 * 8 + _) * 512 + r.val = (t.val / 64 * 4096 + (t.val / 8 % 8 * 512 + r.val)) % 8192
    have := r.isLt
    omega
  · refine ((cfg0.win 1).rect_emb_val t (ix2 r d) 1).trans ?_
    show 0 * 1024 + d.val = d.val
    omega

theorem index0_2 (t : Fin cfg0.N) : (cfg0.win 2).index t 0 = t.val / 64 % 2 * 8 + min (t.val / 1 % 8) (t.val / 8 % 8) := by
  rw [← coord0, ← coord1, ← coord2]
  exact rowK (grid0.coords t 0) (grid0.coords t 1) (grid0.coords t 2)
theorem iblk2_apply (c : Dev nD) (t : Fin cfg0.N) (hk : t.val % 8 ≤ t.val / 8 % 8) (r : Fin 512) (d : Fin 256) :
    (iblk m c 2 t : S512x256.Idx → EReal) (ix2 r d) = argC m c (rowOf (t.val / 64) (t.val % 8 * 512 + r.val)) d := by
  have hV := V_main_arg2 m c
  have ht := lt128 t
  unfold argC
  show V m c main_arg2 (((cfg0.win 2).rect t).emb (ix2 r d)) = _
  rw [hV]
  refine congrArg (m ((c : Thread nD τ).loc main_arg2) : S8192x256.Idx → EReal) (funext fun a => match a with
    | ⟨0, _⟩ => Fin.ext ?_
    | ⟨1, _⟩ => Fin.ext ?_)
  · refine ((cfg0.win 2).rect_emb_val t (ix2 r d) 0).trans ?_
    rw [index0_2]
    show (t.val / 64 % 2 * 8 + _) * 512 + r.val = (t.val / 64 * 4096 + (t.val % 8 * 512 + r.val)) % 8192
    have := r.isLt
    omega
  · refine ((cfg0.win 2).rect_emb_val t (ix2 r d) 1).trans ?_
    show 0 * 256 + d.val = d.val
    omega

theorem index0_3 (t : Fin cfg0.N) : (cfg0.win 3).index t 0 = t.val / 64 % 2 * 8 + min (t.val / 1 % 8) (t.val / 8 % 8) := by
  rw [← coord0, ← coord1, ← coord2]
  exact rowK (grid0.coords t 0) (grid0.coords t 1) (grid0.coords t 2)
theorem iblk3_apply (c : Dev nD) (t : Fin cfg0.N) (hk : t.val % 8 ≤ t.val / 8 % 8) (r : Fin 512) (d : Fin 128) :
    (iblk m c 3 t : S512x128.Idx → EReal) (ix2 r d) = argR m c (rowOf (t.val / 64) (t.val % 8 * 512 + r.val)) d := by
  have hV := V_main_arg3 m c
  have ht := lt128 t
  unfold argR
  show V m c main_arg3 (((cfg0.win 3).rect t).emb (ix2 r d)) = _
  rw [hV]
  refine congrArg (m ((c : Thread nD τ).loc main_arg3) : S8192x128.Idx → EReal) (funext fun a => match a with
    | ⟨0, _⟩ => Fin.ext ?_
    | ⟨1, _⟩ => Fin.ext ?_)
  · refine ((cfg0.win 3).rect_emb_val t (ix2 r d) 0).trans ?_
    rw [index0_3]
    show (t.val / 64 % 2 * 8 + _) * 512 + r.val = (t.val / 64 * 4096 + (t.val % 8 * 512 + r.val)) % 8192
    have := r.isLt
    omega
  · refine ((cfg0.win 3).rect_emb_val t (ix2 r d) 1).trans ?_
    show 0 * 128 + d.val = d.val
    omega

/-- The weights as the region finds them: the argument with the head axis in front, rounded. -/
theorem V_weights (c : Dev nD) : V m c main_v1
    = (truncf .bf16 (transpose S8x256x128 [1, 0, 2] (m ((c : Thread nD τ).loc main_arg4)) transposes_S256x8x128_S8x256x128_1_0_2) bitsLt_bf16_f32 : FVec Ideal S8x256x128 .bf16) := rfl

theorem iblk4_apply (c : Dev nD) (t : Fin cfg0.N) (h : Fin 8) (d : Fin 256) (j : Fin 128) :
    (iblk m c 4 t : S8x256x128.Idx → EReal) (ix3 h d j) = argW m c d h j := by
  have hV := V_weights m c
  unfold argW
  show V m c main_v1 (((cfg0.win 4).rect t).emb (ix3 h d j)) = _
  have he : ((cfg0.win 4).rect t).emb (ix3 h d j) = (ix3 h d j : S8x256x128.Idx) := funext fun a => match a with
    | ⟨0, _⟩ => Fin.ext (((cfg0.win 4).rect_emb_val_of_index_zero t 0 rfl (ix3 h d j)).trans rfl)
    | ⟨1, _⟩ => Fin.ext (((cfg0.win 4).rect_emb_val_of_index_zero t 1 rfl (ix3 h d j)).trans rfl)
    | ⟨2, _⟩ => Fin.ext (((cfg0.win 4).rect_emb_val_of_index_zero t 2 rfl (ix3 h d j)).trans rfl)
  rw [hV]
  refine (congrArg _ he).trans ?_
  rw [truncf_apply]
  exact transpose_apply [1, 0, 2] _ transposes_S256x8x128_S8x256x128_1_0_2 (ix3 h d j) (ix3 d h j) (fun a => match a with | ⟨0, _⟩ => rfl | ⟨1, _⟩ => rfl | ⟨2, _⟩ => rfl)

/-! ## The scores of a point -/

theorem score_of (Q : Fin 8192 → Fin 2048 → EReal) (P : Fin 8192 → Fin 1024 → EReal) (C : Fin 8192 → Fin 256 → EReal) (R : Fin 8192 → Fin 128 → EReal)
    (h : Fin 8) (q k : Fin 8192) (x y : Fin 256 → EReal) (z w : Fin 128 → EReal) (hx : ∀ d, x d = Q q (col256 h d)) (hy : ∀ d, y d = C k d)
    (hz : ∀ d, z d = P q (col128 h d)) (hw : ∀ d, w d = R k d) : (∑ d, x d * y d) + ∑ d, z d * w d = score Q P C R h q k := by
  unfold score
  simp only [hx, hy, hz, hw]

theorem scPt_apply (c : Dev nD) (hQ : ∀ r d, IsReal (argQ m c r d)) (hP : ∀ r d, IsReal (argP m c r d)) (hC : ∀ r d, IsReal (argC m c r d))
    (hR : ∀ r d, IsReal (argR m c r d)) (t : Fin cfg0.N) (hk : t.val % 8 ≤ t.val / 8 % 8) (h : Fin 8) (r k : Fin 512) :
    scPt m c t h (ix2 r k) = blockScore (t.val / 8 % 8 * 512 + r.val)
      (scoreR (argQ m c) (argP m c) (argC m c) (argR m c) (t.val / 64) h (t.val / 8 % 8 * 512 + r.val)) (t.val % 8 * 512) k.val := by
  unfold scPt scoresAt
  rw [headS_apply, coord1, coord2, mask_apply _ _ (Nat.mod_lt _ (by decide)) (Nat.mod_lt _ (by decide)), Nat.div_one]
  have e := score_of (argQ m c) (argP m c) (argC m c) (argR m c) h (rowOf (t.val / 64) (t.val / 8 % 8 * 512 + r.val)) (rowOf (t.val / 64) (t.val % 8 * 512 + k.val))
    (fun d => View.ld (iblk m c 0 t : Vec Ideal S512x2048 .bf16) (colsQ h) (ix2 r d)) (fun d => (iblk m c 2 t : Vec Ideal S512x256 .bf16) (ix2 k d))
    (fun d => View.ld (iblk m c 1 t : Vec Ideal S512x1024 .bf16) (colsP h) (ix2 r d)) (fun d => (iblk m c 3 t : Vec Ideal S512x128 .bf16) (ix2 k d))
    (fun d => (ldQ _ h r d).trans (iblk0_apply m c t r (col256 h d))) (fun d => iblk2_apply m c t hk k d)
    (fun d => (ldP _ h r d).trans (iblk1_apply m c t r (col128 h d))) (fun d => iblk3_apply m c t hk k d)
  unfold blockScore scoreR
  rw [(score_isReal hQ hP hC hR h _ _).coe_toReal]
  by_cases hv : t.val % 8 * 512 + k.val ≤ t.val / 8 % 8 * 512 + r.val
  · rw [if_pos hv, if_pos hv]; exact e
  · rw [if_neg hv, if_neg hv]; rfl

end Values

end Cert.KernelIdeal.Attn

end
-- ==== Proof.Attn.Inv.lean ====
module

public import proofs.«01_k».proof.Proof.Attn.Blocks
public import proofs.«01_k».proof.Proof.Attn.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx Cert.Attn

/-! ## A point's step at an index -/

theorem stepM_apply (s : Fin 8 → FVec Ideal S512x512 .f32) (M : Vec Ideal S8x512x128 .f32) (h : Fin 8) (r : Fin 512) (j : Fin 128) :
    stepM s M (ix3 h r j) = max (M (ix3 h r j)) ((Finset.univ : Finset (Fin 512)).fold max ⊥ (fun c => s h (ix2 r c))) := by
  show headM (s h) (View.ld M (slabM h)) (ix3 (0 : Fin 1) r j) = _
  rw [headM_apply, headMax_apply, ld_slabM]

theorem headMax_lane (s : Fin 8 → FVec Ideal S512x512 .f32) (M : Vec Ideal S8x512x128 .f32) (h : Fin 8) (r : Fin 512) (j : Fin 128) :
    headMax (s h) (View.ld M (slabM h)) (ix2 r j) = stepM s M (ix3 h r j) :=
  (headM_apply _ _ r j).symm

theorem stepL_apply (s : Fin 8 → FVec Ideal S512x512 .f32) (M L : Vec Ideal S8x512x128 .f32) (h : Fin 8) (r : Fin 512) :
    stepL s M L (ix3 h r (0 : Fin 128)) = Ideal.exp (M (ix3 h r (0 : Fin 128)) - stepM s M (ix3 h r (0 : Fin 128))) * L (ix3 h r (0 : Fin 128))
      + ∑ c : Fin 512, Ideal.exp (s h (ix2 r c) - stepM s M (ix3 h r (0 : Fin 128))) := by
  show headL (s h) (View.ld M (slabM h)) (View.ld L (slabM h)) (ix3 (0 : Fin 1) r (0 : Fin 128)) = _
  rw [headL_apply, headDecay_apply, ld_slabM, ld_slabM, headMax_lane]
  refine congrArg₂ (· + ·) rfl (Finset.sum_congr rfl fun c _ => ?_)
  rw [headW_apply, headMax_lane]

theorem stepA_apply (k : Vec Ideal S512x256 .bf16) (s : Fin 8 → FVec Ideal S512x512 .f32) (M : Vec Ideal S8x512x128 .f32) (A : Vec Ideal S8x512x256 .f32) (h : Fin 8) (r : Fin 512) (d : Fin 256) :
    stepA k s M A (ix3 h r d) = A (ix3 h r d) * Ideal.exp (M (ix3 h r (0 : Fin 128)) - stepM s M (ix3 h r (0 : Fin 128)))
      + ∑ c : Fin 512, Ideal.exp (s h (ix2 r c) - stepM s M (ix3 h r (0 : Fin 128))) * k (ix2 c d) := by
  show headA k (s h) (View.ld M (slabM h)) (View.ld A (slabA h)) (ix3 (0 : Fin 1) r d) = _
  rw [headA_apply, headDecay_apply, ld_slabM, ld_slabA, headMax_lane]
  refine congrArg₂ (· + ·) rfl (Finset.sum_congr rfl fun c _ => ?_)
  rw [headW_apply, headMax_lane]

theorem stepO_apply (x4 : Vec Ideal S8x256x128 .bf16) (L : Vec Ideal S8x512x128 .f32) (A : Vec Ideal S8x512x256 .f32) (h : Fin 8) (r : Fin 512) (j : Fin 128) :
    stepO x4 L A (ix2 r (col128 h j)) = ∑ d : Fin 256, Ideal.div (A (ix3 h r d)) (L (ix3 h r (0 : Fin 128))) * x4 (ix3 h d j) := by
  have e1 : (⟨(h.val * 128 + j.val) / 128, by omega⟩ : Fin 8) = h := Fin.ext (by show (h.val * 128 + j.val) / 128 = h.val; omega)
  have e2 : (⟨(h.val * 128 + j.val) % 128, by omega⟩ : Fin 128) = j := Fin.ext (by show (h.val * 128 + j.val) % 128 = j.val; omega)
  have e3 : stepO x4 L A (ix2 r (col128 h j)) = headO (View.ld A (slabA h)) (View.ld L (slabM h)) (View.ld x4 (slabW h)) (ix2 r j) :=
    congrArg₂ (fun (h : Fin 8) (j : Fin 128) => headO (View.ld A (slabA h)) (View.ld L (slabM h)) (View.ld x4 (slabW h)) (ix2 r j)) e1 e2
  rw [e3, headO_apply]
  refine Finset.sum_congr rfl fun d _ => congrArg₂ (· * ·) ?_ (ldW x4 h d j)
  rw [ld_slabA, ld_slabM]

theorem pay1_apply (y) : (k0_pay1 : FVec Ideal S8x512x128 .f32) y = ⊥ := ofBits_neginf
theorem pay2_apply (y) : (k0_pay2 : FVec Ideal S8x512x128 .f32) y = 0 := ofBits_zero
theorem pay3_apply (y) : (k0_pay3 : FVec Ideal S8x512x256 .f32) y = 0 := ofBits_zero

section Values

variable (m : (ℓ : Loc nD τ sig) → Buf (Elt Ideal) ℓ) (c : Dev nD)

/-- The statistics after `n` keys of a block of queries: for every head and row, those of the row's own scores. -/
def Inv (b qi n : ℕ) (M L : Vec Ideal S8x512x128 .f32) (A : Vec Ideal S8x512x256 .f32) : Prop :=
  ∀ (h : Fin 8) (r : Fin 512), Stat (qi * 512 + r.val) (scoreR (argQ m c) (argP m c) (argC m c) (argR m c) b h (qi * 512 + r.val)) (valR (argC m c) b) n
    (M (ix3 h r (0 : Fin 128))) (L (ix3 h r (0 : Fin 128))) (fun d => A (ix3 h r d))

theorem Inv.start (b qi : ℕ) : Inv m c b qi 0 (k0_pay1 (F := Ideal)) (k0_pay2 (F := Ideal)) (k0_pay3 (F := Ideal)) := fun h r =>
  Or.inl ⟨rfl, pay1_apply _, pay2_apply _, fun d => pay3_apply _⟩

/-- The arguments hold real numbers. -/
structure Real4 : Prop where
  hQ : ∀ r d, IsReal (argQ m c r d)
  hP : ∀ r d, IsReal (argP m c r d)
  hC : ∀ r d, IsReal (argC m c r d)
  hR : ∀ r d, IsReal (argR m c r d)

variable (H : Real4 m c)

include H in
theorem Inv.step (t : Fin cfg0.N) (hk : t.val % 8 ≤ t.val / 8 % 8) {M L : Vec Ideal S8x512x128 .f32} {A : Vec Ideal S8x512x256 .f32}
    (hI : Inv m c (t.val / 64) (t.val / 8 % 8) (t.val % 8 * 512) M L A) :
    Inv m c (t.val / 64) (t.val / 8 % 8) ((t.val % 8 + 1) * 512) (stepM (scPt m c t) M) (stepL (scPt m c t) M L) (stepA (iblk m c 2 t) (scPt m c t) M A) := by
  intro h r
  have hs : ∀ k : Fin 512, scPt m c t h (ix2 r k) = _ := scPt_apply m c H.hQ H.hP H.hC H.hR t hk h r
  have hM := stepM_apply (scPt m c t) M h r (0 : Fin 128)
  have hfun : (fun k : Fin 512 => scPt m c t h (ix2 r k)) = _ := funext hs
  rw [hfun] at hM
  obtain ⟨μ, h1, h2, h3⟩ := (hI h r).step (B := 512) (by decide) (by omega) hM
  refine Or.inr ⟨μ, h1, ?_, fun d => ?_⟩
  · rw [stepL_apply, Nat.add_mul, Nat.one_mul]
    refine Eq.trans ?_ h2
    refine congrArg₂ (· + ·) rfl (Finset.sum_congr rfl fun k _ => ?_)
    rw [hs k]
  · show stepA _ _ _ _ (ix3 h r d) = _
    rw [stepA_apply, Nat.add_mul, Nat.one_mul]
    refine Eq.trans ?_ (h3 d)
    refine congrArg₂ (· + ·) rfl (Finset.sum_congr rfl fun k _ => congrArg₂ (· * ·) ?_ ?_)
    · rw [hs k]
    · refine (iblk2_apply m c t hk k d).trans ?_
      exact (H.hC _ _).coe_toReal.symm

include H in
/-- After a point whose key block is not past its query block, the statistics cover the keys up to that block's end. -/
theorem inv_at : ∀ (k : ℕ) (t : Fin cfg0.N), t.val % 8 = k → t.val % 8 ≤ t.val / 8 % 8 →
    Inv m c (t.val / 64) (t.val / 8 % 8) ((t.val % 8 + 1) * 512) (stAt m c t.val t.isLt).1 (stAt m c t.val t.isLt).2.1 (stAt m c t.val t.isLt).2.2.1 := by
  intro k
  induction k with
  | zero =>
    intro t h0 h1
    have hst := (Inv.start m c (t.val / 64) (t.val / 8 % 8))
    have hst' : Inv m c (t.val / 64) (t.val / 8 % 8) (t.val % 8 * 512) (k0_pay1 (F := Ideal)) (k0_pay2 (F := Ideal)) (k0_pay3 (F := Ideal)) := by rw [h0]; exact hst
    have hI := hst'.step m c H t h1
    by_cases h2 : t.val / 8 % 8 = t.val % 8
    · rw [stAt_A m c t h0 h1 h2, stA_1, stA_2, stA_3]; exact hI
    · rw [stAt_C m c t h0 h1 h2, stC_1, stC_2, stC_3]; exact hI
  | succ k ih =>
    intro t hk h1
    have h0 : ¬t.val % 8 = 0 := by omega
    have hlt : t.val - 1 < cfg0.N := Nat.lt_of_le_of_lt (Nat.sub_le _ _) t.isLt
    have hp := ih ⟨t.val - 1, hlt⟩ (by show (t.val - 1) % 8 = k; omega) (by show (t.val - 1) % 8 ≤ (t.val - 1) / 8 % 8; omega)
    have e1 : (t.val - 1) / 64 = t.val / 64 := by omega
    have e2 : (t.val - 1) / 8 % 8 = t.val / 8 % 8 := by omega
    have e3 : ((t.val - 1) % 8 + 1) * 512 = t.val % 8 * 512 := by omega
    have hp' : Inv m c (t.val / 64) (t.val / 8 % 8) (t.val % 8 * 512) (stBefore m c t).1 (stBefore m c t).2.1 (stBefore m c t).2.2.1 := by
      rw [← e1, ← e2, ← e3]; exact hp
    have hI := hp'.step m c H t h1
    by_cases h2 : t.val / 8 % 8 = t.val % 8
    · rw [stAt_D m c t h0 h1 h2, stD_1, stD_2, stD_3]; exact hI
    · rw [stAt_E m c t h0 h1 h2, stE_1, stE_2, stE_3]; exact hI

include H in
/-- From the diagonal point on, the output block holds the results of its queries. -/
theorem out_at : ∀ (n : ℕ) (t : Fin cfg0.N), t.val % 8 = t.val / 8 % 8 + n → ∀ (h : Fin 8) (r : Fin 512) (j : Fin 128),
    (stAt m c t.val t.isLt).2.2.2 (ix2 r (col128 h j))
      = result (argQ m c) (argP m c) (argC m c) (argR m c) (argW m c) (t.val / 64) (t.val / 8 % 8 * 512 + r.val) h j := by
  intro n
  induction n with
  | zero =>
    intro t hn h r j
    have h1 : t.val % 8 ≤ t.val / 8 % 8 := by omega
    have h2 : t.val / 8 % 8 = t.val % 8 := by omega
    have hI := inv_at m c H _ t rfl h1 h r
    have fin : ∀ (L : Vec Ideal S8x512x128 .f32) (A : Vec Ideal S8x512x256 .f32),
        L = (stAt m c t.val t.isLt).2.1 → A = (stAt m c t.val t.isLt).2.2.1 →
        stepO (iblk m c 4 t) L A (ix2 r (col128 h j)) = result (argQ m c) (argP m c) (argC m c) (argR m c) (argW m c) (t.val / 64) (t.val / 8 % 8 * 512 + r.val) h j := by
      rintro L A rfl rfl
      rw [stepO_apply]
      refine Finset.sum_congr rfl fun d _ => congrArg₂ (· * ·) ?_ (iblk4_apply m c t h d j)
      exact hI.quot (by omega) d
    by_cases h0 : t.val % 8 = 0
    · have e := stAt_A m c t h0 h1 h2
      rw [congrArg (fun s => s.2.2.2) e]
      refine (congrFun (stA_0 m c t h0 h1 h2) _).trans (fin _ _ ?_ ?_)
      · rw [e]
      · rw [e]
    · have e := stAt_D m c t h0 h1 h2
      rw [congrArg (fun s => s.2.2.2) e]
      refine (congrFun (stD_0 m c t h0 h1 h2 _) _).trans (fin _ _ ?_ ?_)
      · rw [e]
      · rw [e]
  | succ n ih =>
    intro t hn h r j
    have e1 : (t.val - 1) / 64 = t.val / 64 := by omega
    have e2 : (t.val - 1) / 8 % 8 = t.val / 8 % 8 := by omega
    rw [congrArg (fun s => s.2.2.2) (stAt_B m c t (by omega) (by omega) (by omega)), ← e1, ← e2]
    exact ih ⟨t.val - 1, Nat.lt_of_le_of_lt (Nat.sub_le _ _) t.isLt⟩ (by show (t.val - 1) % 8 = (t.val - 1) / 8 % 8 + n; omega) h r j

/-! ## The whole result -/

/-- The result array at an index. -/
def resultArr : S8192x1024.Idx → EReal := fun i =>
  result (argQ m c) (argP m c) (argC m c) (argR m c) (argW m c) ((i 0).val / 4096) ((i 0).val % 4096)
    ⟨(i 1).val / 128, by have : (i 1).val < 1024 := (i 1).isLt; omega⟩ ⟨(i 1).val % 128, Nat.mod_lt _ (by decide)⟩

theorem index5_0 (t : Fin cfg0.N) : (cfg0.win 5).index t 0 = t.val / 64 % 2 * 8 + t.val / 8 % 8 := by
  rw [← coord0, ← coord1]
  exact rowB (grid0.coords t 0) (grid0.coords t 1)

theorem emb5 (t : Fin cfg0.N) (r : Fin 512) (x : Fin 1024) : ((cfg0.win 5).rect t).emb (ix2 r x)
    = (ix2 (⟨(t.val / 64 % 2 * 8 + t.val / 8 % 8) * 512 + r.val, by omega⟩ : Fin 8192) x : S8192x1024.Idx) := funext fun a => match a with
  | ⟨0, _⟩ => Fin.ext (((cfg0.win 5).rect_emb_val t (ix2 r x) 0).trans (by rw [index5_0]; rfl))
  | ⟨1, _⟩ => Fin.ext (((cfg0.win 5).rect_emb_val t (ix2 r x) 1).trans (by show 0 * 1024 + x.val = x.val; omega))

include H in
theorem flushed5 (t : Fin cfg0.N) (hf : (cfg0.win 5).flush t = true) :
    (dats m 0 c).flushed 5 t = ((cfg0.win 5).blk t).view.read (Elt Ideal) (resultArr m c) := by
  have ht := lt128 t
  have h7 := (flush0_5 t).1 hf
  have key : ∀ (r : Fin 512) (x : Fin 1024), (stAt m c t.val t.isLt).2.2.2 (ix2 r x) = resultArr m c (((cfg0.win 5).rect t).emb (ix2 r x)) := by
    intro r x
    rw [emb5]
    have ho := out_at m c H (7 - t.val / 8 % 8) t (by omega) ⟨x.val / 128, by omega⟩ r ⟨x.val % 128, Nat.mod_lt _ (by decide)⟩
    have ex : col128 ⟨x.val / 128, by omega⟩ ⟨x.val % 128, Nat.mod_lt _ (by decide)⟩ = x := Fin.ext (by show x.val / 128 * 128 + x.val % 128 = x.val; omega)
    rw [ex] at ho
    rw [ho]
    have ea : ((t.val / 64 % 2 * 8 + t.val / 8 % 8) * 512 + r.val) / 4096 = t.val / 64 := by omega
    have eb : ((t.val / 64 % 2 * 8 + t.val / 8 % 8) * 512 + r.val) % 4096 = t.val / 8 % 8 * 512 + r.val := by omega
    show _ = result _ _ _ _ _ (((t.val / 64 % 2 * 8 + t.val / 8 % 8) * 512 + r.val) / 4096) (((t.val / 64 % 2 * 8 + t.val / 8 % 8) * 512 + r.val) % 4096) _ _
    rw [ea, eb]
  refine funext fun y => ?_
  obtain ⟨r, x, rfl⟩ : ∃ (r : Fin 512) (x : Fin 1024), y = ix2 r x := ⟨y 0, y 1, eq_ix2 y⟩
  exact key r x

include H in
theorem arr5 : (dats m 0 c).arrAt 5 cfg0.N = resultArr m c :=
  Dat.arrAt_eq_of_cover (dats m 0 c) 5 (resultArr m c) (flushed5 m c H) (fun i => by
    obtain ⟨q, x, rfl⟩ : ∃ (q : Fin 8192) (x : Fin 1024), i = (ix2 q x : S8192x1024.Idx) := ⟨i 0, i 1, eq_ix2 (i : S8192x1024.Idx)⟩
    have hN : q.val / 512 * 8 + 7 < cfg0.N := lt_of_lt_of_eq (by omega) N_0.symm
    refine ⟨⟨q.val / 512 * 8 + 7, hN⟩, (flush0_5 _).2 (by show (q.val / 512 * 8 + 7) % 8 = 7; omega), ?_⟩
    refine Finset.mem_map.2 ⟨ix2 (⟨q.val % 512, Nat.mod_lt _ (by decide)⟩ : Fin 512) x, Finset.mem_univ _, ?_⟩
    refine (emb5 ⟨q.val / 512 * 8 + 7, hN⟩ _ x).trans ?_
    refine congrArg (fun q : Fin 8192 => (ix2 q x : S8192x1024.Idx)) (Fin.ext ?_)
    show ((q.val / 512 * 8 + 7) / 64 % 2 * 8 + (q.val / 512 * 8 + 7) / 8 % 8) * 512 + q.val % 512 = q.val
    omega)

end Values

end Cert.KernelIdeal.Attn

end
-- ==== Proof.Ref.lean ====
module

public import proofs.«01_k».proof.Proof.Math
public import proofs.«01_k».proof.Proof.Attn.Inv
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Attn
open Cert.KernelIdeal.Attn (ofBits_zero ofBits_neginf toInt_small)

variable (x0 : (⟨S8192x2048, .bf16⟩ : BufTy).Contents (Elt Ideal)) (x1 : (⟨S8192x1024, .bf16⟩ : BufTy).Contents (Elt Ideal))
  (x2 : (⟨S8192x256, .bf16⟩ : BufTy).Contents (Elt Ideal)) (x3 : (⟨S8192x128, .bf16⟩ : BufTy).Contents (Elt Ideal))
  (x4 : (⟨S256x8x128, .f32⟩ : BufTy).Contents (Elt Ideal))

/-- The arguments by coordinates. -/
def aQ (r : Fin 8192) (d : Fin 2048) : EReal := (x0 : S8192x2048.Idx → EReal) (ix2 r d)
def aP (r : Fin 8192) (d : Fin 1024) : EReal := (x1 : S8192x1024.Idx → EReal) (ix2 r d)
def aC (r : Fin 8192) (d : Fin 256) : EReal := (x2 : S8192x256.Idx → EReal) (ix2 r d)
def aR (r : Fin 8192) (d : Fin 128) : EReal := (x3 : S8192x128.Idx → EReal) (ix2 r d)
def aW (d : Fin 256) (h : Fin 8) (j : Fin 128) : EReal := (x4 : S256x8x128.Idx → EReal) (ix3 d h j)

theorem v1_at (b : Fin 2) (q : Fin 4096) (h : Fin 8) (d : Fin 256) :
    val_main_v1 (F := Ideal) x0 (ix4 b q h d) = aQ x0 (rowOf b q) (col256 h d) := by
  rw [val_main_v1_apply, val_main_v0_apply]
  refine congrArg (x0 : S8192x2048.Idx → EReal) (funext fun a => match a with
    | ⟨0, _⟩ => Fin.ext (show (((b.val * 4096 + q.val) * 8 + h.val) * 256 + d.val) / 2048 = (b.val * 4096 + q.val) % 8192 by omega)
    | ⟨1, _⟩ => Fin.ext (show (((b.val * 4096 + q.val) * 8 + h.val) * 256 + d.val) % 2048 = h.val * 256 + d.val by omega))

theorem v3_at (b : Fin 2) (q : Fin 4096) (h : Fin 8) (d : Fin 128) :
    val_main_v3 (F := Ideal) x1 (ix4 b q h d) = aP x1 (rowOf b q) (col128 h d) := by
  rw [val_main_v3_apply, val_main_v2_apply]
  refine congrArg (x1 : S8192x1024.Idx → EReal) (funext fun a => match a with
    | ⟨0, _⟩ => Fin.ext (show (((b.val * 4096 + q.val) * 8 + h.val) * 128 + d.val) / 1024 = (b.val * 4096 + q.val) % 8192 by omega)
    | ⟨1, _⟩ => Fin.ext (show (((b.val * 4096 + q.val) * 8 + h.val) * 128 + d.val) % 1024 = h.val * 128 + d.val by omega))

theorem v5_at (b : Fin 2) (k : Fin 4096) (d : Fin 256) :
    val_main_v5 (F := Ideal) x2 (ix3 b k d) = aC x2 (rowOf b k) d := by
  rw [val_main_v5_apply, val_main_v4_apply]
  refine congrArg (x2 : S8192x256.Idx → EReal) (funext fun a => match a with
    | ⟨0, _⟩ => Fin.ext (show ((b.val * 4096 + k.val) * 256 + d.val) / 256 = (b.val * 4096 + k.val) % 8192 by omega)
    | ⟨1, _⟩ => Fin.ext (show ((b.val * 4096 + k.val) * 256 + d.val) % 256 = d.val by omega))

theorem v7_at (b : Fin 2) (k : Fin 4096) (d : Fin 128) :
    val_main_v7 (F := Ideal) x3 (ix3 b k d) = aR x3 (rowOf b k) d := by
  rw [val_main_v7_apply, val_main_v6_apply]
  refine congrArg (x3 : S8192x128.Idx → EReal) (funext fun a => match a with
    | ⟨0, _⟩ => Fin.ext (show ((b.val * 4096 + k.val) * 128 + d.val) / 128 = (b.val * 4096 + k.val) % 8192 by omega)
    | ⟨1, _⟩ => Fin.ext (show ((b.val * 4096 + k.val) * 128 + d.val) % 128 = d.val by omega))

/-- The latent part of a score. -/
theorem v9_at (b : Fin 2) (h : Fin 8) (q k : Fin 4096) :
    val_main_v9 (F := Ideal) x0 x2 (ix4 b h q k) = ∑ d : Fin 256, aQ x0 (rowOf b q) (col256 h d) * aC x2 (rowOf b k) d := by
  rw [val_main_v9_apply, val_main_v8_apply]
  refine Finset.sum_congr rfl fun d _ => (mul_comm _ _).trans (congrArg₂ (fun a b : EReal => a * b) ?_ ?_)
  · refine Eq.trans (congrArg (val_main_v1 (F := Ideal) x0) (?_ : _ = ix4 b q h d)) (v1_at x0 b q h d)
    exact funext fun a => match a with | ⟨0, _⟩ => rfl | ⟨1, _⟩ => rfl | ⟨2, _⟩ => rfl | ⟨3, _⟩ => rfl
  · refine Eq.trans (congrArg (val_main_v5 (F := Ideal) x2) (?_ : _ = ix3 b k d)) (v5_at x2 b k d)
    exact funext fun a => match a with | ⟨0, _⟩ => rfl | ⟨1, _⟩ => rfl | ⟨2, _⟩ => rfl

/-- The rotary part of a score. -/
theorem v11_at (b : Fin 2) (h : Fin 8) (q k : Fin 4096) :
    val_main_v11 (F := Ideal) x1 x3 (ix4 b h q k) = ∑ d : Fin 128, aP x1 (rowOf b q) (col128 h d) * aR x3 (rowOf b k) d := by
  rw [val_main_v11_apply, val_main_v10_apply]
  refine Finset.sum_congr rfl fun d _ => (mul_comm _ _).trans (congrArg₂ (fun a b : EReal => a * b) ?_ ?_)
  · refine Eq.trans (congrArg (val_main_v3 (F := Ideal) x1) (?_ : _ = ix4 b q h d)) (v3_at x1 b q h d)
    exact funext fun a => match a with | ⟨0, _⟩ => rfl | ⟨1, _⟩ => rfl | ⟨2, _⟩ => rfl | ⟨3, _⟩ => rfl
  · refine Eq.trans (congrArg (val_main_v7 (F := Ideal) x3) (?_ : _ = ix3 b k d)) (v7_at x3 b k d)
    exact funext fun a => match a with | ⟨0, _⟩ => rfl | ⟨1, _⟩ => rfl | ⟨2, _⟩ => rfl

theorem mask_at (b : Fin 2) (h : Fin 8) (q k : Fin 4096) :
    val_main_call0_v1 (F := Ideal) (ix4 b h q k) = if k.val ≤ q.val then 1#1 else 0#1 := by
  rw [val_main_call0_v1_apply, val_main_v18_apply, val_main_v16_apply, val_main_v17_apply, val_main_v14_apply, val_main_v15_apply,
    val_main_v13_apply, val_main_v13_apply]
  show BitVec.ofBool (BitVec.sle (BitVec.ofNat 32 k.val) (BitVec.ofNat 32 q.val)) = _
  have e : BitVec.sle (BitVec.ofNat 32 k.val) (BitVec.ofNat 32 q.val) = decide (k.val ≤ q.val) := by
    rw [BitVec.sle, toInt_small k.val (by omega), toInt_small q.val (by omega)]
    exact decide_eq_decide.2 (by omega)
  rw [e]
  by_cases h : k.val ≤ q.val
  · rw [if_pos h, decide_eq_true h]; rfl
  · rw [if_neg h, decide_eq_false h]; rfl

/-- The real scores of a query, key by key. -/
abbrev sc (b : Fin 2) (h : Fin 8) (q : Fin 4096) : ℕ → ℝ := scoreR (aQ x0) (aP x1) (aC x2) (aR x3) b h q

section Real

variable (hQ : ∀ r d, IsReal (aQ x0 r d)) (hP : ∀ r d, IsReal (aP x1 r d)) (hC : ∀ r d, IsReal (aC x2 r d)) (hR : ∀ r d, IsReal (aR x3 r d))

include hQ hP hC hR in
/-- The masked score. -/
theorem v19_at (b : Fin 2) (h : Fin 8) (q k : Fin 4096) :
    val_main_v19 (F := Ideal) x0 x1 x2 x3 (ix4 b h q k) = blockScore q (sc x0 x1 x2 x3 b h q) 0 k := by
  rw [val_main_v19_apply, mask_at, val_main_v12_apply, v9_at, v11_at, val_main_call0_v2_apply, val_main_call0_v0_apply, val_main_cst_apply]
  unfold blockScore sc scoreR
  rw [Nat.zero_add, (score_isReal hQ hP hC hR h _ _).coe_toReal]
  by_cases hv : k.val ≤ q.val
  · rw [if_pos hv, if_pos hv]; rfl
  · rw [if_neg hv, if_neg hv]; exact ofBits_neginf

include hQ hP hC hR in
/-- The maximum of a query's masked scores. -/
theorem v22_at (b : Fin 2) (h : Fin 8) (q : Fin 4096) :
    val_main_v22 (F := Ideal) x0 x1 x2 x3 (ix3 b h q)
      = max ⊥ ((Finset.univ : Finset (Fin 4096)).fold max ⊥ (fun k => blockScore q (sc x0 x1 x2 x3 b h q) 0 k.val)) := by
  rw [val_main_v22_apply, val_main_v21_apply, val_main_cst_1_apply]
  refine congrArg₂ (fun a b : EReal => max a b) ofBits_neginf ?_
  unfold val_main_v20
  have hr : S2x8x4096x4096.Reduces [3] S2x8x4096 := by decide
  rw [Host.reduce_eq_fold_single _ _ _ _ hr]
  have e : val_main_cst_0 (F := Ideal) (Shape.Idx.first h_S_) = (⊥ : EReal) := ofBits_neginf
  rw [e]
  refine congrArg ((Finset.univ : Finset (Fin 4096)).fold max (⊥ : EReal)) (funext fun k => ?_)
  refine Eq.trans (congrArg (val_main_v19 (F := Ideal) x0 x1 x2 x3) (?_ : _ = ix4 b h q k)) (v19_at x0 x1 x2 x3 hQ hP hC hR b h q k)
  exact funext fun a => match a with | ⟨0, _⟩ => rfl | ⟨1, _⟩ => rfl | ⟨2, _⟩ => rfl | ⟨3, _⟩ => rfl

include hQ hP hC hR in
theorem v26_at (b : Fin 2) (h : Fin 8) (q k : Fin 4096) :
    val_main_v26 (F := Ideal) x0 x1 x2 x3 (ix4 b h q k)
      = Ideal.exp (blockScore q (sc x0 x1 x2 x3 b h q) 0 k.val - val_main_v22 (F := Ideal) x0 x1 x2 x3 (ix3 b h q)) := by
  rw [val_main_v26_apply, val_main_v25_apply, v19_at x0 x1 x2 x3 hQ hP hC hR, val_main_v24_apply, val_main_v23_apply]
  refine congrArg (fun z : EReal => Ideal.exp (blockScore q (sc x0 x1 x2 x3 b h q) 0 k.val - z)) ?_
  refine congrArg (val_main_v22 (F := Ideal) x0 x1 x2 x3) ?_
  exact funext fun a => match a with | ⟨0, _⟩ => rfl | ⟨1, _⟩ => rfl | ⟨2, _⟩ => rfl

include hQ hP hC hR in
theorem v30_at (b : Fin 2) (h : Fin 8) (q k : Fin 4096) :
    val_main_v30 (F := Ideal) x0 x1 x2 x3 (ix4 b h q k)
      = Ideal.div (Ideal.exp (blockScore q (sc x0 x1 x2 x3 b h q) 0 k.val - val_main_v22 (F := Ideal) x0 x1 x2 x3 (ix3 b h q)))
        (0 + ∑ i : Fin 4096, Ideal.exp (blockScore q (sc x0 x1 x2 x3 b h q) 0 i.val - val_main_v22 (F := Ideal) x0 x1 x2 x3 (ix3 b h q))) := by
  rw [val_main_v30_apply, v26_at x0 x1 x2 x3 hQ hP hC hR, val_main_v29_apply, val_main_v28_apply, val_main_v27_apply]
  refine congrArg (Ideal.div _) (congrArg₂ (fun a b : EReal => a + b) ofBits_zero (Finset.sum_congr rfl fun i _ => ?_))
  refine Eq.trans (congrArg (val_main_v26 (F := Ideal) x0 x1 x2 x3) (?_ : _ = ix4 b h q i)) (v26_at x0 x1 x2 x3 hQ hP hC hR b h q i)
  exact funext fun a => match a with | ⟨0, _⟩ => rfl | ⟨1, _⟩ => rfl | ⟨2, _⟩ => rfl | ⟨3, _⟩ => rfl

include hQ hP hC hR in
/-- The attended latent row. -/
theorem v32_at (b : Fin 2) (q : Fin 4096) (h : Fin 8) (d : Fin 256) :
    val_main_v32 (F := Ideal) x0 x1 x2 x3 (ix4 b q h d) = ((att q (sc x0 x1 x2 x3 b h q) (valR (aC x2) b d) : ℝ) : EReal) := by
  rw [val_main_v32_apply, val_main_v31_apply]
  have hM : IsReal (val_main_v22 (F := Ideal) x0 x1 x2 x3 (ix3 b h q)) := by
    rw [v22_at x0 x1 x2 x3 hQ hP hC hR]
    exact max_isReal q (sc x0 x1 x2 x3 b h q) 0 (by decide) (Nat.zero_le _) ⊥ (Or.inl rfl)
  refine Eq.trans (Finset.sum_congr rfl fun k _ => congrArg₂ (fun a b : EReal => a * b) ?_ ?_) (softmax_att q (sc x0 x1 x2 x3 b h q) (valR (aC x2) b d) q.isLt hM)
  · refine Eq.trans (congrArg (val_main_v5 (F := Ideal) x2) (?_ : _ = ix3 b k d)) ((v5_at x2 b k d).trans (hC _ _).coe_toReal.symm)
    exact funext fun a => match a with | ⟨0, _⟩ => rfl | ⟨1, _⟩ => rfl | ⟨2, _⟩ => rfl
  · refine Eq.trans (congrArg (val_main_v30 (F := Ideal) x0 x1 x2 x3) (?_ : _ = ix4 b h q k)) (v30_at x0 x1 x2 x3 hQ hP hC hR b h q k)
    exact funext fun a => match a with | ⟨0, _⟩ => rfl | ⟨1, _⟩ => rfl | ⟨2, _⟩ => rfl | ⟨3, _⟩ => rfl

include hQ hP hC hR in
/-- The reference's result at a row and a column. -/
theorem v36_at (r : Fin 8192) (x : Fin 1024) :
    val_main_v36 (F := Ideal) x0 x1 x2 x3 x4 (ix2 r x) = result (aQ x0) (aP x1) (aC x2) (aR x3) (aW x4) (r.val / 4096) (r.val % 4096)
      ⟨x.val / 128, by omega⟩ ⟨x.val % 128, Nat.mod_lt _ (by decide)⟩ := by
  rw [val_main_v36_apply, val_main_v35_apply, val_main_v34_apply, val_main_v33_apply]
  refine Finset.sum_congr rfl fun d _ => (mul_comm _ _).trans (congrArg₂ (fun a b : EReal => a * b) ?_ ?_)
  · refine Eq.trans (congrArg (val_main_v32 (F := Ideal) x0 x1 x2 x3)
      (?_ : _ = ix4 (⟨r.val / 4096, by omega⟩ : Fin 2) (⟨r.val % 4096, Nat.mod_lt _ (by decide)⟩ : Fin 4096) (⟨x.val / 128, by omega⟩ : Fin 8) d))
      (v32_at x0 x1 x2 x3 hQ hP hC hR _ _ _ _)
    exact funext fun a => match a with
      | ⟨0, _⟩ => Fin.ext (show (r.val * 1024 + x.val) / 4194304 = r.val / 4096 by omega)
      | ⟨1, _⟩ => Fin.ext (show (r.val * 1024 + x.val) / 1024 % 4096 = r.val % 4096 by omega)
      | ⟨2, _⟩ => Fin.ext (show (r.val * 1024 + x.val) / 128 % 8 = x.val / 128 by omega)
      | ⟨3, _⟩ => rfl
  · refine congrArg (x4 : S256x8x128.Idx → EReal) ?_
    exact funext fun a => match a with
      | ⟨0, _⟩ => rfl
      | ⟨1, _⟩ => Fin.ext (show (r.val * 1024 + x.val) / 128 % 8 = x.val / 128 by omega)
      | ⟨2, _⟩ => Fin.ext (show (r.val * 1024 + x.val) % 128 = x.val % 128 by omega)

end Real

end Cert.ReferenceIdeal.Attn

end
-- ==== Proof.Calls.Mat.lean ====
module

public import Idealize.ShloMosaic.Lib.MatmulPlain
public import Idealize.ShloMosaic.Lib.ValueIdx
public import Idealize.ShloMosaic.Lib.Pipeline.Value
public import Idealize.ShloMosaic.Lib.Pipeline.ValueKit
public import Idealize.ShloMosaic.PureOps.Ideal.Laws

@[expose] public section

noncomputable section

/-! Products and single-slab readings that the matrix calls of the layer share. -/

namespace Cert.Mat

open Idealize.ShloMosaic hiding ix1 ix2 ix3 constant_apply
open Idealize.ShloMosaic.ValueIdx

theorem word_zero : Ideal.ofBits .f32 0x00000000#32 = 0 := Ideal.ofBits_zero_f32

/-- Dropping a leading axis of extent one. -/
theorem slab {α : Type} {n k : ℕ} (x : (⟨3, ![1, n, k]⟩ : Shape).Idx → α) (h : (⟨3, ![1, n, k]⟩ : Shape).ShapeCasts ⟨2, ![n, k]⟩) (r : Fin n) (j : Fin k) :
    shapeCast ⟨2, ![n, k]⟩ x h (ix2 r j) = x (ix3 (0 : Fin 1) r j) :=
  shapeCast_apply x h (ix2 r j) (ix3 (0 : Fin 1) r j) (by
    rewrite [Shape.rowMajor_val_three, Shape.rowMajor_val_two]
    show (0 * n + r.val) * k + j.val = r.val * k + j.val
    rw [Nat.zero_mul, Nat.zero_add])

/-- A product into a zero accumulator, rows by columns. -/
theorem rows_cols {M K N : ℕ} {φ₁ φ₂ : FTy} (lhs : FVec Ideal ⟨2, ![M, K]⟩ φ₁) (rhs : FVec Ideal ⟨2, ![K, N]⟩ φ₂) (r : Fin M) (c : Fin N) :
    FloatOps.matmul (F := Ideal) (DotDims.plain M K N) none lhs rhs (constant ⟨2, ![M, N]⟩ .f32 0x00000000#32) (ix2 r c) = ∑ k : Fin K, lhs (ix2 r k) * rhs (ix2 k c) :=
  (Ideal.matmul_plain_apply none lhs rhs _ r c).trans (by rw [constant_apply, word_zero, zero_add])

/-- A product into a zero accumulator, rows by rows. -/
theorem rows_rows {M K N : ℕ} {φ₁ φ₂ : FTy} (lhs : FVec Ideal ⟨2, ![M, K]⟩ φ₁) (rhs : FVec Ideal ⟨2, ![N, K]⟩ φ₂) (r : Fin M) (c : Fin N) :
    FloatOps.matmul (F := Ideal) (DotDims.transposedRhs M K N) none lhs rhs (constant ⟨2, ![M, N]⟩ .f32 0x00000000#32) (ix2 r c) = ∑ k : Fin K, lhs (ix2 r k) * rhs (ix2 c k) :=
  (Ideal.matmul_transposedRhs_apply none lhs rhs _ r c).trans (by rw [constant_apply, word_zero, zero_add])

end Cert.Mat

end
-- ==== Proof.Calls.Up.lean ====
module

public import proofs.«01_k».proof.Defs
public import proofs.«01_k».proof.Proof.Calls.Mat
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import Idealize.ShloMosaic.Adequacy
public import Idealize.ShloMosaic.Init
public import Idealize.ShloMosaic.Lib.Quiescent

@[expose] public section

set_option maxRecDepth 16384

noncomputable section

/-! The up projection of the MLP: the square of the rectified product. -/

namespace Cert.Up

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelUpIdeal Cert.KernelUpIdeal.Gen

/-- The element at row `r` and column `x`. -/
def elem (X : (⟨2, ![9216, 2048]⟩ : Shape).Idx → EReal) (W : (⟨3, ![2, 2048, 8192]⟩ : Shape).Idx → EReal) (r : Fin 9216) (x : Fin 8192) : EReal :=
  max (∑ k : Fin 2048, X (ix2 r k) * W (ix3 (1 : Fin 2) k x)) 0 * max (∑ k : Fin 2048, X (ix2 r k) * W (ix3 (1 : Fin 2) k x)) 0

/-- The whole array. -/
def whole (X : (⟨2, ![9216, 2048]⟩ : Shape).Idx → EReal) (W : (⟨3, ![2, 2048, 8192]⟩ : Shape).Idx → EReal) : (⟨2, ![9216, 8192]⟩ : Shape).Idx → EReal := fun i => elem X W (i 0) (i 1)

/-- What one block of the result holds. -/
theorem block (v0 : Vec Ideal S1x2048x1024 .f32) (v3 : Vec Ideal S1024x2048 .bf16) (r : Fin 1024) (x : Fin 1024) :
    k0_pay1 v0 v3 (ix2 r x) = max (∑ k : Fin 2048, v3 (ix2 r k) * v0 (ix3 (0 : Fin 1) k x) : EReal) 0 * max (∑ k : Fin 2048, v3 (ix2 r k) * v0 (ix3 (0 : Fin 1) k x) : EReal) 0 := by
  have e : FloatOps.matmul (F := Ideal) dot_S1024x2048_S2048x1024_S1024x1024_1_0_0_1_n_n none v3 (truncf .bf16 (shapeCast S2048x1024 v0 shapeCasts_S1x2048x1024_S2048x1024) bitsLt_bf16_f32) (constant S1024x1024 .f32 0x00000000#32) (ix2 r x) = (∑ k : Fin 2048, v3 (ix2 r k) * v0 (ix3 (0 : Fin 1) k x) : EReal) :=
    (Cert.Mat.rows_cols (M := 1024) (K := 2048) (N := 1024) v3 (truncf .bf16 (shapeCast S2048x1024 v0 shapeCasts_S1x2048x1024_S2048x1024) bitsLt_bf16_f32) r x).trans
      (Finset.sum_congr rfl fun k _ => congrArg (v3 (ix2 r k) * ·) (Cert.Mat.slab v0 shapeCasts_S1x2048x1024_S2048x1024 k x))
  have z : (Scalar.ofBits (F := Ideal) .f32 0x00000000#32 : EReal) = 0 := Cert.Mat.word_zero
  have w := congrArg₂ max e z
  exact congrArg₂ (· * ·) w w

theorem load1 (X : Vec Ideal S1x2048x1024 .f32) : View.ld X r0_0 = X := View.ld_unit_lit _ _ (by decide)
theorem load0 (X : Vec Ideal S1024x2048 .bf16) : View.ld X r0_1 = X := View.ld_unit_lit _ _ (by decide)

theorem lt72 (t : Fin cfg0.N) : t.val < 72 := lt_of_lt_of_eq t.isLt N_0
theorem coord0 (t : Fin cfg0.N) : (grid0.coords t 0).val = t.val / 8 % 9 := Pipeline.Grid.coords_val t 0 (by decide) rfl
theorem coord1 (t : Fin cfg0.N) : (grid0.coords t 1).val = t.val / 1 % 8 := Pipeline.Grid.coords_val t 1 (by decide) rfl

variable (m : (ℓ : Loc nD τ sig) → Buf (Elt Ideal) ℓ) (c : Dev nD)

/-- The result array. -/
def arr : (⟨2, ![9216, 8192]⟩ : Shape).Idx → EReal := whole (m ((c : Thread nD τ).loc main_arg0)) (m ((c : Thread nD τ).loc main_arg1))

theorem row (t : Fin cfg0.N) : (cfg0.win 0).index t 0 = t.val / 8 % 9 := by
  rw [← coord0]
  exact (by decide : ∀ a : Fin 9, (BitVec.ofNat 32 a.val).toNat = a.val) (grid0.coords t 0)

/-- The two blocks a point reads. -/
def blockX (t : Fin cfg0.N) : S1024x2048.Idx → EReal := iblk m c 0 t
def blockW (t : Fin cfg0.N) : S1x2048x1024.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 8 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

theorem col (t : Fin cfg0.N) : (cfg0.win 1).index t 2 = t.val / 1 % 8 := by
  rw [← coord1]
  exact (by decide : ∀ a : Fin 8, (BitVec.ofNat 32 a.val).toNat = a.val) (grid0.coords t 1)

/-- The weights of a block. -/
theorem weights (t : Fin cfg0.N) (k : Fin 2048) (x : Fin 1024) :
    blockW m c t (ix3 (0 : Fin 1) k x) = (m ((c : Thread nD τ).loc main_arg1) : S2x2048x8192.Idx → EReal) (ix3 (1 : Fin 2) k (⟨t.val / 1 % 8 * 1024 + x.val, by omega⟩ : Fin 8192)) := by
  show V m c main_arg1 (((cfg0.win 1).rect t).emb (ix3 (0 : Fin 1) k x)) = _
  rw [V_main_arg1 m c]
  refine congrArg (m ((c : Thread nD τ).loc main_arg1) : S2x2048x8192.Idx → EReal) (funext fun a => match a with
    | ⟨0, _⟩ => Fin.ext ?_
    | ⟨1, _⟩ => Fin.ext ?_
    | ⟨2, _⟩ => Fin.ext ?_)
  · exact ((cfg0.win 1).rect_emb_val t (ix3 (0 : Fin 1) k x) 0).trans rfl
  · exact ((cfg0.win 1).rect_emb_val_of_index_zero t 1 rfl (ix3 (0 : Fin 1) k x)).trans rfl
  · refine ((cfg0.win 1).rect_emb_val t (ix3 (0 : Fin 1) k x) 2).trans ?_
    rw [col]
    rfl

theorem place0 (t : Fin cfg0.N) : (cfg0.win 2).index t 0 = t.val / 8 % 9 := by
  rw [← coord0]
  exact (by decide : ∀ a : Fin 9, (BitVec.ofNat 32 a.val).toNat = a.val) (grid0.coords t 0)
theorem place1 (t : Fin cfg0.N) : (cfg0.win 2).index t 1 = t.val / 1 % 8 := by
  rw [← coord1]
  exact (by decide : ∀ a : Fin 8, (BitVec.ofNat 32 a.val).toNat = a.val) (grid0.coords t 1)

theorem place (t : Fin cfg0.N) (r : Fin 1024) (x : Fin 1024) : ((cfg0.win 2).rect t).emb (ix2 r x)
    = (ix2 (⟨t.val / 8 % 9 * 1024 + r.val, by omega⟩ : Fin 9216) (⟨t.val / 1 % 8 * 1024 + x.val, by omega⟩ : Fin 8192) : S9216x8192.Idx) := funext fun a => match a with
  | ⟨0, _⟩ => Fin.ext (((cfg0.win 2).rect_emb_val t (ix2 r x) 0).trans (by rw [place0]; rfl))
  | ⟨1, _⟩ => Fin.ext (((cfg0.win 2).rect_emb_val t (ix2 r x) 1).trans (by rw [place1]; rfl))

/-- What a point writes back is its block of the result. -/
theorem written (t : Fin cfg0.N) : (dats m 0 c).flushed 2 t = ((cfg0.win 2).blk t).view.read (Elt Ideal) (arr m c) := by
  rw [Cert.KernelUpIdeal.Value.flushed2]
  unfold out0_2
  have key : ∀ (r : Fin 1024) (x : Fin 1024), (View.canon [⟨r0_2, k0_pay1 (View.ld (iblk m c 1 t) r0_0) (View.ld (iblk m c 0 t) r0_1)⟩] : Vec Ideal S1024x1024 .bf16) (ix2 r x)
      = arr m c (((cfg0.win 2).rect t).emb (ix2 r x)) := by
    intro r x
    rw [View.canon_cons_unit_lit _ _ _ (by decide), place]
    refine (congrFun (congrArg₂ (k0_pay1 (F := Ideal)) (load1 (iblk m c 1 t)) (load0 (iblk m c 0 t))) (ix2 r x)).trans ?_
    refine (block (blockW m c t) (blockX m c t) r x).trans ?_
    have e : (∑ k : Fin 2048, blockX m c t (ix2 r k) * blockW m c t (ix3 (0 : Fin 1) k x) : EReal) = _ :=
      Finset.sum_congr rfl fun k _ => congrArg₂ (fun a b : EReal => a * b) (rows m c t r k) (weights m c t k x)
    exact congrArg (fun a : EReal => max a 0 * max a 0) e
  refine funext fun y => ?_
  obtain ⟨r, x, rfl⟩ : ∃ (r : Fin 1024) (x : Fin 1024), y = ix2 r x := ⟨y 0, y 1, eq_ix2 y⟩
  exact key r x

theorem final : (dats m 0 c).arrAt 2 cfg0.N = arr m c :=
  Dat.arrAt_eq_of_cover (dats m 0 c) 2 (arr m c) (fun t _ => written m c t) (fun i => by
    obtain ⟨q, x, rfl⟩ : ∃ (q : Fin 9216) (x : Fin 8192), i = (ix2 q x : S9216x8192.Idx) := ⟨i 0, i 1, eq_ix2 (i : S9216x8192.Idx)⟩
    have hN : q.val / 1024 * 8 + x.val / 1024 < cfg0.N := lt_of_lt_of_eq (by omega) N_0.symm
    refine ⟨⟨q.val / 1024 * 8 + x.val / 1024, hN⟩, flush0_2 _, ?_⟩
    refine Finset.mem_map.2 ⟨ix2 (⟨q.val % 1024, Nat.mod_lt _ (by decide)⟩ : Fin 1024) (⟨x.val % 1024, Nat.mod_lt _ (by decide)⟩ : Fin 1024), Finset.mem_univ _, ?_⟩
    refine (place ⟨q.val / 1024 * 8 + x.val / 1024, hN⟩ _ _).trans ?_
    refine congrArg₂ (fun (q : Fin 9216) (x : Fin 8192) => (ix2 q x : S9216x8192.Idx)) (Fin.ext ?_) (Fin.ext ?_)
    · show (q.val / 1024 * 8 + x.val / 1024) / 8 % 9 * 1024 + q.val % 1024 = q.val
      omega
    · show (q.val / 1024 * 8 + x.val / 1024) / 1 % 8 * 1024 + x.val % 1024 = x.val
      omega)

end Kernel

/-! ## The reference -/

section Reference

open Cert.ReferenceUpIdeal Cert.ReferenceUpIdeal.Gen Cert.ReferenceUpIdeal.Read

theorem reference_at (x0 : (⟨S9216x2048, .bf16⟩ : BufTy).Contents (Elt Ideal)) (x1 : (⟨(⟨3, ![2, 2048, 8192]⟩ : Shape), .f32⟩ : BufTy).Contents (Elt Ideal)) (r : Fin 9216) (x : Fin 8192) :
    val_main_v6 (F := Ideal) x0 x1 (ix2 r x) = elem x0 x1 r x := by
  have e : val_main_v3 (F := Ideal) x0 x1 (ix2 r x) = (∑ k : Fin 2048, x0 (ix2 r k) * x1 (ix3 (1 : Fin 2) k x) : EReal) := by
    rw [val_main_v3_apply]
    refine Finset.sum_congr rfl fun k _ => ?_
    refine congrArg₂ (· * ·) (congrArg x0 (funext fun a => match a with | ⟨0, _⟩ => rfl | ⟨1, _⟩ => rfl)) ?_
    rw [val_main_v2_apply, val_main_v1_apply]
    refine congrArg x1 (funext fun a => match a with
      | ⟨0, _⟩ => rfl
      | ⟨1, _⟩ => Fin.ext ?_
      | ⟨2, _⟩ => Fin.ext ?_)
    · show (k.val * 8192 + x.val) / 8192 % 2048 = k.val
      omega
    · show (k.val * 8192 + x.val) % 8192 = x.val
      omega
  have z : (FloatOps.ofBits (F := Ideal) .f32 0x00000000#32 : EReal) = 0 := Cert.Mat.word_zero
  have w := congrArg₂ max e z
  exact congrArg₂ (· * ·) w w

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceUpIdeal.Value.run m g)

end Reference

/-! ## The equation -/

theorem algebraic : Cert.algebraic_KernelUpIdeal_ReferenceUpIdeal := by
  intro m g m' g' _ hagree
  refine ⟨fun c => arr m c, ?_, ?_⟩
  · refine (θ_run _ _ _).mono (fun r h c => ⟨?_, (h c).2⟩) (Cert.KernelUpIdeal.Value.run_blocks (F := Ideal) m g)
    exact (h c).1.trans (final m c)
  · refine (θ_run _ _ _).mono (fun r h c => ⟨?_, (h c).2⟩) (Cert.ReferenceUpIdeal.Value.run m' g')
    refine (h c).1.trans ((Cert.ReferenceUpIdeal.Read.val_main_v6_eq _ _).trans ?_)
    obtain ⟨h0, h1⟩ := hagree c
    rw [h0, h1]
    refine funext fun i => ?_
    obtain ⟨r, x, rfl⟩ : ∃ (r : Fin 9216) (x : Fin 8192), i = ix2 r x := ⟨i 0, i 1, eq_ix2 i⟩
    exact reference_at _ _ r x

end Cert.Up

end
-- ==== Proof.Calls.Down.lean ====
module

public import proofs.«01_k».proof.Defs
public import proofs.«01_k».proof.Proof.Calls.Mat
public import proofs.«01_k».proof.Proof.Gen.KernelDown.Frame
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import Idealize.ShloMosaic.Adequacy
public import Idealize.ShloMosaic.Lib.Tactic
public import Idealize.ShloMosaic.Init
public import Idealize.ShloMosaic.Lib.Quiescent

@[expose] public section

set_option maxRecDepth 16384

noncomputable section

/-! The down projection of the MLP: one product, whose contraction the kernel walks in four stretches of 2048 with a running sum between them. -/

namespace Cert.Down

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelDownIdeal Cert.KernelDownIdeal.Gen

/-- The element at row `r` and column `x`. -/
def elem (X : (⟨2, ![9216, 8192]⟩ : Shape).Idx → EReal) (W : (⟨3, ![2, 8192, 2048]⟩ : Shape).Idx → EReal) (r : Fin 9216) (x : Fin 2048) : EReal :=
  ∑ k : Fin 8192, X (ix2 r k) * W (ix3 (1 : Fin 2) k x)

/-- The whole array. -/
def whole (X : (⟨2, ![9216, 8192]⟩ : Shape).Idx → EReal) (W : (⟨3, ![2, 8192, 2048]⟩ : Shape).Idx → EReal) : (⟨2, ![9216, 2048]⟩ : Shape).Idx → EReal := fun i => elem X W (i 0) (i 1)

/-- One product of the contraction, its row, column and place numbered by naturals. -/
def term (X : (⟨2, ![9216, 8192]⟩ : Shape).Idx → EReal) (W : (⟨3, ![2, 8192, 2048]⟩ : Shape).Idx → EReal) (r x k : ℕ) : EReal :=
  X (ix2 (⟨r % 9216, Nat.mod_lt _ (by decide)⟩ : Fin 9216) (⟨k % 8192, Nat.mod_lt _ (by decide)⟩ : Fin 8192))
    * W (ix3 (1 : Fin 2) (⟨k % 8192, Nat.mod_lt _ (by decide)⟩ : Fin 8192) (⟨x % 2048, Nat.mod_lt _ (by decide)⟩ : Fin 2048))

theorem elem_eq (X : (⟨2, ![9216, 8192]⟩ : Shape).Idx → EReal) (W : (⟨3, ![2, 8192, 2048]⟩ : Shape).Idx → EReal) (r : Fin 9216) (x : Fin 2048) :
    ∑ k ∈ Finset.range 8192, term X W r.val x.val k = elem X W r x := by
  rw [Finset.sum_range]
  refine Finset.sum_congr rfl fun k _ => ?_
  have hr : (⟨r.val % 9216, Nat.mod_lt _ (by decide)⟩ : Fin 9216) = r := Fin.ext (Nat.mod_eq_of_lt r.isLt)
  have hx : (⟨x.val % 2048, Nat.mod_lt _ (by decide)⟩ : Fin 2048) = x := Fin.ext (Nat.mod_eq_of_lt x.isLt)
  have hk : (⟨k.val % 8192, Nat.mod_lt _ (by decide)⟩ : Fin 8192) = k := Fin.ext (Nat.mod_eq_of_lt k.isLt)
  unfold term
  rw [hr, hx, hk]

/-! ## What one point does -/

theorem hz : (![0, 0] : Fin 2 → Nat) = fun _ => 0 := funext fun a => by fin_cases a <;> rfl
theorem hz3 : (![0, 0, 0] : Fin 3 → Nat) = fun _ => 0 := funext fun a => by fin_cases a <;> rfl

/-- The reset stores zeros. -/
theorem reset (i : S1024x1024.Idx) : k0_pay1 (F := Ideal) i = 0 := by
  unfold k0_pay1
  exact (congrFun (shapeCast_self _ shapeCasts_S1024x1024_S1024x1024) i).trans Cert.Mat.word_zero

/-- A point adds its stretch of the contraction. -/
theorem step (a : Vec Ideal S1024x1024 .f32) (v4 : Vec Ideal S1024x2048 .bf16) (v5 : Vec Ideal S1x2048x1024 .f32) (r x : Fin 1024) :
    k0_pay2 a v4 v5 (ix2 r x) = a (ix2 r x) + (∑ k : Fin 2048, v4 (ix2 r k) * v5 (ix3 (0 : Fin 1) k x) : EReal) := by
  have e : FloatOps.matmul (F := Ideal) dot_S1024x2048_S2048x1024_S1024x1024_1_0_0_1_n_n none v4 (truncf .bf16 (shapeCast S2048x1024 v5 shapeCasts_S1x2048x1024_S2048x1024) bitsLt_bf16_f32) (constant S1024x1024 .f32 0x00000000#32) (ix2 r x) = (∑ k : Fin 2048, v4 (ix2 r k) * v5 (ix3 (0 : Fin 1) k x) : EReal) :=
    (Cert.Mat.rows_cols (M := 1024) (K := 2048) (N := 1024) v4 (truncf .bf16 (shapeCast S2048x1024 v5 shapeCasts_S1x2048x1024_S2048x1024) bitsLt_bf16_f32) r x).trans
      (Finset.sum_congr rfl fun k _ => congrArg (v4 (ix2 r k) * ·) (Cert.Mat.slab v5 shapeCasts_S1x2048x1024_S2048x1024 k x))
  unfold k0_pay2
  refine (congrFun (shapeCast_self _ shapeCasts_S1024x1024_S1024x1024) (ix2 r x)).trans ?_
  exact congrArg (fun q : EReal => a (ix2 r x) + q) e

/-- The first point of a block: from zeros. -/
theorem first (c : Dev nD) (i : grid0.Coords) (arg3 : Memref sig .tc .vmem S1024x2048 .bf16) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 : Vec Ideal S1024x2048 .bf16) (x1 : Vec Ideal S1x2048x1024 .f32) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S1x2048x1024) hz3]

/-- A middle point: onto what the point before left. -/
theorem middle (c : Dev nD) (i : grid0.Coords) (arg3 : Memref sig .tc .vmem S1024x2048 .bf16) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (x0 : Vec Ideal S1024x2048 .bf16) (x1 : Vec Ideal S1x2048x1024 .f32) (a : Vec Ideal S1024x1024 .f32) :
    sout0_B_0 c i arg3 harg3 arg4 harg4 arg5 harg5 arg6 harg6 hc0 hc1 x0 x1 a = k0_pay2 a x0 x1 := by
  unfold sout0_B_0
  rw [View.read_writes_eq_canon _ _ _ (scover0_B_0 c i arg3 harg3 arg4 harg4 arg5 harg5 arg6 harg6 hc0 hc1 x0 x1 a)]
  unfold kernelRun0_B
  dsimp only
  rw [View.canon_unit_zero hz]
  simp only [View.readAt_eq_ld, harg3.read_unread, harg4.read_unread, harg6.read_unread, View.ld_unit_zero (S := S1024x1024) hz, View.ld_unit_zero (S := S1024x2048) hz, View.ld_unit_zero (S := S1x2048x1024) hz3]

/-- The last point of a block: likewise. -/
theorem last (c : Dev nD) (i : grid0.Coords) (arg3 : Memref sig .tc .vmem S1024x2048 .bf16) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 : Vec Ideal S1024x2048 .bf16) (x1 : Vec Ideal S1x2048x1024 .f32) (a : Vec Ideal S1024x1024 .f32) :
    sout0_C_0 c i arg3 harg3 arg4 harg4 arg5 harg5 arg6 harg6 hc0 hc1 x0 x1 a = k0_pay2 a x0 x1 := by
  unfold sout0_C_0
  rw [View.read_writes_eq_canon _ _ _ (scover0_C_0 c i arg3 harg3 arg4 harg4 arg5 harg5 arg6 harg6 hc0 hc1 x0 x1 a)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x2048) hz, View.ld_unit_zero (S := S1x2048x1024) hz3]

/-- It also stores the sum as the block of the result. -/
theorem stored (c : Dev nD) (i : grid0.Coords) (arg3 : Memref sig .tc .vmem S1024x2048 .bf16) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 : Vec Ideal S1024x2048 .bf16) (x1 : Vec Ideal S1x2048x1024 .f32) (a : Vec Ideal S1024x1024 .f32) :
    out0_C_2 c i arg3 harg3 arg4 harg4 arg5 harg5 arg6 harg6 hc0 hc1 x0 x1 a = k0_pay2 a x0 x1 := by
  unfold out0_C_2
  rw [View.read_writes_eq_canon _ _ _ (cover0_C_2 c i arg3 harg3 arg4 harg4 arg5 harg5 arg6 harg6 hc0 hc1 x0 x1 a)]
  unfold kernelRun0_C
  dsimp only
  rw [View.canon_unit_zero hz]
  sl_unfold_words
  rw [View.readCov_unit_zero (S := S1024x1024) _ hz]
  simp only [View.readAt_eq_ld, harg3.read_unread, harg4.read_unread, harg6.read_unread, View.ld_unit_zero (S := S1024x1024) hz, View.ld_unit_zero (S := S1024x2048) hz, View.ld_unit_zero (S := S1x2048x1024) hz3]

/-! ## The blocks -/

theorem lt72 (t : Fin cfg0.N) : t.val < 72 := lt_of_lt_of_eq t.isLt N_0
theorem coord0 (t : Fin cfg0.N) : (grid0.coords t 0).val = t.val / 8 % 9 := Pipeline.Grid.coords_val t 0 (by decide) rfl
theorem coord1 (t : Fin cfg0.N) : (grid0.coords t 1).val = t.val / 4 % 2 := Pipeline.Grid.coords_val t 1 (by decide) rfl
theorem coord2 (t : Fin cfg0.N) : (grid0.coords t 2).val = t.val / 1 % 4 := Pipeline.Grid.coords_val t 2 (by decide) rfl

variable (m : (ℓ : Loc nD τ sig) → Buf (Elt Ideal) ℓ) (c : Dev nD)

/-- The two arguments and the result array. -/
def argX : (⟨2, ![9216, 8192]⟩ : Shape).Idx → EReal := m ((c : Thread nD τ).loc main_arg0)
def argW : (⟨3, ![2, 8192, 2048]⟩ : Shape).Idx → EReal := m ((c : Thread nD τ).loc main_arg1)
def arr : (⟨2, ![9216, 2048]⟩ : Shape).Idx → EReal := whole (argX m c) (argW m c)

/-- The two blocks a point reads. -/
def blockX (t : Fin cfg0.N) : S1024x2048.Idx → EReal := iblk m c 0 t
def blockW (t : Fin cfg0.N) : S1x2048x1024.Idx → EReal := iblk m c 1 t

theorem row (t : Fin cfg0.N) : (cfg0.win 0).index t 0 = t.val / 8 % 9 := by
  rw [← coord0]
  exact (by decide : ∀ a : Fin 9, (BitVec.ofNat 32 a.val).toNat = a.val) (grid0.coords t 0)
theorem part (t : Fin cfg0.N) : (cfg0.win 0).index t 1 = t.val / 1 % 4 := by
  rw [← coord2]
  exact (by decide : ∀ a : Fin 4, (BitVec.ofNat 32 a.val).toNat = a.val) (grid0.coords t 2)
theorem part1 (t : Fin cfg0.N) : (cfg0.win 1).index t 1 = t.val / 1 % 4 := by
  rw [← coord2]
  exact (by decide : ∀ a : Fin 4, (BitVec.ofNat 32 a.val).toNat = a.val) (grid0.coords t 2)
theorem col (t : Fin cfg0.N) : (cfg0.win 1).index t 2 = t.val / 4 % 2 := by
  rw [← coord1]
  exact (by decide : ∀ a : Fin 2, (BitVec.ofNat 32 a.val).toNat = a.val) (grid0.coords t 1)
theorem place0 (t : Fin cfg0.N) : (cfg0.win 2).index t 0 = t.val / 8 % 9 := by
  rw [← coord0]
  exact (by decide : ∀ a : Fin 9, (BitVec.ofNat 32 a.val).toNat = a.val) (grid0.coords t 0)
theorem place1 (t : Fin cfg0.N) : (cfg0.win 2).index t 1 = t.val / 4 % 2 := by
  rw [← coord1]
  exact (by decide : ∀ a : Fin 2, (BitVec.ofNat 32 a.val).toNat = a.val) (grid0.coords t 1)

/-- The rows of a block. -/
theorem rows (t : Fin cfg0.N) (r : Fin 1024) (k : Fin 2048) :
    blockX m c t (ix2 r k) = argX m c (ix2 (⟨(t.val / 8 % 9 * 1024 + r.val) % 9216, Nat.mod_lt _ (by decide)⟩ : Fin 9216) (⟨(t.val % 4 * 2048 + k.val) % 8192, Nat.mod_lt _ (by decide)⟩ : Fin 8192)) := by
  show V m c main_arg0 (((cfg0.win 0).rect t).emb (ix2 r k)) = _
  rw [V_main_arg0 m c]
  refine congrArg (m ((c : Thread nD τ).loc main_arg0) : S9216x8192.Idx → EReal) (funext fun a => match a with
    | ⟨0, _⟩ => Fin.ext ?_
    | ⟨1, _⟩ => Fin.ext ?_)
  · refine ((cfg0.win 0).rect_emb_val t (ix2 r k) 0).trans ?_
    rw [row]
    show t.val / 8 % 9 * 1024 + r.val = (t.val / 8 % 9 * 1024 + r.val) % 9216
    omega
  · refine ((cfg0.win 0).rect_emb_val t (ix2 r k) 1).trans ?_
    rw [part]
    show t.val / 1 % 4 * 2048 + k.val = (t.val % 4 * 2048 + k.val) % 8192
    omega

/-- The weights of a block. -/
theorem weights (t : Fin cfg0.N) (k : Fin 2048) (x : Fin 1024) :
    blockW m c t (ix3 (0 : Fin 1) k x) = argW m c (ix3 (1 : Fin 2) (⟨(t.val % 4 * 2048 + k.val) % 8192, Nat.mod_lt _ (by decide)⟩ : Fin 8192) (⟨(t.val / 4 % 2 * 1024 + x.val) % 2048, Nat.mod_lt _ (by decide)⟩ : Fin 2048)) := by
  show V m c main_arg1 (((cfg0.win 1).rect t).emb (ix3 (0 : Fin 1) k x)) = _
  rw [V_main_arg1 m c]
  refine congrArg (m ((c : Thread nD τ).loc main_arg1) : S2x8192x2048.Idx → EReal) (funext fun a => match a with
    | ⟨0, _⟩ => Fin.ext ?_
    | ⟨1, _⟩ => Fin.ext ?_
    | ⟨2, _⟩ => Fin.ext ?_)
  · exact ((cfg0.win 1).rect_emb_val t (ix3 (0 : Fin 1) k x) 0).trans rfl
  · refine ((cfg0.win 1).rect_emb_val t (ix3 (0 : Fin 1) k x) 1).trans ?_
    rw [part1]
    show t.val / 1 % 4 * 2048 + k.val = (t.val % 4 * 2048 + k.val) % 8192
    omega
  · refine ((cfg0.win 1).rect_emb_val t (ix3 (0 : Fin 1) k x) 2).trans ?_
    rw [col]
    show t.val / 4 % 2 * 1024 + x.val = (t.val / 4 % 2 * 1024 + x.val) % 2048
    omega

/-- The stretch of the contraction that a point adds. -/
theorem stretch (t : Fin cfg0.N) (r x : Fin 1024) :
    (∑ k : Fin 2048, blockX m c t (ix2 r k) * blockW m c t (ix3 (0 : Fin 1) k x))
      = ∑ k ∈ Finset.range 2048, term (argX m c) (argW m c) (t.val / 8 % 9 * 1024 + r.val) (t.val / 4 % 2 * 1024 + x.val) (2048 * (t.val % 4) + k) := by
  rw [Finset.sum_range]
  refine Finset.sum_congr rfl fun k _ => ?_
  rw [rows, weights, Nat.mul_comm 2048]
  rfl

theorem place (t : Fin cfg0.N) (r x : Fin 1024) : ((cfg0.win 2).rect t).emb (ix2 r x)
    = (ix2 (⟨t.val / 8 % 9 * 1024 + r.val, by omega⟩ : Fin 9216) (⟨t.val / 4 % 2 * 1024 + x.val, by omega⟩ : Fin 2048) : S9216x2048.Idx) := funext fun a => match a with
  | ⟨0, _⟩ => Fin.ext (((cfg0.win 2).rect_emb_val t (ix2 r x) 0).trans (by rw [place0]; rfl))
  | ⟨1, _⟩ => Fin.ext (((cfg0.win 2).rect_emb_val t (ix2 r x) 1).trans (by rw [place1]; rfl))

/-- What the point at `n` adds onto `a`, when `a` holds the stretches before. -/
theorem onto (t : Fin cfg0.N) (a : Vec Ideal S1024x1024 .f32) (r x : Fin 1024)
    (ha : a (ix2 r x) = ∑ k ∈ Finset.range (2048 * (t.val % 4)), term (argX m c) (argW m c) (t.val / 8 % 9 * 1024 + r.val) (t.val / 4 % 2 * 1024 + x.val) k) :
    k0_pay2 a (iblk m c 0 t) (iblk m c 1 t) (ix2 r x)
      = ∑ k ∈ Finset.range (2048 * (t.val % 4 + 1)), term (argX m c) (argW m c) (t.val / 8 % 9 * 1024 + r.val) (t.val / 4 % 2 * 1024 + x.val) k := by
  refine (step a (blockX m c t) (blockW m c t) r x).trans ?_
  rw [stretch, ha, Nat.mul_add, Nat.mul_one, Finset.sum_range_add]

/-- The running sum after each point. -/
theorem running : ∀ (n : ℕ) (h : n < cfg0.N) (r x : Fin 1024), (outsAt0 m c n h).2 (ix2 r x)
    = ∑ k ∈ Finset.range (2048 * (n % 4 + 1)), term (argX m c) (argW m c) (n / 8 % 9 * 1024 + r.val) (n / 4 % 2 * 1024 + x.val) k := by
  intro n
  induction n with
  | zero =>
    intro h r x
    rw [outsAt0_A m c ⟨0, h⟩ rfl (by dsimp only; omega)]
    dsimp only
    rw [first]
    exact onto m c ⟨0, h⟩ _ r x (by rw [reset]; rfl)
  | succ n ih =>
    intro h r x
    by_cases h0 : (n + 1) % 4 = 0
    · rw [outsAt0_A m c ⟨n + 1, h⟩ h0 (by dsimp only; omega)]
      dsimp only
      rw [first]
      exact onto m c ⟨n + 1, h⟩ _ r x (by rw [reset]; dsimp only; rw [h0]; rfl)
    · have before : (outsAt0 m c n (Nat.lt_of_succ_lt h)).2 (ix2 r x)
          = ∑ k ∈ Finset.range (2048 * ((n + 1) % 4)), term (argX m c) (argW m c) ((n + 1) / 8 % 9 * 1024 + r.val) ((n + 1) / 4 % 2 * 1024 + x.val) k := by
        rw [ih (Nat.lt_of_succ_lt h) r x, show (n + 1) % 4 = n % 4 + 1 by omega, show (n + 1) / 8 = n / 8 by omega, show (n + 1) / 4 = n / 4 by omega]
      by_cases h1 : (n + 1) % 4 = 3
      · rw [outsAt0_C m c ⟨n + 1, h⟩ h0 h1]
        dsimp only
        rw [last]
        exact onto m c ⟨n + 1, h⟩ _ r x before
      · rw [outsAt0_B m c ⟨n + 1, h⟩ h0 h1]
        dsimp only
        rw [middle]
        exact onto m c ⟨n + 1, h⟩ _ r x before

/-- The last point of a block stores the whole sum. -/
theorem total (t : Fin cfg0.N) (h3 : t.val % 4 = 3) (r x : Fin 1024) : (outsAt0 m c t.val t.isLt).1 (ix2 r x)
    = arr m c (ix2 (⟨t.val / 8 % 9 * 1024 + r.val, by omega⟩ : Fin 9216) (⟨t.val / 4 % 2 * 1024 + x.val, by omega⟩ : Fin 2048)) := by
  have e : (outsAt0 m c t.val t.isLt).1 (ix2 r x) = (outsAt0 m c t.val t.isLt).2 (ix2 r x) := by
    rw [outsAt0_C m c t (by omega) h3]
    dsimp only
    rw [last, stored]
  rw [e, running m c t.val t.isLt r x, h3]
  exact elem_eq (argX m c) (argW m c) (⟨t.val / 8 % 9 * 1024 + r.val, by omega⟩ : Fin 9216) (⟨t.val / 4 % 2 * 1024 + x.val, by omega⟩ : Fin 2048)

/-- What a point writes back is its block of the result. -/
theorem written (t : Fin cfg0.N) (hf : (cfg0.win 2).flush t = true) : (dats m 0 c).flushed 2 t = ((cfg0.win 2).blk t).view.read (Elt Ideal) (arr m c) := by
  have h3 : t.val % 4 = 3 := (flush0_2 t).mp hf
  rw [Cert.KernelDownIdeal.Value.flushed2]
  have key : ∀ (r x : Fin 1024), (outsAt0 m c t.val t.isLt).1 (ix2 r x) = arr m c (((cfg0.win 2).rect t).emb (ix2 r x)) := by
    intro r x
    rw [place]
    exact total m c t h3 r x
  refine funext fun y => ?_
  obtain ⟨r, x, rfl⟩ : ∃ (r x : Fin 1024), y = ix2 r x := ⟨y 0, y 1, eq_ix2 y⟩
  exact key r x

theorem final : (dats m 0 c).arrAt 2 cfg0.N = arr m c :=
  Dat.arrAt_eq_of_cover (dats m 0 c) 2 (arr m c) (fun t hf => written m c t hf) (fun i => by
    obtain ⟨q, x, rfl⟩ : ∃ (q : Fin 9216) (x : Fin 2048), i = (ix2 q x : S9216x2048.Idx) := ⟨i 0, i 1, eq_ix2 (i : S9216x2048.Idx)⟩
    have hN : q.val / 1024 * 8 + x.val / 1024 * 4 + 3 < cfg0.N := lt_of_lt_of_eq (by omega) N_0.symm
    refine ⟨⟨q.val / 1024 * 8 + x.val / 1024 * 4 + 3, hN⟩, (flush0_2 _).mpr (by dsimp only; omega), ?_⟩
    refine Finset.mem_map.2 ⟨ix2 (⟨q.val % 1024, Nat.mod_lt _ (by decide)⟩ : Fin 1024) (⟨x.val % 1024, Nat.mod_lt _ (by decide)⟩ : Fin 1024), Finset.mem_univ _, ?_⟩
    refine (place ⟨q.val / 1024 * 8 + x.val / 1024 * 4 + 3, hN⟩ _ _).trans ?_
    refine congrArg₂ (fun (q : Fin 9216) (x : Fin 2048) => (ix2 q x : S9216x2048.Idx)) (Fin.ext ?_) (Fin.ext ?_)
    · show (q.val / 1024 * 8 + x.val / 1024 * 4 + 3) / 8 % 9 * 1024 + q.val % 1024 = q.val
      omega
    · show (q.val / 1024 * 8 + x.val / 1024 * 4 + 3) / 4 % 2 * 1024 + x.val % 1024 = x.val
      omega)

end Kernel

/-! ## The reference -/

section Reference

open Cert.ReferenceDownIdeal Cert.ReferenceDownIdeal.Gen Cert.ReferenceDownIdeal.Read

theorem reference_at (x0 : (⟨S9216x8192, .bf16⟩ : BufTy).Contents (Elt Ideal)) (x1 : (⟨S2x8192x2048, .f32⟩ : BufTy).Contents (Elt Ideal)) (r : Fin 9216) (x : Fin 2048) :
    val_main_v3 (F := Ideal) x0 x1 (ix2 r x) = elem x0 x1 r x := by
  rw [val_main_v3_apply]
  refine Finset.sum_congr rfl fun k _ => ?_
  refine congrArg₂ (· * ·) (congrArg x0 (funext fun a => match a with | ⟨0, _⟩ => rfl | ⟨1, _⟩ => rfl)) ?_
  rw [val_main_v2_apply, val_main_v1_apply]
  refine congrArg x1 (funext fun a => match a with
    | ⟨0, _⟩ => rfl
    | ⟨1, _⟩ => Fin.ext ?_
    | ⟨2, _⟩ => Fin.ext ?_)
  · show (k.val * 2048 + x.val) / 2048 % 8192 = k.val
    omega
  · show (k.val * 2048 + x.val) % 2048 = x.val
    omega

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceDownIdeal.Value.run m g)

end Reference

/-! ## The equation -/

theorem algebraic : Cert.algebraic_KernelDownIdeal_ReferenceDownIdeal := by
  intro m g m' g' _ hagree
  refine ⟨fun c => arr m c, ?_, ?_⟩
  · refine (θ_run _ _ _).mono (fun r h c => ⟨?_, (h c).2⟩) (Cert.KernelDownIdeal.Value.run_blocks (F := Ideal) m g)
    exact (h c).1.trans (final m c)
  · refine (θ_run _ _ _).mono (fun r h c => ⟨?_, (h c).2⟩) (Cert.ReferenceDownIdeal.Value.run m' g')
    refine (h c).1.trans ((Cert.ReferenceDownIdeal.Read.val_main_v3_eq _ _).trans ?_)
    obtain ⟨h0, h1⟩ := hagree c
    rw [h0, h1]
    refine funext fun i => ?_
    obtain ⟨r, x, rfl⟩ : ∃ (r : Fin 9216) (x : Fin 2048), i = ix2 r x := ⟨i 0, i 1, eq_ix2 i⟩
    exact reference_at _ _ r x

end Cert.Down

end
-- ==== Proof.Calls.Gates.lean ====
module

public import proofs.«01_k».proof.Defs
public import proofs.«01_k».proof.Proof.Calls.Mat
public import proofs.«01_k».proof.Proof.Gen.KernelGates.Frame
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.ReferenceGatesIdeal.Read
public import Idealize.ShloMosaic.Adequacy
public import Idealize.ShloMosaic.Init
public import Idealize.ShloMosaic.Lib.Quiescent

@[expose] public section

set_option maxRecDepth 16384

noncomputable section

/-! The gates: the logistic function of the product with columns 9288 to 15431 of the combined weights plus a bias. -/

namespace Cert.Gates

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelGatesIdeal Cert.KernelGatesIdeal.Gen

/-- The element at row `r` and column `x`. -/
def elem (X : (⟨2, ![9216, 2048]⟩ : Shape).Idx → EReal) (W : (⟨3, ![2, 2048, 15432]⟩ : Shape).Idx → EReal) (B : (⟨3, ![2, 3, 2048]⟩ : Shape).Idx → EReal) (r : Fin 9216) (x : Fin 6144) : EReal :=
  Ideal.logistic ((∑ k : Fin 2048, X (ix2 r k) * W (ix3 (1 : Fin 2) k (⟨9288 + x.val, by omega⟩ : Fin 15432)))
    + B (ix3 (1 : Fin 2) (⟨x.val / 2048, by omega⟩ : Fin 3) (⟨x.val % 2048, Nat.mod_lt _ (by decide)⟩ : Fin 2048)))

/-- The whole array. -/
def whole (X : (⟨2, ![9216, 2048]⟩ : Shape).Idx → EReal) (W : (⟨3, ![2, 2048, 15432]⟩ : Shape).Idx → EReal) (B : (⟨3, ![2, 3, 2048]⟩ : Shape).Idx → EReal) : (⟨2, ![9216, 6144]⟩ : Shape).Idx → EReal := fun i => elem X W B (i 0) (i 1)

/-- What one block of the result holds. -/
theorem block (v0 : Vec Ideal S1x1024x2048 .f32) (v3 : Vec Ideal S1024x2048 .bf16) (v6 : Vec Ideal S1x1024 .f32) (r : Fin 1024) (x : Fin 1024) :
    k0_pay1 v0 v3 v6 (ix2 r x) = Ideal.logistic ((∑ k : Fin 2048, v3 (ix2 r k) * v0 (ix3 (0 : Fin 1) x k) : EReal) + v6 (ix2 (0 : Fin 1) x)) := by
  have e : FloatOps.matmul (F := Ideal) dot_S1024x2048_S1024x2048_S1024x1024_1_1_0_0_n_n none v3 (shapeCast S1024x2048 (truncf .bf16 (shapeCast S1x1024x2048 v0 shapeCasts_S1x1024x2048_S1x1024x2048) bitsLt_bf16_f32) shapeCasts_S1x1024x2048_S1024x2048) (constant S1024x1024 .f32 0x00000000#32) (ix2 r x) = (∑ k : Fin 2048, v3 (ix2 r k) * v0 (ix3 (0 : Fin 1) x k) : EReal) :=
    (Cert.Mat.rows_rows (M := 1024) (K := 2048) (N := 1024) v3 (shapeCast S1024x2048 (truncf .bf16 (shapeCast S1x1024x2048 v0 shapeCasts_S1x1024x2048_S1x1024x2048) bitsLt_bf16_f32) shapeCasts_S1x1024x2048_S1024x2048) r x).trans
      (Finset.sum_congr rfl fun k _ => congrArg (v3 (ix2 r k) * ·) ((Cert.Mat.slab _ shapeCasts_S1x1024x2048_S1024x2048 x k).trans
        (shapeCast_apply v0 shapeCasts_S1x1024x2048_S1x1024x2048 (ix3 (0 : Fin 1) x k) (ix3 (0 : Fin 1) x k) rfl)))
  have b : broadcastTo S1024x1024 (shapeCast S1x1024 v6 shapeCasts_S1x1024_S1x1024) broadcasts_S1x1024_S1024x1024 (ix2 r x) = v6 (ix2 (0 : Fin 1) x) :=
    (broadcastTo_apply _ broadcasts_S1x1024_S1024x1024 (ix2 r x) (ix2 (0 : Fin 1) x) (fun a => match a with | ⟨0, _⟩ => rfl | ⟨1, _⟩ => rfl)).trans
      (shapeCast_apply v6 shapeCasts_S1x1024_S1x1024 (ix2 (0 : Fin 1) x) (ix2 (0 : Fin 1) x) rfl)
  exact congrArg₂ (fun p q : EReal => Ideal.logistic (p + q)) e b

theorem load1 (X : Vec Ideal S1x1024x2048 .f32) : View.ld X r0_0 = X := View.ld_unit_lit _ _ (by decide)
theorem load2 (X : Vec Ideal S1x1024 .f32) : View.ld X r0_2 = X := View.ld_unit_lit _ _ (by decide)
theorem load0 (X : Vec Ideal S1024x2048 .bf16) : View.ld X r0_1 = X := View.ld_unit_lit _ _ (by decide)

theorem lt72 (t : Fin cfg0.N) : t.val < 54 := lt_of_lt_of_eq t.isLt N_0
theorem coord0 (t : Fin cfg0.N) : (grid0.coords t 0).val = t.val / 6 % 9 := Pipeline.Grid.coords_val t 0 (by decide) rfl
theorem coord1 (t : Fin cfg0.N) : (grid0.coords t 1).val = t.val / 1 % 6 := Pipeline.Grid.coords_val t 1 (by decide) rfl

variable (m : (ℓ : Loc nD τ sig) → Buf (Elt Ideal) ℓ) (c : Dev nD)

/-- The result array. -/
def arr : (⟨2, ![9216, 6144]⟩ : Shape).Idx → EReal := whole (m ((c : Thread nD τ).loc main_arg0)) (m ((c : Thread nD τ).loc main_arg1)) (m ((c : Thread nD τ).loc main_arg2))

theorem row (t : Fin cfg0.N) : (cfg0.win 0).index t 0 = t.val / 6 % 9 := by
  rw [← coord0]
  exact (by decide : ∀ a : Fin 9, (BitVec.ofNat 32 a.val).toNat = a.val) (grid0.coords t 0)

/-- The three blocks a point reads. -/
def blockX (t : Fin cfg0.N) : S1024x2048.Idx → EReal := iblk m c 0 t
def blockB (t : Fin cfg0.N) : S1x1024.Idx → EReal := iblk m c 2 t
def blockW (t : Fin cfg0.N) : S1x1024x2048.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 6 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

/-- The weights as the region finds them: the argument with its last two axes exchanged. -/
theorem turned : V m c main_v0
    = (transpose S2x15432x2048 [0, 2, 1] (m ((c : Thread nD τ).loc main_arg1)) transposes_S2x2048x15432_S2x15432x2048_0_2_1 : FVec Ideal S2x15432x2048 .f32) := rfl

theorem col (t : Fin cfg0.N) : (cfg0.win 1).index t 1 = 9288 + t.val / 1 % 6 * 1024 := by
  rw [← coord1]
  exact (by decide : ∀ a : Fin 6, (Scalar.muli 8#32 (Scalar.addi 1161#32 (Scalar.muli (BitVec.ofNat 32 a.val) 128#32))).toNat = 9288 + a.val * 1024) (grid0.coords t 1)

/-- The weights of a block. -/
theorem weights (t : Fin cfg0.N) (x : Fin 1024) (k : Fin 2048) :
    blockW m c t (ix3 (0 : Fin 1) x k) = (m ((c : Thread nD τ).loc main_arg1) : S2x2048x15432.Idx → EReal) (ix3 (1 : Fin 2) k (⟨9288 + (t.val / 1 % 6 * 1024 + x.val), by omega⟩ : Fin 15432)) := by
  show V m c main_v0 (((cfg0.win 1).rect t).emb (ix3 (0 : Fin 1) x k)) = _
  have he : ((cfg0.win 1).rect t).emb (ix3 (0 : Fin 1) x k) = (ix3 (1 : Fin 2) (⟨9288 + (t.val / 1 % 6 * 1024 + x.val), by omega⟩ : Fin 15432) k : S2x15432x2048.Idx) := funext fun a => match a with
    | ⟨0, _⟩ => Fin.ext (((cfg0.win 1).rect_emb_val_off t (ix3 (0 : Fin 1) x k) 0).trans rfl)
    | ⟨1, _⟩ => Fin.ext (((cfg0.win 1).rect_emb_val_off t (ix3 (0 : Fin 1) x k) 1).trans (by
        rw [col]
        show 9288 + t.val / 1 % 6 * 1024 + x.val = 9288 + (t.val / 1 % 6 * 1024 + x.val)
        omega))
    | ⟨2, _⟩ => Fin.ext (((cfg0.win 1).rect_emb_val_of_index_zero t 2 rfl (ix3 (0 : Fin 1) x k)).trans rfl)
  rw [turned m c]
  refine (congrArg _ he).trans ?_
  exact transpose_apply [0, 2, 1] _ transposes_S2x2048x15432_S2x15432x2048_0_2_1 (ix3 (1 : Fin 2) (⟨9288 + (t.val / 1 % 6 * 1024 + x.val), by omega⟩ : Fin 15432) k)
    (ix3 (1 : Fin 2) k (⟨9288 + (t.val / 1 % 6 * 1024 + x.val), by omega⟩ : Fin 15432)) (fun a => match a with | ⟨0, _⟩ => rfl | ⟨1, _⟩ => rfl | ⟨2, _⟩ => rfl)

/-- The biases as the region finds them: layer 1's three rows in one. -/
theorem joined : V m c main_v4
    = (shapeCast S1x6144 (shapeCast S6144 (shapeCast S3x2048 (extractStridedSlice S1x3x2048 ![1, 0, 0] (m ((c : Thread nD τ).loc main_arg2)) slices_S2x3x2048_S1x3x2048_1_0_0)
        shapeCasts_S1x3x2048_S3x2048) shapeCasts_S3x2048_S6144) shapeCasts_S6144_S1x6144 : FVec Ideal S1x6144 .f32) := rfl

theorem slot (t : Fin cfg0.N) : (cfg0.win 2).index t 1 = t.val / 1 % 6 := by
  rw [← coord1]
  exact (by decide : ∀ a : Fin 6, (BitVec.ofNat 32 a.val).toNat = a.val) (grid0.coords t 1)

theorem joined_at (y : Fin 6144) : (V m c main_v4 : S1x6144.Idx → EReal) (ix2 (0 : Fin 1) y)
    = (m ((c : Thread nD τ).loc main_arg2) : S2x3x2048.Idx → EReal) (ix3 (1 : Fin 2) (⟨y.val / 2048, by omega⟩ : Fin 3) (⟨y.val % 2048, Nat.mod_lt _ (by decide)⟩ : Fin 2048)) := by
  rw [joined m c]
  refine (shapeCast_apply _ shapeCasts_S6144_S1x6144 (ix2 (0 : Fin 1) y) (ix1 y) ?_).trans ?_
  · rw [Shape.rowMajor_val_one, Shape.rowMajor_val_two]
    show y.val = 0 * 6144 + y.val
    omega
  refine (shapeCast_apply _ shapeCasts_S3x2048_S6144 (ix1 y) (ix2 (⟨y.val / 2048, by omega⟩ : Fin 3) (⟨y.val % 2048, Nat.mod_lt _ (by decide)⟩ : Fin 2048)) ?_).trans ?_
  · rw [Shape.rowMajor_val_one, Shape.rowMajor_val_two]
    show y.val / 2048 * 2048 + y.val % 2048 = y.val
    omega
  refine (Cert.Mat.slab _ shapeCasts_S1x3x2048_S3x2048 _ _).trans ?_
  exact extractStridedSlice_apply _ _ slices_S2x3x2048_S1x3x2048_1_0_0 _ _ (fun a => match a with
    | ⟨0, _⟩ => rfl
    | ⟨1, _⟩ => (Nat.zero_add _).symm
    | ⟨2, _⟩ => (Nat.zero_add _).symm)

/-- The biases of a block. -/
theorem biases (t : Fin cfg0.N) (x : Fin 1024) :
    blockB m c t (ix2 (0 : Fin 1) x) = (m ((c : Thread nD τ).loc main_arg2) : S2x3x2048.Idx → EReal)
      (ix3 (1 : Fin 2) (⟨(t.val / 1 % 6 * 1024 + x.val) / 2048, by omega⟩ : Fin 3) (⟨(t.val / 1 % 6 * 1024 + x.val) % 2048, Nat.mod_lt _ (by decide)⟩ : Fin 2048)) := by
  show V m c main_v4 (((cfg0.win 2).rect t).emb (ix2 (0 : Fin 1) x)) = _
  have he : ((cfg0.win 2).rect t).emb (ix2 (0 : Fin 1) x) = (ix2 (0 : Fin 1) (⟨t.val / 1 % 6 * 1024 + x.val, by omega⟩ : Fin 6144) : S1x6144.Idx) := funext fun a => match a with
    | ⟨0, _⟩ => Fin.ext (((cfg0.win 2).rect_emb_val_of_index_zero t 0 rfl (ix2 (0 : Fin 1) x)).trans rfl)
    | ⟨1, _⟩ => Fin.ext (((cfg0.win 2).rect_emb_val t (ix2 (0 : Fin 1) x) 1).trans (by rw [slot]; rfl))
  exact (congrArg _ he).trans (joined_at m c _)

theorem place0 (t : Fin cfg0.N) : (cfg0.win 3).index t 0 = t.val / 6 % 9 := by
  rw [← coord0]
  exact (by decide : ∀ a : Fin 9, (BitVec.ofNat 32 a.val).toNat = a.val) (grid0.coords t 0)
theorem place1 (t : Fin cfg0.N) : (cfg0.win 3).index t 1 = t.val / 1 % 6 := by
  rw [← coord1]
  exact (by decide : ∀ a : Fin 6, (BitVec.ofNat 32 a.val).toNat = a.val) (grid0.coords t 1)

theorem place (t : Fin cfg0.N) (r : Fin 1024) (x : Fin 1024) : ((cfg0.win 3).rect t).emb (ix2 r x)
    = (ix2 (⟨t.val / 6 % 9 * 1024 + r.val, by omega⟩ : Fin 9216) (⟨t.val / 1 % 6 * 1024 + x.val, by omega⟩ : Fin 6144) : S9216x6144.Idx) := funext fun a => match a with
  | ⟨0, _⟩ => Fin.ext (((cfg0.win 3).rect_emb_val t (ix2 r x) 0).trans (by rw [place0]; rfl))
  | ⟨1, _⟩ => Fin.ext (((cfg0.win 3).rect_emb_val t (ix2 r x) 1).trans (by rw [place1]; rfl))

/-- What a point writes back is its block of the result. -/
theorem written (t : Fin cfg0.N) : (dats m 0 c).flushed 3 t = ((cfg0.win 3).blk t).view.read (Elt Ideal) (arr m c) := by
  rw [Cert.KernelGatesIdeal.Value.flushed3]
  unfold out0_3
  have key : ∀ (r : Fin 1024) (x : Fin 1024), (View.canon [⟨r0_3, k0_pay1 (View.ld (iblk m c 1 t) r0_0) (View.ld (iblk m c 0 t) r0_1) (View.ld (iblk m c 2 t) r0_2)⟩] : Vec Ideal S1024x1024 .bf16) (ix2 r x)
      = arr m c (((cfg0.win 3).rect t).emb (ix2 r x)) := by
    intro r x
    rw [View.canon_cons_unit_lit _ _ _ (by decide), place]
    refine (congrFun (congr (congrArg₂ (k0_pay1 (F := Ideal)) (load1 (iblk m c 1 t)) (load0 (iblk m c 0 t))) (load2 (iblk m c 2 t))) (ix2 r x)).trans ?_
    refine (block (blockW m c t) (blockX m c t) (blockB m c t) r x).trans ?_
    have e : (∑ k : Fin 2048, blockX m c t (ix2 r k) * blockW m c t (ix3 (0 : Fin 1) x k) : EReal) = _ :=
      Finset.sum_congr rfl fun k _ => congrArg₂ (fun a b : EReal => a * b) (rows m c t r k) (weights m c t x k)
    exact congrArg₂ (fun p q : EReal => Ideal.logistic (p + q)) e (biases m c t x)
  refine funext fun y => ?_
  obtain ⟨r, x, rfl⟩ : ∃ (r : Fin 1024) (x : Fin 1024), y = ix2 r x := ⟨y 0, y 1, eq_ix2 y⟩
  exact key r x

theorem final : (dats m 0 c).arrAt 3 cfg0.N = arr m c :=
  Dat.arrAt_eq_of_cover (dats m 0 c) 3 (arr m c) (fun t _ => written m c t) (fun i => by
    obtain ⟨q, x, rfl⟩ : ∃ (q : Fin 9216) (x : Fin 6144), i = (ix2 q x : S9216x6144.Idx) := ⟨i 0, i 1, eq_ix2 (i : S9216x6144.Idx)⟩
    have hN : q.val / 1024 * 6 + x.val / 1024 < cfg0.N := lt_of_lt_of_eq (by omega) N_0.symm
    refine ⟨⟨q.val / 1024 * 6 + x.val / 1024, hN⟩, flush0_3 _, ?_⟩
    refine Finset.mem_map.2 ⟨ix2 (⟨q.val % 1024, Nat.mod_lt _ (by decide)⟩ : Fin 1024) (⟨x.val % 1024, Nat.mod_lt _ (by decide)⟩ : Fin 1024), Finset.mem_univ _, ?_⟩
    refine (place ⟨q.val / 1024 * 6 + x.val / 1024, hN⟩ _ _).trans ?_
    refine congrArg₂ (fun (q : Fin 9216) (x : Fin 6144) => (ix2 q x : S9216x6144.Idx)) (Fin.ext ?_) (Fin.ext ?_)
    · show (q.val / 1024 * 6 + x.val / 1024) / 6 % 9 * 1024 + q.val % 1024 = q.val
      omega
    · show (q.val / 1024 * 6 + x.val / 1024) / 1 % 6 * 1024 + x.val % 1024 = x.val
      omega)

end Kernel

/-! ## The reference -/

section Reference

open Cert.ReferenceGatesIdeal Cert.ReferenceGatesIdeal.Gen Cert.ReferenceGatesIdeal.Read

theorem reference_at (x0 : (⟨S9216x2048, .bf16⟩ : BufTy).Contents (Elt Ideal)) (x1 : (⟨(⟨3, ![2, 2048, 15432]⟩ : Shape), .f32⟩ : BufTy).Contents (Elt Ideal)) (x2 : (⟨(⟨3, ![2, 3, 2048]⟩ : Shape), .f32⟩ : BufTy).Contents (Elt Ideal)) (r : Fin 9216) (x : Fin 6144) :
    val_main_v17 (F := Ideal) x0 x1 x2 (ix2 r x) = elem x0 x1 x2 r x := by
  have e : val_main_v4 (F := Ideal) x0 x1 (ix2 r x) = (∑ k : Fin 2048, x0 (ix2 r k) * x1 (ix3 (1 : Fin 2) k (⟨9288 + x.val, by omega⟩ : Fin 15432)) : EReal) := by
    rw [val_main_v4_apply]
    refine Finset.sum_congr rfl fun k _ => ?_
    refine congrArg₂ (· * ·) (congrArg x0 (funext fun a => match a with | ⟨0, _⟩ => rfl | ⟨1, _⟩ => rfl)) ?_
    rw [val_main_v3_apply, val_main_v2_apply, val_main_v1_apply]
    refine congrArg x1 (funext fun a => match a with
      | ⟨0, _⟩ => rfl
      | ⟨1, _⟩ => Fin.ext ?_
      | ⟨2, _⟩ => Fin.ext ?_)
    · show (k.val * 15432 + (9288 + x.val)) / 15432 % 2048 = k.val
      omega
    · show (k.val * 15432 + (9288 + x.val)) % 15432 = 9288 + x.val
      omega
  have b : val_main_v9 (F := Ideal) x2 (ix2 r x) = x2 (ix3 (1 : Fin 2) (⟨x.val / 2048, by omega⟩ : Fin 3) (⟨x.val % 2048, Nat.mod_lt _ (by decide)⟩ : Fin 2048)) := by
    rw [val_main_v9_apply, val_main_v8_apply, val_main_v7_apply, val_main_v6_apply, val_main_v5_apply]
    refine congrArg x2 (funext fun a => match a with
      | ⟨0, _⟩ => rfl
      | ⟨1, _⟩ => Fin.ext ?_
      | ⟨2, _⟩ => Fin.ext ?_)
    · show (x.val / 2048 * 2048 + x.val % 2048) / 2048 % 3 = x.val / 2048
      omega
    · show (x.val / 2048 * 2048 + x.val % 2048) % 2048 = x.val % 2048
      omega
  have one : (FloatOps.ofBits (F := Ideal) .f32 0x3F800000#32 : EReal) = 1 := Ideal.ofBits_one_f32
  rw [val_main_v17_apply, val_main_v16_apply, val_main_v15_apply, val_main_v14_apply, val_main_v13_apply, val_main_v12_apply, val_main_v11_apply, val_main_v10_apply,
    val_main_cst_apply, val_main_cst_0_apply]
  have s : (FloatOps.addf (F := Ideal) (φ := .f32) (val_main_v4 (F := Ideal) x0 x1 (ix2 r x)) (val_main_v9 (F := Ideal) x2 (ix2 r x)) : EReal) = _ :=
    congrArg₂ (fun p q : EReal => p + q) e b
  exact (congrArg₂ (fun p q : EReal => Ideal.div p (p + Ideal.exp (-q))) one s)

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.ReferenceGatesIdeal.Value.run m g)

end Reference

/-! ## The equation -/

theorem algebraic : Cert.algebraic_KernelGatesIdeal_ReferenceGatesIdeal := by
  intro m g m' g' _ hagree
  refine ⟨fun c => arr m c, ?_, ?_⟩
  · refine (θ_run _ _ _).mono (fun r h c => ⟨?_, (h c).2⟩) (Cert.KernelGatesIdeal.Value.run_blocks (F := Ideal) m g)
    exact (h c).1.trans (final m c)
  · refine (θ_run _ _ _).mono (fun r h c => ⟨?_, (h c).2⟩) (Cert.ReferenceGatesIdeal.Value.run m' g')
    refine (h c).1.trans ((Cert.ReferenceGatesIdeal.Read.val_main_v17_eq _ _ _).trans ?_)
    obtain ⟨h0, h1, h2⟩ := hagree c
    rw [h0, h1, h2]
    refine funext fun i => ?_
    obtain ⟨r, x, rfl⟩ : ∃ (r : Fin 9216) (x : Fin 6144), i = ix2 r x := ⟨i 0, i 1, eq_ix2 i⟩
    exact reference_at _ _ _ r x

end Cert.Gates

end
-- ==== Proof.Calls.MlstmIn.lean ====
module

public import proofs.«01_k».proof.Defs
public import proofs.«01_k».proof.Proof.Calls.Mat
public import proofs.«01_k».proof.Proof.Gen.KernelMlstmIn.Frame
public import proofs.«01_k».proof.Proof.Gen.KernelMlstmInIdeal.Frame
public import proofs.«01_k».proof.Proof.Gen.KernelMlstmInIdeal.Value
public import proofs.«01_k».proof.Proof.Gen.ReferenceMlstmInIdeal
public import proofs.«01_k».proof.Proof.Gen.ReferenceMlstmInIdeal.Run
public import proofs.«01_k».proof.Proof.Gen.ReferenceMlstmInIdeal.Read
public import Idealize.ShloMosaic.Adequacy
public import Idealize.ShloMosaic.Init
public import Idealize.ShloMosaic.Lib.Quiescent

@[expose] public section

set_option maxRecDepth 16384

noncomputable section

/-! The input projection of the mLSTM branch: the product with columns 5184 to 9279 of the combined weights. -/

namespace Cert.MlstmIn

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelMlstmInIdeal Cert.KernelMlstmInIdeal.Gen

/-- The element at row `r` and column `x`. -/
def elem (X : (⟨2, ![9216, 2048]⟩ : Shape).Idx → EReal) (W : (⟨3, ![2, 2048, 15432]⟩ : Shape).Idx → EReal) (r : Fin 9216) (x : Fin 4096) : EReal :=
  ∑ k : Fin 2048, X (ix2 r k) * W (ix3 (1 : Fin 2) k (⟨5184 + x.val, by omega⟩ : Fin 15432))

/-- The whole array. -/
def whole (X : (⟨2, ![9216, 2048]⟩ : Shape).Idx → EReal) (W : (⟨3, ![2, 2048, 15432]⟩ : Shape).Idx → EReal) : (⟨2, ![9216, 4096]⟩ : Shape).Idx → EReal := fun i => elem X W (i 0) (i 1)

/-- What one block of the result holds. -/
theorem block (v0 : Vec Ideal S1x1024x2048 .f32) (v3 : Vec Ideal S1024x2048 .bf16) (r : Fin 1024) (x : Fin 1024) :
    k0_pay1 v0 v3 (ix2 r x) = (∑ k : Fin 2048, v3 (ix2 r k) * v0 (ix3 (0 : Fin 1) x k) : EReal) := by
  have e : FloatOps.matmul (F := Ideal) dot_S1024x2048_S1024x2048_S1024x1024_1_1_0_0_n_n none v3 (shapeCast S1024x2048 (truncf .bf16 (shapeCast S1x1024x2048 v0 shapeCasts_S1x1024x2048_S1x1024x2048) bitsLt_bf16_f32) shapeCasts_S1x1024x2048_S1024x2048) (constant S1024x1024 .f32 0x00000000#32) (ix2 r x) = (∑ k : Fin 2048, v3 (ix2 r k) * v0 (ix3 (0 : Fin 1) x k) : EReal) :=
    (Cert.Mat.rows_rows (M := 1024) (K := 2048) (N := 1024) v3 (shapeCast S1024x2048 (truncf .bf16 (shapeCast S1x1024x2048 v0 shapeCasts_S1x1024x2048_S1x1024x2048) bitsLt_bf16_f32) shapeCasts_S1x1024x2048_S1024x2048) r x).trans
      (Finset.sum_congr rfl fun k _ => congrArg (v3 (ix2 r k) * ·) ((Cert.Mat.slab _ shapeCasts_S1x1024x2048_S1024x2048 x k).trans
        (shapeCast_apply v0 shapeCasts_S1x1024x2048_S1x1024x2048 (ix3 (0 : Fin 1) x k) (ix3 (0 : Fin 1) x k) rfl)))
  exact e

theorem load1 (X : Vec Ideal S1x1024x2048 .f32) : View.ld X r0_0 = X := View.ld_unit_lit _ _ (by decide)
theorem load0 (X : Vec Ideal S1024x2048 .bf16) : View.ld X r0_1 = X := View.ld_unit_lit _ _ (by decide)

theorem lt72 (t : Fin cfg0.N) : t.val < 36 := lt_of_lt_of_eq t.isLt N_0
theorem coord0 (t : Fin cfg0.N) : (grid0.coords t 0).val = t.val / 4 % 9 := Pipeline.Grid.coords_val t 0 (by decide) rfl
theorem coord1 (t : Fin cfg0.N) : (grid0.coords t 1).val = t.val / 1 % 4 := Pipeline.Grid.coords_val t 1 (by decide) rfl

variable (m : (ℓ : Loc nD τ sig) → Buf (Elt Ideal) ℓ) (c : Dev nD)

/-- The result array. -/
def arr : (⟨2, ![9216, 4096]⟩ : Shape).Idx → EReal := whole (m ((c : Thread nD τ).loc main_arg0)) (m ((c : Thread nD τ).loc main_arg1))

theorem row (t : Fin cfg0.N) : (cfg0.win 0).index t 0 = t.val / 4 % 9 := by
  rw [← coord0]
  exact (by decide : ∀ a : Fin 9, (BitVec.ofNat 32 a.val).toNat = a.val) (grid0.coords t 0)

/-- The two blocks a point reads. -/
def blockX (t : Fin cfg0.N) : S1024x2048.Idx → EReal := iblk m c 0 t
def blockW (t : Fin cfg0.N) : S1x1024x2048.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 4 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

/-- The weights as the region finds them: the argument with its last two axes exchanged. -/
theorem turned : V m c main_v0
    = (transpose S2x15432x2048 [0, 2, 1] (m ((c : Thread nD τ).loc main_arg1)) transposes_S2x2048x15432_S2x15432x2048_0_2_1 : FVec Ideal S2x15432x2048 .f32) := rfl

theorem col (t : Fin cfg0.N) : (cfg0.win 1).index t 1 = 5184 + t.val / 1 % 4 * 1024 := by
  rw [← coord1]
  exact (by decide : ∀ a : Fin 4, (Scalar.muli 8#32 (Scalar.addi 648#32 (Scalar.muli (BitVec.ofNat 32 a.val) 128#32))).toNat = 5184 + a.val * 1024) (grid0.coords t 1)

/-- The weights of a block. -/
theorem weights (t : Fin cfg0.N) (x : Fin 1024) (k : Fin 2048) :
    blockW m c t (ix3 (0 : Fin 1) x k) = (m ((c : Thread nD τ).loc main_arg1) : S2x2048x15432.Idx → EReal) (ix3 (1 : Fin 2) k (⟨5184 + (t.val / 1 % 4 * 1024 + x.val), by omega⟩ : Fin 15432)) := by
  show V m c main_v0 (((cfg0.win 1).rect t).emb (ix3 (0 : Fin 1) x k)) = _
  have he : ((cfg0.win 1).rect t).emb (ix3 (0 : Fin 1) x k) = (ix3 (1 : Fin 2) (⟨5184 + (t.val / 1 % 4 * 1024 + x.val), by omega⟩ : Fin 15432) k : S2x15432x2048.Idx) := funext fun a => match a with
    | ⟨0, _⟩ => Fin.ext (((cfg0.win 1).rect_emb_val_off t (ix3 (0 : Fin 1) x k) 0).trans rfl)
    | ⟨1, _⟩ => Fin.ext (((cfg0.win 1).rect_emb_val_off t (ix3 (0 : Fin 1) x k) 1).trans (by
        rw [col]
        show 5184 + t.val / 1 % 4 * 1024 + x.val = 5184 + (t.val / 1 % 4 * 1024 + x.val)
        omega))
    | ⟨2, _⟩ => Fin.ext (((cfg0.win 1).rect_emb_val_of_index_zero t 2 rfl (ix3 (0 : Fin 1) x k)).trans rfl)
  rw [turned m c]
  refine (congrArg _ he).trans ?_
  exact transpose_apply [0, 2, 1] _ transposes_S2x2048x15432_S2x15432x2048_0_2_1 (ix3 (1 : Fin 2) (⟨5184 + (t.val / 1 % 4 * 1024 + x.val), by omega⟩ : Fin 15432) k)
    (ix3 (1 : Fin 2) k (⟨5184 + (t.val / 1 % 4 * 1024 + x.val), by omega⟩ : Fin 15432)) (fun a => match a with | ⟨0, _⟩ => rfl | ⟨1, _⟩ => rfl | ⟨2, _⟩ => rfl)

theorem place0 (t : Fin cfg0.N) : (cfg0.win 2).index t 0 = t.val / 4 % 9 := by
  rw [← coord0]
  exact (by decide : ∀ a : Fin 9, (BitVec.ofNat 32 a.val).toNat = a.val) (grid0.coords t 0)
theorem place1 (t : Fin cfg0.N) : (cfg0.win 2).index t 1 = t.val / 1 % 4 := by
  rw [← coord1]
  exact (by decide : ∀ a : Fin 4, (BitVec.ofNat 32 a.val).toNat = a.val) (grid0.coords t 1)

theorem place (t : Fin cfg0.N) (r : Fin 1024) (x : Fin 1024) : ((cfg0.win 2).rect t).emb (ix2 r x)
    = (ix2 (⟨t.val / 4 % 9 * 1024 + r.val, by omega⟩ : Fin 9216) (⟨t.val / 1 % 4 * 1024 + x.val, by omega⟩ : Fin 4096) : S9216x4096.Idx) := funext fun a => match a with
  | ⟨0, _⟩ => Fin.ext (((cfg0.win 2).rect_emb_val t (ix2 r x) 0).trans (by rw [place0]; rfl))
  | ⟨1, _⟩ => Fin.ext (((cfg0.win 2).rect_emb_val t (ix2 r x) 1).trans (by rw [place1]; rfl))

/-- What a point writes back is its block of the result. -/
theorem written (t : Fin cfg0.N) : (dats m 0 c).flushed 2 t = ((cfg0.win 2).blk t).view.read (Elt Ideal) (arr m c) := by
  rw [Cert.KernelMlstmInIdeal.Value.flushed2]
  unfold out0_2
  have key : ∀ (r : Fin 1024) (x : Fin 1024), (View.canon [⟨r0_2, k0_pay1 (View.ld (iblk m c 1 t) r0_0) (View.ld (iblk m c 0 t) r0_1)⟩] : Vec Ideal S1024x1024 .f32) (ix2 r x)
      = arr m c (((cfg0.win 2).rect t).emb (ix2 r x)) := by
    intro r x
    rw [View.canon_cons_unit_lit _ _ _ (by decide), place]
    refine (congrFun (congrArg₂ (k0_pay1 (F := Ideal)) (load1 (iblk m c 1 t)) (load0 (iblk m c 0 t))) (ix2 r x)).trans ?_
    refine (block (blockW m c t) (blockX m c t) r x).trans ?_
    have e : (∑ k : Fin 2048, blockX m c t (ix2 r k) * blockW m c t (ix3 (0 : Fin 1) x k) : EReal) = _ :=
      Finset.sum_congr rfl fun k _ => congrArg₂ (fun a b : EReal => a * b) (rows m c t r k) (weights m c t x k)
    exact e
  refine funext fun y => ?_
  obtain ⟨r, x, rfl⟩ : ∃ (r : Fin 1024) (x : Fin 1024), y = ix2 r x := ⟨y 0, y 1, eq_ix2 y⟩
  exact key r x

theorem final : (dats m 0 c).arrAt 2 cfg0.N = arr m c :=
  Dat.arrAt_eq_of_cover (dats m 0 c) 2 (arr m c) (fun t _ => written m c t) (fun i => by
    obtain ⟨q, x, rfl⟩ : ∃ (q : Fin 9216) (x : Fin 4096), i = (ix2 q x : S9216x4096.Idx) := ⟨i 0, i 1, eq_ix2 (i : S9216x4096.Idx)⟩
    have hN : q.val / 1024 * 4 + x.val / 1024 < cfg0.N := lt_of_lt_of_eq (by omega) N_0.symm
    refine ⟨⟨q.val / 1024 * 4 + x.val / 1024, hN⟩, flush0_2 _, ?_⟩
    refine Finset.mem_map.2 ⟨ix2 (⟨q.val % 1024, Nat.mod_lt _ (by decide)⟩ : Fin 1024) (⟨x.val % 1024, Nat.mod_lt _ (by decide)⟩ : Fin 1024), Finset.mem_univ _, ?_⟩
    refine (place ⟨q.val / 1024 * 4 + x.val / 1024, hN⟩ _ _).trans ?_
    refine congrArg₂ (fun (q : Fin 9216) (x : Fin 4096) => (ix2 q x : S9216x4096.Idx)) (Fin.ext ?_) (Fin.ext ?_)
    · show (q.val / 1024 * 4 + x.val / 1024) / 4 % 9 * 1024 + q.val % 1024 = q.val
      omega
    · show (q.val / 1024 * 4 + x.val / 1024) / 1 % 4 * 1024 + x.val % 1024 = x.val
      omega)

end Kernel

/-! ## The reference -/

section Reference

open Cert.ReferenceMlstmInIdeal Cert.ReferenceMlstmInIdeal.Gen Cert.ReferenceMlstmInIdeal.Read

theorem reference_at (x0 : (⟨S9216x2048, .bf16⟩ : BufTy).Contents (Elt Ideal)) (x1 : (⟨(⟨3, ![2, 2048, 15432]⟩ : Shape), .f32⟩ : BufTy).Contents (Elt Ideal)) (r : Fin 9216) (x : Fin 4096) :
    val_main_v4 (F := Ideal) x0 x1 (ix2 r x) = elem x0 x1 r x := by
  have e : val_main_v4 (F := Ideal) x0 x1 (ix2 r x) = (∑ k : Fin 2048, x0 (ix2 r k) * x1 (ix3 (1 : Fin 2) k (⟨5184 + x.val, by omega⟩ : Fin 15432)) : EReal) := by
    rw [val_main_v4_apply]
    refine Finset.sum_congr rfl fun k _ => ?_
    refine congrArg₂ (· * ·) (congrArg x0 (funext fun a => match a with | ⟨0, _⟩ => rfl | ⟨1, _⟩ => rfl)) ?_
    rw [val_main_v3_apply, val_main_v2_apply, val_main_v1_apply]
    refine congrArg x1 (funext fun a => match a with
      | ⟨0, _⟩ => rfl
      | ⟨1, _⟩ => Fin.ext ?_
      | ⟨2, _⟩ => Fin.ext ?_)
    · show (k.val * 15432 + (5184 + x.val)) / 15432 % 2048 = k.val
      omega
    · show (k.val * 15432 + (5184 + x.val)) % 15432 = 5184 + x.val
      omega
  exact e

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceMlstmInIdeal.Value.run m g)

end Reference

/-! ## The equation -/

theorem algebraic : Cert.algebraic_KernelMlstmInIdeal_ReferenceMlstmInIdeal := by
  intro m g m' g' _ hagree
  refine ⟨fun c => arr m c, ?_, ?_⟩
  · refine (θ_run _ _ _).mono (fun r h c => ⟨?_, (h c).2⟩) (Cert.KernelMlstmInIdeal.Value.run_blocks (F := Ideal) m g)
    exact (h c).1.trans (final m c)
  · refine (θ_run _ _ _).mono (fun r h c => ⟨?_, (h c).2⟩) (Cert.ReferenceMlstmInIdeal.Value.run m' g')
    refine (h c).1.trans ((Cert.ReferenceMlstmInIdeal.Read.val_main_v4_eq _ _).trans ?_)
    obtain ⟨h0, h1⟩ := hagree c
    rw [h0, h1]
    refine funext fun i => ?_
    obtain ⟨r, x, rfl⟩ : ∃ (r : Fin 9216) (x : Fin 4096), i = ix2 r x := ⟨i 0, i 1, eq_ix2 i⟩
    exact reference_at _ _ r x

end Cert.MlstmIn

end
-- ==== Proof.Calls.RwkvIn.lean ====
module

public import proofs.«01_k».proof.Defs
public import proofs.«01_k».proof.Proof.Calls.Mat
public import proofs.«01_k».proof.Proof.Gen.KernelRwkvIn.Frame
public import proofs.«01_k».proof.Proof.Gen.KernelRwkvInIdeal.Frame
public import proofs.«01_k».proof.Proof.Gen.KernelRwkvInIdeal.Value
public import proofs.«01_k».proof.Proof.Gen.ReferenceRwkvInIdeal
public import proofs.«01_k».proof.Proof.Gen.ReferenceRwkvInIdeal.Run
public import proofs.«01_k».proof.Proof.Gen.ReferenceRwkvInIdeal.Read
public import Idealize.ShloMosaic.Adequacy
public import Idealize.ShloMosaic.Init
public import Idealize.ShloMosaic.Lib.Quiescent

@[expose] public section

set_option maxRecDepth 16384

noncomputable section

/-! The input projection of the RWKV branch: the product with columns 1856 to 5439 of the combined weights. -/

namespace Cert.RwkvIn

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelRwkvInIdeal Cert.KernelRwkvInIdeal.Gen

/-- The element at row `r` and column `x`. -/
def elem (X : (⟨2, ![9216, 2048]⟩ : Shape).Idx → EReal) (W : (⟨3, ![2, 2048, 15432]⟩ : Shape).Idx → EReal) (r : Fin 9216) (x : Fin 3584) : EReal :=
  ∑ k : Fin 2048, X (ix2 r k) * W (ix3 (1 : Fin 2) k (⟨1856 + x.val, by omega⟩ : Fin 15432))

/-- The whole array. -/
def whole (X : (⟨2, ![9216, 2048]⟩ : Shape).Idx → EReal) (W : (⟨3, ![2, 2048, 15432]⟩ : Shape).Idx → EReal) : (⟨2, ![9216, 3584]⟩ : Shape).Idx → EReal := fun i => elem X W (i 0) (i 1)

/-- What one block of the result holds. -/
theorem block (v0 : Vec Ideal S1x896x2048 .f32) (v3 : Vec Ideal S1024x2048 .bf16) (r : Fin 1024) (x : Fin 896) :
    k0_pay1 v0 v3 (ix2 r x) = (∑ k : Fin 2048, v3 (ix2 r k) * v0 (ix3 (0 : Fin 1) x k) : EReal) := by
  have e : FloatOps.matmul (F := Ideal) dot_S1024x2048_S896x2048_S1024x896_1_1_0_0_n_n none v3 (shapeCast S896x2048 (truncf .bf16 (shapeCast S1x896x2048 v0 shapeCasts_S1x896x2048_S1x896x2048) bitsLt_bf16_f32) shapeCasts_S1x896x2048_S896x2048) (constant S1024x896 .f32 0x00000000#32) (ix2 r x) = (∑ k : Fin 2048, v3 (ix2 r k) * v0 (ix3 (0 : Fin 1) x k) : EReal) :=
    (Cert.Mat.rows_rows (M := 1024) (K := 2048) (N := 896) v3 (shapeCast S896x2048 (truncf .bf16 (shapeCast S1x896x2048 v0 shapeCasts_S1x896x2048_S1x896x2048) bitsLt_bf16_f32) shapeCasts_S1x896x2048_S896x2048) r x).trans
      (Finset.sum_congr rfl fun k _ => congrArg (v3 (ix2 r k) * ·) ((Cert.Mat.slab _ shapeCasts_S1x896x2048_S896x2048 x k).trans
        (shapeCast_apply v0 shapeCasts_S1x896x2048_S1x896x2048 (ix3 (0 : Fin 1) x k) (ix3 (0 : Fin 1) x k) rfl)))
  exact e

theorem load1 (X : Vec Ideal S1x896x2048 .f32) : View.ld X r0_0 = X := View.ld_unit_lit _ _ (by decide)
theorem load0 (X : Vec Ideal S1024x2048 .bf16) : View.ld X r0_1 = X := View.ld_unit_lit _ _ (by decide)

theorem lt72 (t : Fin cfg0.N) : t.val < 36 := lt_of_lt_of_eq t.isLt N_0
theorem coord0 (t : Fin cfg0.N) : (grid0.coords t 0).val = t.val / 4 % 9 := Pipeline.Grid.coords_val t 0 (by decide) rfl
theorem coord1 (t : Fin cfg0.N) : (grid0.coords t 1).val = t.val / 1 % 4 := Pipeline.Grid.coords_val t 1 (by decide) rfl

variable (m : (ℓ : Loc nD τ sig) → Buf (Elt Ideal) ℓ) (c : Dev nD)

/-- The result array. -/
def arr : (⟨2, ![9216, 3584]⟩ : Shape).Idx → EReal := whole (m ((c : Thread nD τ).loc main_arg0)) (m ((c : Thread nD τ).loc main_arg1))

theorem row (t : Fin cfg0.N) : (cfg0.win 0).index t 0 = t.val / 4 % 9 := by
  rw [← coord0]
  exact (by decide : ∀ a : Fin 9, (BitVec.ofNat 32 a.val).toNat = a.val) (grid0.coords t 0)

/-- The two blocks a point reads. -/
def blockX (t : Fin cfg0.N) : S1024x2048.Idx → EReal := iblk m c 0 t
def blockW (t : Fin cfg0.N) : S1x896x2048.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 4 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

/-- The weights as the region finds them: the argument with its last two axes exchanged. -/
theorem turned : V m c main_v0
    = (transpose S2x15432x2048 [0, 2, 1] (m ((c : Thread nD τ).loc main_arg1)) transposes_S2x2048x15432_S2x15432x2048_0_2_1 : FVec Ideal S2x15432x2048 .f32) := rfl

theorem col (t : Fin cfg0.N) : (cfg0.win 1).index t 1 = 1856 + t.val / 1 % 4 * 896 := by
  rw [← coord1]
  exact (by decide : ∀ a : Fin 4, (Scalar.muli 8#32 (Scalar.addi 232#32 (Scalar.muli (BitVec.ofNat 32 a.val) 112#32))).toNat = 1856 + a.val * 896) (grid0.coords t 1)

/-- The weights of a block. -/
theorem weights (t : Fin cfg0.N) (x : Fin 896) (k : Fin 2048) :
    blockW m c t (ix3 (0 : Fin 1) x k) = (m ((c : Thread nD τ).loc main_arg1) : S2x2048x15432.Idx → EReal) (ix3 (1 : Fin 2) k (⟨1856 + (t.val / 1 % 4 * 896 + x.val), by omega⟩ : Fin 15432)) := by
  show V m c main_v0 (((cfg0.win 1).rect t).emb (ix3 (0 : Fin 1) x k)) = _
  have he : ((cfg0.win 1).rect t).emb (ix3 (0 : Fin 1) x k) = (ix3 (1 : Fin 2) (⟨1856 + (t.val / 1 % 4 * 896 + x.val), by omega⟩ : Fin 15432) k : S2x15432x2048.Idx) := funext fun a => match a with
    | ⟨0, _⟩ => Fin.ext (((cfg0.win 1).rect_emb_val_off t (ix3 (0 : Fin 1) x k) 0).trans rfl)
    | ⟨1, _⟩ => Fin.ext (((cfg0.win 1).rect_emb_val_off t (ix3 (0 : Fin 1) x k) 1).trans (by
        rw [col]
        show 1856 + t.val / 1 % 4 * 896 + x.val = 1856 + (t.val / 1 % 4 * 896 + x.val)
        omega))
    | ⟨2, _⟩ => Fin.ext (((cfg0.win 1).rect_emb_val_of_index_zero t 2 rfl (ix3 (0 : Fin 1) x k)).trans rfl)
  rw [turned m c]
  refine (congrArg _ he).trans ?_
  exact transpose_apply [0, 2, 1] _ transposes_S2x2048x15432_S2x15432x2048_0_2_1 (ix3 (1 : Fin 2) (⟨1856 + (t.val / 1 % 4 * 896 + x.val), by omega⟩ : Fin 15432) k)
    (ix3 (1 : Fin 2) k (⟨1856 + (t.val / 1 % 4 * 896 + x.val), by omega⟩ : Fin 15432)) (fun a => match a with | ⟨0, _⟩ => rfl | ⟨1, _⟩ => rfl | ⟨2, _⟩ => rfl)

theorem place0 (t : Fin cfg0.N) : (cfg0.win 2).index t 0 = t.val / 4 % 9 := by
  rw [← coord0]
  exact (by decide : ∀ a : Fin 9, (BitVec.ofNat 32 a.val).toNat = a.val) (grid0.coords t 0)
theorem place1 (t : Fin cfg0.N) : (cfg0.win 2).index t 1 = t.val / 1 % 4 := by
  rw [← coord1]
  exact (by decide : ∀ a : Fin 4, (BitVec.ofNat 32 a.val).toNat = a.val) (grid0.coords t 1)

theorem place (t : Fin cfg0.N) (r : Fin 1024) (x : Fin 896) : ((cfg0.win 2).rect t).emb (ix2 r x)
    = (ix2 (⟨t.val / 4 % 9 * 1024 + r.val, by omega⟩ : Fin 9216) (⟨t.val / 1 % 4 * 896 + x.val, by omega⟩ : Fin 3584) : S9216x3584.Idx) := funext fun a => match a with
  | ⟨0, _⟩ => Fin.ext (((cfg0.win 2).rect_emb_val t (ix2 r x) 0).trans (by rw [place0]; rfl))
  | ⟨1, _⟩ => Fin.ext (((cfg0.win 2).rect_emb_val t (ix2 r x) 1).trans (by rw [place1]; rfl))

/-- What a point writes back is its block of the result. -/
theorem written (t : Fin cfg0.N) : (dats m 0 c).flushed 2 t = ((cfg0.win 2).blk t).view.read (Elt Ideal) (arr m c) := by
  rw [Cert.KernelRwkvInIdeal.Value.flushed2]
  unfold out0_2
  have key : ∀ (r : Fin 1024) (x : Fin 896), (View.canon [⟨r0_2, k0_pay1 (View.ld (iblk m c 1 t) r0_0) (View.ld (iblk m c 0 t) r0_1)⟩] : Vec Ideal S1024x896 .f32) (ix2 r x)
      = arr m c (((cfg0.win 2).rect t).emb (ix2 r x)) := by
    intro r x
    rw [View.canon_cons_unit_lit _ _ _ (by decide), place]
    refine (congrFun (congrArg₂ (k0_pay1 (F := Ideal)) (load1 (iblk m c 1 t)) (load0 (iblk m c 0 t))) (ix2 r x)).trans ?_
    refine (block (blockW m c t) (blockX m c t) r x).trans ?_
    have e : (∑ k : Fin 2048, blockX m c t (ix2 r k) * blockW m c t (ix3 (0 : Fin 1) x k) : EReal) = _ :=
      Finset.sum_congr rfl fun k _ => congrArg₂ (fun a b : EReal => a * b) (rows m c t r k) (weights m c t x k)
    exact e
  refine funext fun y => ?_
  obtain ⟨r, x, rfl⟩ : ∃ (r : Fin 1024) (x : Fin 896), y = ix2 r x := ⟨y 0, y 1, eq_ix2 y⟩
  exact key r x

theorem final : (dats m 0 c).arrAt 2 cfg0.N = arr m c :=
  Dat.arrAt_eq_of_cover (dats m 0 c) 2 (arr m c) (fun t _ => written m c t) (fun i => by
    obtain ⟨q, x, rfl⟩ : ∃ (q : Fin 9216) (x : Fin 3584), i = (ix2 q x : S9216x3584.Idx) := ⟨i 0, i 1, eq_ix2 (i : S9216x3584.Idx)⟩
    have hN : q.val / 1024 * 4 + x.val / 896 < cfg0.N := lt_of_lt_of_eq (by omega) N_0.symm
    refine ⟨⟨q.val / 1024 * 4 + x.val / 896, hN⟩, flush0_2 _, ?_⟩
    refine Finset.mem_map.2 ⟨ix2 (⟨q.val % 1024, Nat.mod_lt _ (by decide)⟩ : Fin 1024) (⟨x.val % 896, Nat.mod_lt _ (by decide)⟩ : Fin 896), Finset.mem_univ _, ?_⟩
    refine (place ⟨q.val / 1024 * 4 + x.val / 896, hN⟩ _ _).trans ?_
    refine congrArg₂ (fun (q : Fin 9216) (x : Fin 3584) => (ix2 q x : S9216x3584.Idx)) (Fin.ext ?_) (Fin.ext ?_)
    · show (q.val / 1024 * 4 + x.val / 896) / 4 % 9 * 1024 + q.val % 1024 = q.val
      omega
    · show (q.val / 1024 * 4 + x.val / 896) / 1 % 4 * 896 + x.val % 896 = x.val
      omega)

end Kernel

/-! ## The reference -/

section Reference

open Cert.ReferenceRwkvInIdeal Cert.ReferenceRwkvInIdeal.Gen Cert.ReferenceRwkvInIdeal.Read

theorem reference_at (x0 : (⟨S9216x2048, .bf16⟩ : BufTy).Contents (Elt Ideal)) (x1 : (⟨(⟨3, ![2, 2048, 15432]⟩ : Shape), .f32⟩ : BufTy).Contents (Elt Ideal)) (r : Fin 9216) (x : Fin 3584) :
    val_main_v4 (F := Ideal) x0 x1 (ix2 r x) = elem x0 x1 r x := by
  have e : val_main_v4 (F := Ideal) x0 x1 (ix2 r x) = (∑ k : Fin 2048, x0 (ix2 r k) * x1 (ix3 (1 : Fin 2) k (⟨1856 + x.val, by omega⟩ : Fin 15432)) : EReal) := by
    rw [val_main_v4_apply]
    refine Finset.sum_congr rfl fun k _ => ?_
    refine congrArg₂ (· * ·) (congrArg x0 (funext fun a => match a with | ⟨0, _⟩ => rfl | ⟨1, _⟩ => rfl)) ?_
    rw [val_main_v3_apply, val_main_v2_apply, val_main_v1_apply]
    refine congrArg x1 (funext fun a => match a with
      | ⟨0, _⟩ => rfl
      | ⟨1, _⟩ => Fin.ext ?_
      | ⟨2, _⟩ => Fin.ext ?_)
    · show (k.val * 15432 + (1856 + x.val)) / 15432 % 2048 = k.val
      omega
    · show (k.val * 15432 + (1856 + x.val)) % 15432 = 1856 + x.val
      omega
  exact e

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceRwkvInIdeal.Value.run m g)

end Reference

/-! ## The equation -/

theorem algebraic : Cert.algebraic_KernelRwkvInIdeal_ReferenceRwkvInIdeal := by
  intro m g m' g' _ hagree
  refine ⟨fun c => arr m c, ?_, ?_⟩
  · refine (θ_run _ _ _).mono (fun r h c => ⟨?_, (h c).2⟩) (Cert.KernelRwkvInIdeal.Value.run_blocks (F := Ideal) m g)
    exact (h c).1.trans (final m c)
  · refine (θ_run _ _ _).mono (fun r h c => ⟨?_, (h c).2⟩) (Cert.ReferenceRwkvInIdeal.Value.run m' g')
    refine (h c).1.trans ((Cert.ReferenceRwkvInIdeal.Read.val_main_v4_eq _ _).trans ?_)
    obtain ⟨h0, h1⟩ := hagree c
    rw [h0, h1]
    refine funext fun i => ?_
    obtain ⟨r, x, rfl⟩ : ∃ (r : Fin 9216) (x : Fin 3584), i = ix2 r x := ⟨i 0, i 1, eq_ix2 i⟩
    exact reference_at _ _ r x

end Cert.RwkvIn

end
-- ==== Proof.Calls.Out.lean ====
module

public import proofs.«01_k».proof.Defs
public import proofs.«01_k».proof.Proof.Calls.Mat
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import Idealize.ShloMosaic.Adequacy
public import Idealize.ShloMosaic.Init
public import Idealize.ShloMosaic.Lib.Quiescent

@[expose] public section

set_option maxRecDepth 16384

noncomputable section

/-! The output projection of the mixing sub-layer: one product. -/

namespace Cert.Out

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelOutIdeal Cert.KernelOutIdeal.Gen

/-- The element at row `r` and column `x`. -/
def elem (X : (⟨2, ![9216, 2048]⟩ : Shape).Idx → EReal) (W : (⟨3, ![2, 2048, 2048]⟩ : Shape).Idx → EReal) (r : Fin 9216) (x : Fin 2048) : EReal :=
  ∑ k : Fin 2048, X (ix2 r k) * W (ix3 (1 : Fin 2) k x)

/-- The whole array. -/
def whole (X : (⟨2, ![9216, 2048]⟩ : Shape).Idx → EReal) (W : (⟨3, ![2, 2048, 2048]⟩ : Shape).Idx → EReal) : (⟨2, ![9216, 2048]⟩ : Shape).Idx → EReal := fun i => elem X W (i 0) (i 1)

/-- What one block of the result holds. -/
theorem block (v0 : Vec Ideal S1x2048x1024 .f32) (v3 : Vec Ideal S1024x2048 .bf16) (r : Fin 1024) (x : Fin 1024) :
    k0_pay1 v0 v3 (ix2 r x) = (∑ k : Fin 2048, v3 (ix2 r k) * v0 (ix3 (0 : Fin 1) k x) : EReal) := by
  have e : FloatOps.matmul (F := Ideal) dot_S1024x2048_S2048x1024_S1024x1024_1_0_0_1_n_n none v3 (truncf .bf16 (shapeCast S2048x1024 v0 shapeCasts_S1x2048x1024_S2048x1024) bitsLt_bf16_f32) (constant S1024x1024 .f32 0x00000000#32) (ix2 r x) = (∑ k : Fin 2048, v3 (ix2 r k) * v0 (ix3 (0 : Fin 1) k x) : EReal) :=
    (Cert.Mat.rows_cols (M := 1024) (K := 2048) (N := 1024) v3 (truncf .bf16 (shapeCast S2048x1024 v0 shapeCasts_S1x2048x1024_S2048x1024) bitsLt_bf16_f32) r x).trans
      (Finset.sum_congr rfl fun k _ => congrArg (v3 (ix2 r k) * ·) (Cert.Mat.slab v0 shapeCasts_S1x2048x1024_S2048x1024 k x))
  exact e

theorem load1 (X : Vec Ideal S1x2048x1024 .f32) : View.ld X r0_0 = X := View.ld_unit_lit _ _ (by decide)
theorem load0 (X : Vec Ideal S1024x2048 .bf16) : View.ld X r0_1 = X := View.ld_unit_lit _ _ (by decide)

theorem lt72 (t : Fin cfg0.N) : t.val < 18 := lt_of_lt_of_eq t.isLt N_0
theorem coord0 (t : Fin cfg0.N) : (grid0.coords t 0).val = t.val / 2 % 9 := Pipeline.Grid.coords_val t 0 (by decide) rfl
theorem coord1 (t : Fin cfg0.N) : (grid0.coords t 1).val = t.val / 1 % 2 := Pipeline.Grid.coords_val t 1 (by decide) rfl

variable (m : (ℓ : Loc nD τ sig) → Buf (Elt Ideal) ℓ) (c : Dev nD)

/-- The result array. -/
def arr : (⟨2, ![9216, 2048]⟩ : Shape).Idx → EReal := whole (m ((c : Thread nD τ).loc main_arg0)) (m ((c : Thread nD τ).loc main_arg1))

theorem row (t : Fin cfg0.N) : (cfg0.win 0).index t 0 = t.val / 2 % 9 := by
  rw [← coord0]
  exact (by decide : ∀ a : Fin 9, (BitVec.ofNat 32 a.val).toNat = a.val) (grid0.coords t 0)

/-- The two blocks a point reads. -/
def blockX (t : Fin cfg0.N) : S1024x2048.Idx → EReal := iblk m c 0 t
def blockW (t : Fin cfg0.N) : S1x2048x1024.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 2 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

theorem col (t : Fin cfg0.N) : (cfg0.win 1).index t 2 = t.val / 1 % 2 := by
  rw [← coord1]
  exact (by decide : ∀ a : Fin 2, (BitVec.ofNat 32 a.val).toNat = a.val) (grid0.coords t 1)

/-- The weights of a block. -/
theorem weights (t : Fin cfg0.N) (k : Fin 2048) (x : Fin 1024) :
    blockW m c t (ix3 (0 : Fin 1) k x) = (m ((c : Thread nD τ).loc main_arg1) : S2x2048x2048.Idx → EReal) (ix3 (1 : Fin 2) k (⟨t.val / 1 % 2 * 1024 + x.val, by omega⟩ : Fin 2048)) := by
  show V m c main_arg1 (((cfg0.win 1).rect t).emb (ix3 (0 : Fin 1) k x)) = _
  rw [V_main_arg1 m c]
  refine congrArg (m ((c : Thread nD τ).loc main_arg1) : S2x2048x2048.Idx → EReal) (funext fun a => match a with
    | ⟨0, _⟩ => Fin.ext ?_
    | ⟨1, _⟩ => Fin.ext ?_
    | ⟨2, _⟩ => Fin.ext ?_)
  · exact ((cfg0.win 1).rect_emb_val t (ix3 (0 : Fin 1) k x) 0).trans rfl
  · exact ((cfg0.win 1).rect_emb_val_of_index_zero t 1 rfl (ix3 (0 : Fin 1) k x)).trans rfl
  · refine ((cfg0.win 1).rect_emb_val t (ix3 (0 : Fin 1) k x) 2).trans ?_
    rw [col]
    rfl

theorem place0 (t : Fin cfg0.N) : (cfg0.win 2).index t 0 = t.val / 2 % 9 := by
  rw [← coord0]
  exact (by decide : ∀ a : Fin 9, (BitVec.ofNat 32 a.val).toNat = a.val) (grid0.coords t 0)
theorem place1 (t : Fin cfg0.N) : (cfg0.win 2).index t 1 = t.val / 1 % 2 := by
  rw [← coord1]
  exact (by decide : ∀ a : Fin 2, (BitVec.ofNat 32 a.val).toNat = a.val) (grid0.coords t 1)

theorem place (t : Fin cfg0.N) (r : Fin 1024) (x : Fin 1024) : ((cfg0.win 2).rect t).emb (ix2 r x)
    = (ix2 (⟨t.val / 2 % 9 * 1024 + r.val, by omega⟩ : Fin 9216) (⟨t.val / 1 % 2 * 1024 + x.val, by omega⟩ : Fin 2048) : S9216x2048.Idx) := funext fun a => match a with
  | ⟨0, _⟩ => Fin.ext (((cfg0.win 2).rect_emb_val t (ix2 r x) 0).trans (by rw [place0]; rfl))
  | ⟨1, _⟩ => Fin.ext (((cfg0.win 2).rect_emb_val t (ix2 r x) 1).trans (by rw [place1]; rfl))

/-- What a point writes back is its block of the result. -/
theorem written (t : Fin cfg0.N) : (dats m 0 c).flushed 2 t = ((cfg0.win 2).blk t).view.read (Elt Ideal) (arr m c) := by
  rw [Cert.KernelOutIdeal.Value.flushed2]
  unfold out0_2
  have key : ∀ (r : Fin 1024) (x : Fin 1024), (View.canon [⟨r0_2, k0_pay1 (View.ld (iblk m c 1 t) r0_0) (View.ld (iblk m c 0 t) r0_1)⟩] : Vec Ideal S1024x1024 .f32) (ix2 r x)
      = arr m c (((cfg0.win 2).rect t).emb (ix2 r x)) := by
    intro r x
    rw [View.canon_cons_unit_lit _ _ _ (by decide), place]
    refine (congrFun (congrArg₂ (k0_pay1 (F := Ideal)) (load1 (iblk m c 1 t)) (load0 (iblk m c 0 t))) (ix2 r x)).trans ?_
    refine (block (blockW m c t) (blockX m c t) r x).trans ?_
    have e : (∑ k : Fin 2048, blockX m c t (ix2 r k) * blockW m c t (ix3 (0 : Fin 1) k x) : EReal) = _ :=
      Finset.sum_congr rfl fun k _ => congrArg₂ (fun a b : EReal => a * b) (rows m c t r k) (weights m c t k x)
    exact e
  refine funext fun y => ?_
  obtain ⟨r, x, rfl⟩ : ∃ (r : Fin 1024) (x : Fin 1024), y = ix2 r x := ⟨y 0, y 1, eq_ix2 y⟩
  exact key r x

theorem final : (dats m 0 c).arrAt 2 cfg0.N = arr m c :=
  Dat.arrAt_eq_of_cover (dats m 0 c) 2 (arr m c) (fun t _ => written m c t) (fun i => by
    obtain ⟨q, x, rfl⟩ : ∃ (q : Fin 9216) (x : Fin 2048), i = (ix2 q x : S9216x2048.Idx) := ⟨i 0, i 1, eq_ix2 (i : S9216x2048.Idx)⟩
    have hN : q.val / 1024 * 2 + x.val / 1024 < cfg0.N := lt_of_lt_of_eq (by omega) N_0.symm
    refine ⟨⟨q.val / 1024 * 2 + x.val / 1024, hN⟩, flush0_2 _, ?_⟩
    refine Finset.mem_map.2 ⟨ix2 (⟨q.val % 1024, Nat.mod_lt _ (by decide)⟩ : Fin 1024) (⟨x.val % 1024, Nat.mod_lt _ (by decide)⟩ : Fin 1024), Finset.mem_univ _, ?_⟩
    refine (place ⟨q.val / 1024 * 2 + x.val / 1024, hN⟩ _ _).trans ?_
    refine congrArg₂ (fun (q : Fin 9216) (x : Fin 2048) => (ix2 q x : S9216x2048.Idx)) (Fin.ext ?_) (Fin.ext ?_)
    · show (q.val / 1024 * 2 + x.val / 1024) / 2 % 9 * 1024 + q.val % 1024 = q.val
      omega
    · show (q.val / 1024 * 2 + x.val / 1024) / 1 % 2 * 1024 + x.val % 1024 = x.val
      omega)

end Kernel

/-! ## The reference -/

section Reference

open Cert.ReferenceOutIdeal Cert.ReferenceOutIdeal.Gen Cert.ReferenceOutIdeal.Read

theorem reference_at (x0 : (⟨S9216x2048, .bf16⟩ : BufTy).Contents (Elt Ideal)) (x1 : (⟨(⟨3, ![2, 2048, 2048]⟩ : Shape), .f32⟩ : BufTy).Contents (Elt Ideal)) (r : Fin 9216) (x : Fin 2048) :
    val_main_v3 (F := Ideal) x0 x1 (ix2 r x) = elem x0 x1 r x := by
  have e : val_main_v3 (F := Ideal) x0 x1 (ix2 r x) = (∑ k : Fin 2048, x0 (ix2 r k) * x1 (ix3 (1 : Fin 2) k x) : EReal) := by
    rw [val_main_v3_apply]
    refine Finset.sum_congr rfl fun k _ => ?_
    refine congrArg₂ (· * ·) (congrArg x0 (funext fun a => match a with | ⟨0, _⟩ => rfl | ⟨1, _⟩ => rfl)) ?_
    rw [val_main_v2_apply, val_main_v1_apply]
    refine congrArg x1 (funext fun a => match a with
      | ⟨0, _⟩ => rfl
      | ⟨1, _⟩ => Fin.ext ?_
      | ⟨2, _⟩ => Fin.ext ?_)
    · show (k.val * 2048 + x.val) / 2048 % 2048 = k.val
      omega
    · show (k.val * 2048 + x.val) % 2048 = x.val
      omega
  exact e

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceOutIdeal.Value.run m g)

end Reference

/-! ## The equation -/

theorem algebraic : Cert.algebraic_KernelOutIdeal_ReferenceOutIdeal := by
  intro m g m' g' _ hagree
  refine ⟨fun c => arr m c, ?_, ?_⟩
  · refine (θ_run _ _ _).mono (fun r h c => ⟨?_, (h c).2⟩) (Cert.KernelOutIdeal.Value.run_blocks (F := Ideal) m g)
    exact (h c).1.trans (final m c)
  · refine (θ_run _ _ _).mono (fun r h c => ⟨?_, (h c).2⟩) (Cert.ReferenceOutIdeal.Value.run m' g')
    refine (h c).1.trans ((Cert.ReferenceOutIdeal.Read.val_main_v3_eq _ _).trans ?_)
    obtain ⟨h0, h1⟩ := hagree c
    rw [h0, h1]
    refine funext fun i => ?_
    obtain ⟨r, x, rfl⟩ : ∃ (r : Fin 9216) (x : Fin 2048), i = ix2 r x := ⟨i 0, i 1, eq_ix2 i⟩
    exact reference_at _ _ r x

end Cert.Out

end
-- ==== Proof.Calls.Merge.lean ====
module

public import proofs.«01_k».proof.Defs
public import proofs.«01_k».proof.Proof.Calls.Mat
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.ReferenceMergeIdeal.Read
public import Idealize.ShloMosaic.Adequacy
public import Idealize.ShloMosaic.Init
public import Idealize.ShloMosaic.Lib.Quiescent

@[expose] public section

set_option maxRecDepth 16384

noncomputable section

/-! The merge of the three branches: the sum over the branches of gate times projected branch. -/

namespace Cert.Merge

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

section Kernel

open Cert.KernelMergeIdeal Cert.KernelMergeIdeal.Gen

/-- One branch's part of the element at row `r` and column `x`, its gate at column `y`. -/
def part (A : (⟨2, ![9216, 1024]⟩ : Shape).Idx → EReal) (W : (⟨3, ![2, 1024, 2048]⟩ : Shape).Idx → EReal) (G : (⟨2, ![9216, 6144]⟩ : Shape).Idx → EReal) (r : Fin 9216) (x : Fin 2048) (y : Fin 6144) : EReal :=
  G (ix2 r y) * ∑ k : Fin 1024, A (ix2 r k) * W (ix3 (1 : Fin 2) k x)

/-- The element at row `r` and column `x`. -/
def elem (A0 A1 A2 : (⟨2, ![9216, 1024]⟩ : Shape).Idx → EReal) (W0 W1 W2 : (⟨3, ![2, 1024, 2048]⟩ : Shape).Idx → EReal) (G : (⟨2, ![9216, 6144]⟩ : Shape).Idx → EReal) (r : Fin 9216) (x : Fin 2048) : EReal :=
  part A0 W0 G r x (⟨x.val, by omega⟩ : Fin 6144) + part A1 W1 G r x (⟨2048 + x.val, by omega⟩ : Fin 6144) + part A2 W2 G r x (⟨4096 + x.val, by omega⟩ : Fin 6144)

/-- The whole array. -/
def whole (A0 A1 A2 : (⟨2, ![9216, 1024]⟩ : Shape).Idx → EReal) (W0 W1 W2 : (⟨3, ![2, 1024, 2048]⟩ : Shape).Idx → EReal) (G : (⟨2, ![9216, 6144]⟩ : Shape).Idx → EReal) : (⟨2, ![9216, 2048]⟩ : Shape).Idx → EReal := fun i => elem A0 A1 A2 W0 W1 W2 G (i 0) (i 1)

/-- One branch's product in a block. -/
theorem branch (v2 : Vec Ideal S1024x1024 .bf16) (v3 : Vec Ideal S1x1024x512 .f32) (r : Fin 1024) (x : Fin 512) :
    FloatOps.matmul (F := Ideal) (φ₁ := .bf16) dot_S1024x1024_S1024x512_S1024x512_1_0_0_1_n_n none v2 (truncf .bf16 (shapeCast S1024x512 v3 shapeCasts_S1x1024x512_S1024x512) bitsLt_bf16_f32) (constant S1024x512 .f32 0x00000000#32) (ix2 r x)
      = (∑ k : Fin 1024, v2 (ix2 r k) * v3 (ix3 (0 : Fin 1) k x) : EReal) :=
  (Cert.Mat.rows_cols (M := 1024) (K := 1024) (N := 512) v2 (truncf .bf16 (shapeCast S1024x512 v3 shapeCasts_S1x1024x512_S1024x512) bitsLt_bf16_f32) r x).trans
    (Finset.sum_congr rfl fun k _ => congrArg (v2 (ix2 r k) * ·) (Cert.Mat.slab v3 shapeCasts_S1x1024x512_S1024x512 k x))

/-- What one block of the result holds. -/
theorem block (v0 v8 v17 : Vec Ideal S1024x512 .bf16) (v2 v10 v19 : Vec Ideal S1024x1024 .bf16) (v3 v11 v20 : Vec Ideal S1x1024x512 .f32) (r : Fin 1024) (x : Fin 512) :
    k0_pay1 v0 v2 v3 v8 v10 v11 v17 v19 v20 (ix2 r x)
      = (v0 (ix2 r x) * (∑ k : Fin 1024, v2 (ix2 r k) * v3 (ix3 (0 : Fin 1) k x) : EReal) + v8 (ix2 r x) * (∑ k : Fin 1024, v10 (ix2 r k) * v11 (ix3 (0 : Fin 1) k x) : EReal)
          + v17 (ix2 r x) * (∑ k : Fin 1024, v19 (ix2 r k) * v20 (ix3 (0 : Fin 1) k x) : EReal) : EReal) :=
  congrArg₂ (fun p q : EReal => p + q)
    (congrArg₂ (fun p q : EReal => v0 (ix2 r x) * p + v8 (ix2 r x) * q) (branch v2 v3 r x) (branch v10 v11 r x))
    (congrArg (fun p : EReal => v17 (ix2 r x) * p) (branch v19 v20 r x))

theorem lt36 (t : Fin cfg0.N) : t.val < 36 := lt_of_lt_of_eq t.isLt N_0
theorem coord0 (t : Fin cfg0.N) : (grid0.coords t 0).val = t.val / 4 % 9 := Pipeline.Grid.coords_val t 0 (by decide) rfl
theorem coord1 (t : Fin cfg0.N) : (grid0.coords t 1).val = t.val / 1 % 4 := Pipeline.Grid.coords_val t 1 (by decide) rfl

theorem loadA (X : Vec Ideal S1024x1024 .bf16) : View.ld X r0_1 = X := View.ld_unit_lit _ _ (by decide)
theorem loadW (X : Vec Ideal S1x1024x512 .f32) : View.ld X r0_2 = X := View.ld_unit_lit _ _ (by decide)
theorem loadG (X : Vec Ideal S1024x512 .bf16) : View.ld X r0_0 = X := View.ld_unit_lit _ _ (by decide)

variable (m : (ℓ : Loc nD τ sig) → Buf (Elt Ideal) ℓ) (c : Dev nD)

/-- The result array. -/
def arr : (⟨2, ![9216, 2048]⟩ : Shape).Idx → EReal :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! Branch 0: the three blocks a point reads. -/

def blockA0 (t : Fin cfg0.N) : S1024x1024.Idx → EReal := iblk m c 0 t
def blockW0 (t : Fin cfg0.N) : S1x1024x512.Idx → EReal := iblk m c 3 t
def blockG0 (t : Fin cfg0.N) : S1024x512.Idx → EReal := iblk m c 6 t

theorem rowA0 (t : Fin cfg0.N) : (cfg0.win 0).index t 0 = t.val / 4 % 9 := by
  rw [← coord0]
  exact (by decide : ∀ a : Fin 9, (BitVec.ofNat 32 a.val).toNat = a.val) (grid0.coords t 0)
theorem colW0 (t : Fin cfg0.N) : (cfg0.win 3).index t 2 = t.val / 1 % 4 := by
  rw [← coord1]
  exact (by decide : ∀ a : Fin 4, (BitVec.ofNat 32 a.val).toNat = a.val) (grid0.coords t 1)
theorem rowG0 (t : Fin cfg0.N) : (cfg0.win 6).index t 0 = t.val / 4 % 9 := by
  rw [← coord0]
  exact (by decide : ∀ a : Fin 9, (BitVec.ofNat 32 a.val).toNat = a.val) (grid0.coords t 0)
theorem colG0 (t : Fin cfg0.N) : (cfg0.win 6).index t 1 = 0 + t.val / 1 % 4 := by
  rw [← coord1]
  exact (by decide : ∀ a : Fin 4, (Scalar.addi (BitVec.ofNat 32 a.val) 0#32).toNat = 0 + a.val) (grid0.coords t 1)

theorem rows0 (t : Fin cfg0.N) (r k : Fin 1024) :
    blockA0 m c t (ix2 r k) = (m ((c : Thread nD τ).loc main_arg0) : S9216x1024.Idx → EReal) (ix2 (⟨t.val / 4 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x1024.Idx → EReal) (funext fun a => match a with
    | ⟨0, _⟩ => Fin.ext ?_
    | ⟨1, _⟩ => Fin.ext ?_)
  · refine ((cfg0.win 0).rect_emb_val t (ix2 r k) 0).trans ?_
    rw [rowA0]
    rfl
  · exact ((cfg0.win 0).rect_emb_val_of_index_zero t 1 rfl (ix2 r k)).trans rfl

theorem weights0 (t : Fin cfg0.N) (k : Fin 1024) (x : Fin 512) :
    blockW0 m c t (ix3 (0 : Fin 1) k x) = (m ((c : Thread nD τ).loc main_arg3) : S2x1024x2048.Idx → EReal) (ix3 (1 : Fin 2) k (⟨t.val / 1 % 4 * 512 + x.val, by omega⟩ : Fin 2048)) := by
  show V m c main_arg3 (((cfg0.win 3).rect t).emb (ix3 (0 : Fin 1) k x)) = _
  rw [V_main_arg3 m c]
  refine congrArg (m ((c : Thread nD τ).loc main_arg3) : S2x1024x2048.Idx → EReal) (funext fun a => match a with
    | ⟨0, _⟩ => Fin.ext ?_
    | ⟨1, _⟩ => Fin.ext ?_
    | ⟨2, _⟩ => Fin.ext ?_)
  · exact ((cfg0.win 3).rect_emb_val t (ix3 (0 : Fin 1) k x) 0).trans rfl
  · exact ((cfg0.win 3).rect_emb_val_of_index_zero t 1 rfl (ix3 (0 : Fin 1) k x)).trans rfl
  · refine ((cfg0.win 3).rect_emb_val t (ix3 (0 : Fin 1) k x) 2).trans ?_
    rw [colW0]
    rfl

theorem gates0 (t : Fin cfg0.N) (r : Fin 1024) (x : Fin 512) :
    blockG0 m c t (ix2 r x) = (m ((c : Thread nD τ).loc main_arg6) : S9216x6144.Idx → EReal) (ix2 (⟨t.val / 4 % 9 * 1024 + r.val, by omega⟩ : Fin 9216) (⟨t.val / 1 % 4 * 512 + x.val, by omega⟩ : Fin 6144)) := by
  show V m c main_arg6 (((cfg0.win 6).rect t).emb (ix2 r x)) = _
  rw [V_main_arg6 m c]
  refine congrArg (m ((c : Thread nD τ).loc main_arg6) : S9216x6144.Idx → EReal) (funext fun a => match a with
    | ⟨0, _⟩ => Fin.ext ?_
    | ⟨1, _⟩ => Fin.ext ?_)
  · refine ((cfg0.win 6).rect_emb_val t (ix2 r x) 0).trans ?_
    rw [rowG0]
    rfl
  · refine ((cfg0.win 6).rect_emb_val t (ix2 r x) 1).trans ?_
    rw [colG0]
    show (0 + t.val / 1 % 4) * 512 + x.val = t.val / 1 % 4 * 512 + x.val
    omega

theorem part0 (t : Fin cfg0.N) (r : Fin 1024) (x : Fin 512) :
    blockG0 m c t (ix2 r x) * (∑ k : Fin 1024, blockA0 m c t (ix2 r k) * blockW0 m c t (ix3 (0 : Fin 1) k x))
      = part (m ((c : Thread nD τ).loc main_arg0)) (m ((c : Thread nD τ).loc main_arg3)) (m ((c : Thread nD τ).loc main_arg6))
          (⟨t.val / 4 % 9 * 1024 + r.val, by omega⟩ : Fin 9216) (⟨t.val / 1 % 4 * 512 + x.val, by omega⟩ : Fin 2048) (⟨t.val / 1 % 4 * 512 + x.val, by omega⟩ : Fin 6144) :=
  congrArg₂ (fun p q : EReal => p * q) (gates0 m c t r x)
    (Finset.sum_congr rfl fun k _ => congrArg₂ (fun p q : EReal => p * q) (rows0 m c t r k) (weights0 m c t k x))

/-! Branch 1: the three blocks a point reads. -/

def blockA1 (t : Fin cfg0.N) : S1024x1024.Idx → EReal := iblk m c 1 t
def blockW1 (t : Fin cfg0.N) : S1x1024x512.Idx → EReal := iblk m c 4 t
def blockG1 (t : Fin cfg0.N) : S1024x512.Idx → EReal := iblk m c 7 t

theorem rowA1 (t : Fin cfg0.N) : (cfg0.win 1).index t 0 = t.val / 4 % 9 := by
  rw [← coord0]
  exact (by decide : ∀ a : Fin 9, (BitVec.ofNat 32 a.val).toNat = a.val) (grid0.coords t 0)
theorem colW1 (t : Fin cfg0.N) : (cfg0.win 4).index t 2 = t.val / 1 % 4 := by
  rw [← coord1]
  exact (by decide : ∀ a : Fin 4, (BitVec.ofNat 32 a.val).toNat = a.val) (grid0.coords t 1)
theorem rowG1 (t : Fin cfg0.N) : (cfg0.win 7).index t 0 = t.val / 4 % 9 := by
  rw [← coord0]
  exact (by decide : ∀ a : Fin 9, (BitVec.ofNat 32 a.val).toNat = a.val) (grid0.coords t 0)
theorem colG1 (t : Fin cfg0.N) : (cfg0.win 7).index t 1 = 4 + t.val / 1 % 4 := by
  rw [← coord1]
  exact (by decide : ∀ a : Fin 4, (Scalar.addi (BitVec.ofNat 32 a.val) 4#32).toNat = 4 + a.val) (grid0.coords t 1)

theorem rows1 (t : Fin cfg0.N) (r k : Fin 1024) :
    blockA1 m c t (ix2 r k) = (m ((c : Thread nD τ).loc main_arg1) : S9216x1024.Idx → EReal) (ix2 (⟨t.val / 4 % 9 * 1024 + r.val, by omega⟩ : Fin 9216) k) := by
  show V m c main_arg1 (((cfg0.win 1).rect t).emb (ix2 r k)) = _
  rw [V_main_arg1 m c]
  refine congrArg (m ((c : Thread nD τ).loc main_arg1) : S9216x1024.Idx → EReal) (funext fun a => match a with
    | ⟨0, _⟩ => Fin.ext ?_
    | ⟨1, _⟩ => Fin.ext ?_)
  · refine ((cfg0.win 1).rect_emb_val t (ix2 r k) 0).trans ?_
    rw [rowA1]
    rfl
  · exact ((cfg0.win 1).rect_emb_val_of_index_zero t 1 rfl (ix2 r k)).trans rfl

theorem weights1 (t : Fin cfg0.N) (k : Fin 1024) (x : Fin 512) :
    blockW1 m c t (ix3 (0 : Fin 1) k x) = (m ((c : Thread nD τ).loc main_arg4) : S2x1024x2048.Idx → EReal) (ix3 (1 : Fin 2) k (⟨t.val / 1 % 4 * 512 + x.val, by omega⟩ : Fin 2048)) := by
  show V m c main_arg4 (((cfg0.win 4).rect t).emb (ix3 (0 : Fin 1) k x)) = _
  rw [V_main_arg4 m c]
  refine congrArg (m ((c : Thread nD τ).loc main_arg4) : S2x1024x2048.Idx → EReal) (funext fun a => match a with
    | ⟨0, _⟩ => Fin.ext ?_
    | ⟨1, _⟩ => Fin.ext ?_
    | ⟨2, _⟩ => Fin.ext ?_)
  · exact ((cfg0.win 4).rect_emb_val t (ix3 (0 : Fin 1) k x) 0).trans rfl
  · exact ((cfg0.win 4).rect_emb_val_of_index_zero t 1 rfl (ix3 (0 : Fin 1) k x)).trans rfl
  · refine ((cfg0.win 4).rect_emb_val t (ix3 (0 : Fin 1) k x) 2).trans ?_
    rw [colW1]
    rfl

theorem gates1 (t : Fin cfg0.N) (r : Fin 1024) (x : Fin 512) :
    blockG1 m c t (ix2 r x) = (m ((c : Thread nD τ).loc main_arg6) : S9216x6144.Idx → EReal) (ix2 (⟨t.val / 4 % 9 * 1024 + r.val, by omega⟩ : Fin 9216) (⟨2048 + (t.val / 1 % 4 * 512 + x.val), by omega⟩ : Fin 6144)) := by
  show V m c main_arg6 (((cfg0.win 7).rect t).emb (ix2 r x)) = _
  rw [V_main_arg6 m c]
  refine congrArg (m ((c : Thread nD τ).loc main_arg6) : S9216x6144.Idx → EReal) (funext fun a => match a with
    | ⟨0, _⟩ => Fin.ext ?_
    | ⟨1, _⟩ => Fin.ext ?_)
  · refine ((cfg0.win 7).rect_emb_val t (ix2 r x) 0).trans ?_
    rw [rowG1]
    rfl
  · refine ((cfg0.win 7).rect_emb_val t (ix2 r x) 1).trans ?_
    rw [colG1]
    show (4 + t.val / 1 % 4) * 512 + x.val = 2048 + (t.val / 1 % 4 * 512 + x.val)
    omega

theorem part1 (t : Fin cfg0.N) (r : Fin 1024) (x : Fin 512) :
    blockG1 m c t (ix2 r x) * (∑ k : Fin 1024, blockA1 m c t (ix2 r k) * blockW1 m c t (ix3 (0 : Fin 1) k x))
      = part (m ((c : Thread nD τ).loc main_arg1)) (m ((c : Thread nD τ).loc main_arg4)) (m ((c : Thread nD τ).loc main_arg6))
          (⟨t.val / 4 % 9 * 1024 + r.val, by omega⟩ : Fin 9216) (⟨t.val / 1 % 4 * 512 + x.val, by omega⟩ : Fin 2048) (⟨2048 + (t.val / 1 % 4 * 512 + x.val), by omega⟩ : Fin 6144) :=
  congrArg₂ (fun p q : EReal => p * q) (gates1 m c t r x)
    (Finset.sum_congr rfl fun k _ => congrArg₂ (fun p q : EReal => p * q) (rows1 m c t r k) (weights1 m c t k x))

/-! Branch 2: the three blocks a point reads. -/

def blockA2 (t : Fin cfg0.N) : S1024x1024.Idx → EReal := iblk m c 2 t
def blockW2 (t : Fin cfg0.N) : S1x1024x512.Idx → EReal := iblk m c 5 t
def blockG2 (t : Fin cfg0.N) : S1024x512.Idx → EReal := iblk m c 8 t

theorem rowA2 (t : Fin cfg0.N) : (cfg0.win 2).index t 0 = t.val / 4 % 9 := by
  rw [← coord0]
  exact (by decide : ∀ a : Fin 9, (BitVec.ofNat 32 a.val).toNat = a.val) (grid0.coords t 0)
theorem colW2 (t : Fin cfg0.N) : (cfg0.win 5).index t 2 = t.val / 1 % 4 := by
  rw [← coord1]
  exact (by decide : ∀ a : Fin 4, (BitVec.ofNat 32 a.val).toNat = a.val) (grid0.coords t 1)
theorem rowG2 (t : Fin cfg0.N) : (cfg0.win 8).index t 0 = t.val / 4 % 9 := by
  rw [← coord0]
  exact (by decide : ∀ a : Fin 9, (BitVec.ofNat 32 a.val).toNat = a.val) (grid0.coords t 0)
theorem colG2 (t : Fin cfg0.N) : (cfg0.win 8).index t 1 = 8 + t.val / 1 % 4 := by
  rw [← coord1]
  exact (by decide : ∀ a : Fin 4, (Scalar.addi (BitVec.ofNat 32 a.val) 8#32).toNat = 8 + a.val) (grid0.coords t 1)

theorem rows2 (t : Fin cfg0.N) (r k : Fin 1024) :
    blockA2 m c t (ix2 r k) = (m ((c : Thread nD τ).loc main_arg2) : S9216x1024.Idx → EReal) (ix2 (⟨t.val / 4 % 9 * 1024 + r.val, by omega⟩ : Fin 9216) k) := by
  show V m c main_arg2 (((cfg0.win 2).rect t).emb (ix2 r k)) = _
  rw [V_main_arg2 m c]
  refine congrArg (m ((c : Thread nD τ).loc main_arg2) : S9216x1024.Idx → EReal) (funext fun a => match a with
    | ⟨0, _⟩ => Fin.ext ?_
    | ⟨1, _⟩ => Fin.ext ?_)
  · refine ((cfg0.win 2).rect_emb_val t (ix2 r k) 0).trans ?_
    rw [rowA2]
    rfl
  · exact ((cfg0.win 2).rect_emb_val_of_index_zero t 1 rfl (ix2 r k)).trans rfl

theorem weights2 (t : Fin cfg0.N) (k : Fin 1024) (x : Fin 512) :
    blockW2 m c t (ix3 (0 : Fin 1) k x) = (m ((c : Thread nD τ).loc main_arg5) : S2x1024x2048.Idx → EReal) (ix3 (1 : Fin 2) k (⟨t.val / 1 % 4 * 512 + x.val, by omega⟩ : Fin 2048)) := by
  show V m c main_arg5 (((cfg0.win 5).rect t).emb (ix3 (0 : Fin 1) k x)) = _
  rw [V_main_arg5 m c]
  refine congrArg (m ((c : Thread nD τ).loc main_arg5) : S2x1024x2048.Idx → EReal) (funext fun a => match a with
    | ⟨0, _⟩ => Fin.ext ?_
    | ⟨1, _⟩ => Fin.ext ?_
    | ⟨2, _⟩ => Fin.ext ?_)
  · exact ((cfg0.win 5).rect_emb_val t (ix3 (0 : Fin 1) k x) 0).trans rfl
  · exact ((cfg0.win 5).rect_emb_val_of_index_zero t 1 rfl (ix3 (0 : Fin 1) k x)).trans rfl
  · refine ((cfg0.win 5).rect_emb_val t (ix3 (0 : Fin 1) k x) 2).trans ?_
    rw [colW2]
    rfl

theorem gates2 (t : Fin cfg0.N) (r : Fin 1024) (x : Fin 512) :
    blockG2 m c t (ix2 r x) = (m ((c : Thread nD τ).loc main_arg6) : S9216x6144.Idx → EReal) (ix2 (⟨t.val / 4 % 9 * 1024 + r.val, by omega⟩ : Fin 9216) (⟨4096 + (t.val / 1 % 4 * 512 + x.val), by omega⟩ : Fin 6144)) := by
  show V m c main_arg6 (((cfg0.win 8).rect t).emb (ix2 r x)) = _
  rw [V_main_arg6 m c]
  refine congrArg (m ((c : Thread nD τ).loc main_arg6) : S9216x6144.Idx → EReal) (funext fun a => match a with
    | ⟨0, _⟩ => Fin.ext ?_
    | ⟨1, _⟩ => Fin.ext ?_)
  · refine ((cfg0.win 8).rect_emb_val t (ix2 r x) 0).trans ?_
    rw [rowG2]
    rfl
  · refine ((cfg0.win 8).rect_emb_val t (ix2 r x) 1).trans ?_
    rw [colG2]
    show (8 + t.val / 1 % 4) * 512 + x.val = 4096 + (t.val / 1 % 4 * 512 + x.val)
    omega

theorem part2 (t : Fin cfg0.N) (r : Fin 1024) (x : Fin 512) :
    blockG2 m c t (ix2 r x) * (∑ k : Fin 1024, blockA2 m c t (ix2 r k) * blockW2 m c t (ix3 (0 : Fin 1) k x))
      = part (m ((c : Thread nD τ).loc main_arg2)) (m ((c : Thread nD τ).loc main_arg5)) (m ((c : Thread nD τ).loc main_arg6))
          (⟨t.val / 4 % 9 * 1024 + r.val, by omega⟩ : Fin 9216) (⟨t.val / 1 % 4 * 512 + x.val, by omega⟩ : Fin 2048) (⟨4096 + (t.val / 1 % 4 * 512 + x.val), by omega⟩ : Fin 6144) :=
  congrArg₂ (fun p q : EReal => p * q) (gates2 m c t r x)
    (Finset.sum_congr rfl fun k _ => congrArg₂ (fun p q : EReal => p * q) (rows2 m c t r k) (weights2 m c t k x))

/-! The result. -/

theorem place0 (t : Fin cfg0.N) : (cfg0.win 9).index t 0 = t.val / 4 % 9 := by
  rw [← coord0]
  exact (by decide : ∀ a : Fin 9, (BitVec.ofNat 32 a.val).toNat = a.val) (grid0.coords t 0)
theorem place1 (t : Fin cfg0.N) : (cfg0.win 9).index t 1 = t.val / 1 % 4 := by
  rw [← coord1]
  exact (by decide : ∀ a : Fin 4, (BitVec.ofNat 32 a.val).toNat = a.val) (grid0.coords t 1)

theorem place (t : Fin cfg0.N) (r : Fin 1024) (x : Fin 512) : ((cfg0.win 9).rect t).emb (ix2 r x)
    = (ix2 (⟨t.val / 4 % 9 * 1024 + r.val, by omega⟩ : Fin 9216) (⟨t.val / 1 % 4 * 512 + x.val, by omega⟩ : Fin 2048) : S9216x2048.Idx) := funext fun a => match a with
  | ⟨0, _⟩ => Fin.ext (((cfg0.win 9).rect_emb_val t (ix2 r x) 0).trans (by rw [place0]; rfl))
  | ⟨1, _⟩ => Fin.ext (((cfg0.win 9).rect_emb_val t (ix2 r x) 1).trans (by rw [place1]; rfl))

/-- What a point writes back is its block of the result. -/
theorem written (t : Fin cfg0.N) : (dats m 0 c).flushed 9 t = ((cfg0.win 9).blk t).view.read (Elt Ideal) (arr m c) := by
  rw [Cert.KernelMergeIdeal.Value.flushed9]
  unfold out0_9
  have key : ∀ (r : Fin 1024) (x : Fin 512), (View.canon [⟨r0_0, k0_pay1 (View.ld (iblk m c 6 t) r0_0) (View.ld (iblk m c 0 t) r0_1) (View.ld (iblk m c 3 t) r0_2) (View.ld (iblk m c 7 t) r0_0) (View.ld (iblk m c 1 t) r0_1) (View.ld (iblk m c 4 t) r0_2) (View.ld (iblk m c 8 t) r0_0) (View.ld (iblk m c 2 t) r0_1) (View.ld (iblk m c 5 t) r0_2)⟩] : Vec Ideal S1024x512 .bf16) (ix2 r x)
      = arr m c (((cfg0.win 9).rect t).emb (ix2 r x)) := by
    intro r x
    rw [View.canon_cons_unit_lit _ _ _ (by decide), place]
    refine (congrFun (congr (congr (congr (congr (congr (congr (congr (congrArg₂ (k0_pay1 (F := Ideal)) (loadG (iblk m c 6 t)) (loadA (iblk m c 0 t))) (loadW (iblk m c 3 t)))
      (loadG (iblk m c 7 t))) (loadA (iblk m c 1 t))) (loadW (iblk m c 4 t))) (loadG (iblk m c 8 t))) (loadA (iblk m c 2 t))) (loadW (iblk m c 5 t))) (ix2 r x)).trans ?_
    refine (block (blockG0 m c t) (blockG1 m c t) (blockG2 m c t) (blockA0 m c t) (blockA1 m c t) (blockA2 m c t) (blockW0 m c t) (blockW1 m c t) (blockW2 m c t) r x).trans ?_
    exact congrArg₂ (fun p q : EReal => p + q) (congrArg₂ (fun p q : EReal => p + q) (part0 m c t r x) (part1 m c t r x)) (part2 m c t r x)
  refine funext fun y => ?_
  obtain ⟨r, x, rfl⟩ : ∃ (r : Fin 1024) (x : Fin 512), y = ix2 r x := ⟨y 0, y 1, eq_ix2 y⟩
  exact key r x

theorem final : (dats m 0 c).arrAt 9 cfg0.N = arr m c :=
  Dat.arrAt_eq_of_cover (dats m 0 c) 9 (arr m c) (fun t _ => written m c t) (fun i => by
    obtain ⟨q, x, rfl⟩ : ∃ (q : Fin 9216) (x : Fin 2048), i = (ix2 q x : S9216x2048.Idx) := ⟨i 0, i 1, eq_ix2 (i : S9216x2048.Idx)⟩
    have hN : q.val / 1024 * 4 + x.val / 512 < cfg0.N := lt_of_lt_of_eq (by omega) N_0.symm
    refine ⟨⟨q.val / 1024 * 4 + x.val / 512, hN⟩, flush0_9 _, ?_⟩
    refine Finset.mem_map.2 ⟨ix2 (⟨q.val % 1024, Nat.mod_lt _ (by decide)⟩ : Fin 1024) (⟨x.val % 512, Nat.mod_lt _ (by decide)⟩ : Fin 512), Finset.mem_univ _, ?_⟩
    refine (place ⟨q.val / 1024 * 4 + x.val / 512, hN⟩ _ _).trans ?_
    refine congrArg₂ (fun (q : Fin 9216) (x : Fin 2048) => (ix2 q x : S9216x2048.Idx)) (Fin.ext ?_) (Fin.ext ?_)
    · show (q.val / 1024 * 4 + x.val / 512) / 4 % 9 * 1024 + q.val % 1024 = q.val
      omega
    · show (q.val / 1024 * 4 + x.val / 512) / 1 % 4 * 512 + x.val % 512 = x.val
      omega)

end Kernel

/-! ## The reference -/

section Reference

open Cert.ReferenceMergeIdeal Cert.ReferenceMergeIdeal.Gen Cert.ReferenceMergeIdeal.Read

theorem reference_gate0 (x6 : (⟨S9216x6144, .bf16⟩ : BufTy).Contents (Elt Ideal)) (r : Fin 9216) (x : Fin 2048) :
    val_main_v3 (F := Ideal) x6 (ix2 r x) = x6 (ix2 r (⟨x.val, by omega⟩ : Fin 6144)) := by
  rw [val_main_v3_apply, val_main_v2_apply, val_main_v1_apply, val_main_v0_apply]
  refine congrArg x6 (funext fun a => match a with
    | ⟨0, _⟩ => Fin.ext ?_
    | ⟨1, _⟩ => Fin.ext ?_)
  · show (((r.val * 2048 + x.val) / 2048 * 3 + 0) * 2048 + (r.val * 2048 + x.val) % 2048) / 6144 = r.val
    omega
  · show (((r.val * 2048 + x.val) / 2048 * 3 + 0) * 2048 + (r.val * 2048 + x.val) % 2048) % 6144 = x.val
    omega

theorem reference_branch0 (x0 : (⟨S9216x1024, .bf16⟩ : BufTy).Contents (Elt Ideal)) (x3 : (⟨S2x1024x2048, .f32⟩ : BufTy).Contents (Elt Ideal)) (r : Fin 9216) (x : Fin 2048) :
    val_main_v7 (F := Ideal) x0 x3 (ix2 r x) = (∑ k : Fin 1024, x0 (ix2 r k) * x3 (ix3 (1 : Fin 2) k x) : EReal) := by
  rw [val_main_v7_apply]
  refine Finset.sum_congr rfl fun k _ => ?_
  refine congrArg₂ (· * ·) (congrArg x0 (funext fun a => match a with | ⟨0, _⟩ => rfl | ⟨1, _⟩ => rfl)) ?_
  rw [val_main_v6_apply, val_main_v5_apply]
  refine congrArg x3 (funext fun a => match a with
    | ⟨0, _⟩ => rfl
    | ⟨1, _⟩ => Fin.ext ?_
    | ⟨2, _⟩ => Fin.ext ?_)
  · show (k.val * 2048 + x.val) / 2048 % 1024 = k.val
    omega
  · show (k.val * 2048 + x.val) % 2048 = x.val
    omega

theorem reference_gate1 (x6 : (⟨S9216x6144, .bf16⟩ : BufTy).Contents (Elt Ideal)) (r : Fin 9216) (x : Fin 2048) :
    val_main_v10 (F := Ideal) x6 (ix2 r x) = x6 (ix2 r (⟨2048 + x.val, by omega⟩ : Fin 6144)) := by
  rw [val_main_v10_apply, val_main_v9_apply, val_main_v1_apply, val_main_v0_apply]
  refine congrArg x6 (funext fun a => match a with
    | ⟨0, _⟩ => Fin.ext ?_
    | ⟨1, _⟩ => Fin.ext ?_)
  · show (((r.val * 2048 + x.val) / 2048 * 3 + (1 + 0)) * 2048 + (r.val * 2048 + x.val) % 2048) / 6144 = r.val
    omega
  · show (((r.val * 2048 + x.val) / 2048 * 3 + (1 + 0)) * 2048 + (r.val * 2048 + x.val) % 2048) % 6144 = 2048 + x.val
    omega

theorem reference_branch1 (x0 : (⟨S9216x1024, .bf16⟩ : BufTy).Contents (Elt Ideal)) (x3 : (⟨S2x1024x2048, .f32⟩ : BufTy).Contents (Elt Ideal)) (r : Fin 9216) (x : Fin 2048) :
    val_main_v14 (F := Ideal) x0 x3 (ix2 r x) = (∑ k : Fin 1024, x0 (ix2 r k) * x3 (ix3 (1 : Fin 2) k x) : EReal) := by
  rw [val_main_v14_apply]
  refine Finset.sum_congr rfl fun k _ => ?_
  refine congrArg₂ (· * ·) (congrArg x0 (funext fun a => match a with | ⟨0, _⟩ => rfl | ⟨1, _⟩ => rfl)) ?_
  rw [val_main_v13_apply, val_main_v12_apply]
  refine congrArg x3 (funext fun a => match a with
    | ⟨0, _⟩ => rfl
    | ⟨1, _⟩ => Fin.ext ?_
    | ⟨2, _⟩ => Fin.ext ?_)
  · show (k.val * 2048 + x.val) / 2048 % 1024 = k.val
    omega
  · show (k.val * 2048 + x.val) % 2048 = x.val
    omega

theorem reference_gate2 (x6 : (⟨S9216x6144, .bf16⟩ : BufTy).Contents (Elt Ideal)) (r : Fin 9216) (x : Fin 2048) :
    val_main_v18 (F := Ideal) x6 (ix2 r x) = x6 (ix2 r (⟨4096 + x.val, by omega⟩ : Fin 6144)) := by
  rw [val_main_v18_apply, val_main_v17_apply, val_main_v1_apply, val_main_v0_apply]
  refine congrArg x6 (funext fun a => match a with
    | ⟨0, _⟩ => Fin.ext ?_
    | ⟨1, _⟩ => Fin.ext ?_)
  · show (((r.val * 2048 + x.val) / 2048 * 3 + (2 + 0)) * 2048 + (r.val * 2048 + x.val) % 2048) / 6144 = r.val
    omega
  · show (((r.val * 2048 + x.val) / 2048 * 3 + (2 + 0)) * 2048 + (r.val * 2048 + x.val) % 2048) % 6144 = 4096 + x.val
    omega

theorem reference_branch2 (x0 : (⟨S9216x1024, .bf16⟩ : BufTy).Contents (Elt Ideal)) (x3 : (⟨S2x1024x2048, .f32⟩ : BufTy).Contents (Elt Ideal)) (r : Fin 9216) (x : Fin 2048) :
    val_main_v22 (F := Ideal) x0 x3 (ix2 r x) = (∑ k : Fin 1024, x0 (ix2 r k) * x3 (ix3 (1 : Fin 2) k x) : EReal) := by
  rw [val_main_v22_apply]
  refine Finset.sum_congr rfl fun k _ => ?_
  refine congrArg₂ (· * ·) (congrArg x0 (funext fun a => match a with | ⟨0, _⟩ => rfl | ⟨1, _⟩ => rfl)) ?_
  rw [val_main_v21_apply, val_main_v20_apply]
  refine congrArg x3 (funext fun a => match a with
    | ⟨0, _⟩ => rfl
    | ⟨1, _⟩ => Fin.ext ?_
    | ⟨2, _⟩ => Fin.ext ?_)
  · show (k.val * 2048 + x.val) / 2048 % 1024 = k.val
    omega
  · show (k.val * 2048 + x.val) % 2048 = x.val
    omega

theorem reference_at (x0 x1 x2 : (⟨S9216x1024, .bf16⟩ : BufTy).Contents (Elt Ideal)) (x3 x4 x5 : (⟨S2x1024x2048, .f32⟩ : BufTy).Contents (Elt Ideal)) (x6 : (⟨S9216x6144, .bf16⟩ : BufTy).Contents (Elt Ideal)) (r : Fin 9216) (x : Fin 2048) :
    val_main_v25 (F := Ideal) x0 x1 x2 x3 x4 x5 x6 (ix2 r x) = elem x0 x1 x2 x3 x4 x5 x6 r x := by
  rw [val_main_v25_apply, val_main_v24_apply, val_main_v23_apply, val_main_v16_apply, val_main_v15_apply, val_main_v8_apply,
    reference_gate0, reference_gate1, reference_gate2, reference_branch0, reference_branch1, reference_branch2]
  rfl

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, sem_eq_zero_of_no_sems (by decide) r.2⟩) (Cert.ReferenceMergeIdeal.Value.run m g)

end Reference

/-! ## The equation -/

theorem algebraic : Cert.algebraic_KernelMergeIdeal_ReferenceMergeIdeal := by
  intro m g m' g' _ hagree
  refine ⟨fun c => arr m c, ?_, ?_⟩
  · refine (θ_run _ _ _).mono (fun r h c => ⟨?_, (h c).2⟩) (Cert.KernelMergeIdeal.Value.run_blocks (F := Ideal) m g)
    exact (h c).1.trans (final m c)
  · refine (θ_run _ _ _).mono (fun r h c => ⟨?_, (h c).2⟩) (Cert.ReferenceMergeIdeal.Value.run m' g')
    refine (h c).1.trans ((Cert.ReferenceMergeIdeal.Read.val_main_v25_eq _ _ _ _ _ _ _).trans ?_)
    obtain ⟨h0, h1, h2, h3, h4, h5, h6⟩ := hagree c
    rw [h0, h1, h2, h3, h4, h5, h6]
    refine funext fun i => ?_
    obtain ⟨r, x, rfl⟩ : ∃ (r : Fin 9216) (x : Fin 2048), i = ix2 r x := ⟨i 0, i 1, eq_ix2 i⟩
    exact reference_at _ _ _ _ _ _ _ r x

end Cert.Merge

end
-- ==== Proof.Calls.Take.lean ====
module

public import Idealize.ShloMosaic.Lib.ValueIdx
public import Idealize.ShloMosaic.Lib.Pipeline.Value
public import Idealize.ShloMosaic.Lib.Routing.Ops
public import Idealize.ShloMosaic.Lib.ReduceAll
public import Idealize.ShloMosaic.Lib.WordCmp
public import Idealize.ShloMosaic.PureOps.Ideal.Laws

@[expose] public section

noncomputable section

/-! Rows taken out of a table of 30864 rows by a list of row numbers, as the host writes it: negative numbers wrapped,
    numbers out of range answered by a filler. With every number in range the result is the rows named. -/

namespace Cert.Take

open Idealize.ShloMosaic
open Idealize.ShloMosaic.ValueIdx

variable {n : ℕ}

/-- The list as a column, its negative numbers wrapped. -/
def column (I : IVec ⟨1, ![n]⟩ 32) (h0 : (⟨0, ![]⟩ : Shape).BroadcastsInDim ⟨1, ![n]⟩ ![]) (h5 : (⟨1, ![n]⟩ : Shape).BroadcastsInDim ⟨2, ![n, 1]⟩ ![0]) :
    IVec ⟨2, ![n, 1]⟩ 32 :=
  broadcastInDim ⟨2, ![n, 1]⟩ ![0] h5 (select (cmpi .slt I (broadcastInDim ⟨1, ![n]⟩ ![] h0 (constantI ⟨0, ![]⟩ 32 0#32)))
    (addi I (broadcastInDim ⟨1, ![n]⟩ ![] h0 (constantI ⟨0, ![]⟩ 32 30864#32))) I)

/-- In range, the column holds the numbers of the list. -/
theorem column_at (I : IVec ⟨1, ![n]⟩ 32) (row : Fin n → Fin 30864) (hI : ∀ x, I (ix1 x) = BitVec.ofNat 32 (row x).val)
    (h0 : (⟨0, ![]⟩ : Shape).BroadcastsInDim ⟨1, ![n]⟩ ![]) (h5 : (⟨1, ![n]⟩ : Shape).BroadcastsInDim ⟨2, ![n, 1]⟩ ![0]) (x : Fin n) (z : Fin 1) :
    column I h0 h5 (ix2 x z) = BitVec.ofNat 32 (row x).val := by
  unfold column
  rw [broadcastInDim_apply ![0] h5 _ (ix2 x z) (ix1 x) (fun a => by
    obtain rfl : a = 0 := Subsingleton.elim _ _
    show x.val = if n = 1 then 0 else x.val
    split
    · next h => have := x.isLt; omega
    · rfl)]
  show Scalar.select (IntOp.cmpi .slt (I (ix1 x)) 0#32) (IntOp.addi (I (ix1 x)) 30864#32) (I (ix1 x)) = _
  rw [hI]
  have e : IntOp.cmpi .slt (BitVec.ofNat 32 (row x).val) 0#32 = 0#1 := by
    rw [WordCmp.cmpi_slt_ofNat (b := 0) (by have := (row x).isLt; omega) (by decide)]
    rfl
  rw [e]
  rfl

/-- The rows taken: row `x` of the result is the row of the table that the list names at `x`. -/
theorem taken {α : Type} (X : (⟨2, ![30864, 2048]⟩ : Shape).Idx → α) (I : IVec ⟨1, ![n]⟩ 32) (fill : (⟨2, ![n, 2048]⟩ : Shape).Idx → α)
    (row : Fin n → Fin 30864) (hI : ∀ x, I (ix1 x) = BitVec.ofNat 32 (row x).val)
    (h0 : (⟨0, ![]⟩ : Shape).BroadcastsInDim ⟨1, ![n]⟩ ![]) (h5 : (⟨1, ![n]⟩ : Shape).BroadcastsInDim ⟨2, ![n, 1]⟩ ![0])
    (h6 : (⟨0, ![]⟩ : Shape).BroadcastsInDim ⟨2, ![n, 1]⟩ ![]) (h8 : (⟨1, ![1]⟩ : Shape).BroadcastsInDim ⟨2, ![1, 1]⟩ ![1])
    (h9 : (⟨2, ![1, 1]⟩ : Shape).BroadcastsInDim ⟨2, ![n, 1]⟩ ![0, 1]) (hr : (⟨2, ![n, 1]⟩ : Shape).ReducesTo [1] ⟨1, ![n]⟩)
    (hs : 0 < (⟨0, ![]⟩ : Shape).numel) (h14 : (⟨1, ![n]⟩ : Shape).BroadcastsInDim ⟨2, ![n, 2048]⟩ ![0])
    (d : GatherDims ⟨2, ![30864, 2048]⟩ ⟨2, ![n, 1]⟩ ⟨2, ![n, 2048]⟩) (hoff : d.offsetDims = [1]) (hcoll : d.collapsedSliceDims = [0])
    (hob : d.operandBatchingDims = []) (hsim : d.startIndexMap = [0]) (hivd : d.indexVectorDim = 1) (x : Fin n) (k : Fin 2048) :
    select (broadcastInDim ⟨2, ![n, 2048]⟩ ![0] h14 (Host.reduce IntOp.andi
        (andi (cmpi .sge (column I h0 h5) (broadcastInDim ⟨2, ![n, 1]⟩ ![] h6 (constantI ⟨0, ![]⟩ 32 0#32)))
          (cmpi .sle (column I h0 h5) (broadcastInDim ⟨2, ![n, 1]⟩ ![0, 1] h9 (broadcastInDim ⟨2, ![1, 1]⟩ ![1] h8 (constantI ⟨1, ![1]⟩ 32 30863#32)))))
        (constantI ⟨0, ![]⟩ 1 1#1) hr hs))
      (Host.gather d X (column I h0 h5)) fill (ix2 x k) = X (ix2 (row x) k) := by
  have mask : ∀ j, Host.reduce IntOp.andi
        (andi (cmpi .sge (column I h0 h5) (broadcastInDim ⟨2, ![n, 1]⟩ ![] h6 (constantI ⟨0, ![]⟩ 32 0#32)))
          (cmpi .sle (column I h0 h5) (broadcastInDim ⟨2, ![n, 1]⟩ ![0, 1] h9 (broadcastInDim ⟨2, ![1, 1]⟩ ![1] h8 (constantI ⟨1, ![1]⟩ 32 30863#32)))))
        (constantI ⟨0, ![]⟩ 1 1#1) hr hs j = 1#1 := fun j =>
    Host.reduce_andi_one _ _ hr hs j rfl fun i => by
      obtain ⟨p, z, rfl⟩ : ∃ (p : Fin n) (z : Fin 1), i = ix2 p z := ⟨i 0, i 1, eq_ix2 i⟩
      show IntOp.andi (IntOp.cmpi .sge (column I h0 h5 (ix2 p z)) 0#32) (IntOp.cmpi .sle (column I h0 h5 (ix2 p z)) 30863#32) = 1#1
      have lt := (row p).isLt
      rw [column_at I row hI, WordCmp.cmpi_sge_ofNat (b := 0) (by omega) (by decide), WordCmp.cmpi_sle_ofNat (b := 30863) (by omega) (by decide),
        decide_eq_true (Nat.zero_le _), decide_eq_true (by omega)]
      rfl
  show Scalar.select (Host.reduce IntOp.andi _ _ hr hs _) (Host.gather d X (column I h0 h5) (ix2 x k)) (fill (ix2 x k)) = _
  rw [mask]
  exact Routing.gather_row d hoff hcoll hob hsim hivd X (column I h0 h5) x k (row x) (column_at I row hI h0 h5 x 0) (by decide)

/-- The table of the two layers' weight columns as rows: row `15432 + j` is column `j` of the second layer. -/
theorem second {α : Type} (W : (⟨3, ![2, 2048, 15432]⟩ : Shape).Idx → α) (ht : (⟨3, ![2, 2048, 15432]⟩ : Shape).Transposes [0, 2, 1] ⟨3, ![2, 15432, 2048]⟩)
    (hc : (⟨3, ![2, 15432, 2048]⟩ : Shape).ShapeCasts ⟨2, ![30864, 2048]⟩) (p : Fin 30864) (j : Fin 15432) (hp : p.val = 15432 + j.val) (k : Fin 2048) :
    shapeCast ⟨2, ![30864, 2048]⟩ (transpose ⟨3, ![2, 15432, 2048]⟩ [0, 2, 1] W ht) hc (ix2 p k) = W (ix3 (1 : Fin 2) k j) :=
  (shapeCast_apply _ hc (ix2 p k) (ix3 (1 : Fin 2) j k) (by
    rewrite [Shape.rowMajor_val_three, Shape.rowMajor_val_two]
    show (1 * 15432 + j.val) * 2048 + k.val = p.val * 2048 + k.val
    rw [hp, Nat.one_mul])).trans
  (transpose_apply [0, 2, 1] W ht (ix3 (1 : Fin 2) j k) (ix3 (1 : Fin 2) k j) (fun a => match a with | ⟨0, _⟩ => rfl | ⟨1, _⟩ => rfl | ⟨2, _⟩ => rfl))

end Cert.Take

end
-- ==== Proof.Calls.QIn.lean ====
module

public import proofs.«01_k».proof.Defs
public import proofs.«01_k».proof.Proof.Calls.Mat
public import proofs.«01_k».proof.Proof.Calls.Take
public import proofs.«01_k».proof.Proof.Gen.KernelQIn.Frame
public import proofs.«01_k».proof.Proof.Gen.KernelQInIdeal.Frame
public import proofs.«01_k».proof.Proof.Gen.KernelQInIdeal.Value
public import proofs.«01_k».proof.Proof.Gen.ReferenceQInIdeal
public import proofs.«01_k».proof.Proof.Gen.ReferenceQInIdeal.Run
public import proofs.«01_k».proof.Proof.Gen.ReferenceQInIdeal.Read
public import Idealize.ShloMosaic.Adequacy
public import Idealize.ShloMosaic.Init
public import Idealize.ShloMosaic.Lib.Quiescent

@[expose] public section

set_option maxRecDepth 100000

noncomputable section

/-! The input projection of the queries: the product with the first 1536 columns of the combined weights, eight heads of 192
    columns. The first 128 columns of every head come first, then the last 64 of every head, each of these laid out
    twice, the second time with their two halves exchanged. -/

namespace Cert.QIn

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

/-- Which of a head's last 64 columns stands at place `e` of the 128 laid out for it. -/
def turn (e : ℕ) : ℕ := if e < 64 then e else if e < 96 then e - 32 else e - 96

theorem turn_lt {e : ℕ} (h : e < 128) : turn e < 64 := by
  unfold turn
  split
  · omega
  · split <;> omega

/-- Which column of the product column `x` of the result is. -/
def plan (x : ℕ) : ℕ := if x < 1024 then x / 128 * 192 + x % 128 else (x - 1024) / 128 * 192 + (128 + turn ((x - 1024) % 128))

theorem plan_lt {x : ℕ} (h : x < 2048) : plan x < 1536 := by
  unfold plan
  have := turn_lt (Nat.mod_lt (x - 1024) (by decide : 0 < 128))
  split <;> omega

/-- Row `r` of the activations against column `y` of the product. -/
def dot (X : (⟨2, ![9216, 2048]⟩ : Shape).Idx → EReal) (W : (⟨3, ![2, 2048, 15432]⟩ : Shape).Idx → EReal) (r : Fin 9216) (y : Fin 1536) : EReal :=
  ∑ k : Fin 2048, X (ix2 r k) * W (ix3 (1 : Fin 2) k (⟨y.val, by omega⟩ : Fin 15432))

/-- The element at row `r` and column `x`. -/
def elem (X : (⟨2, ![9216, 2048]⟩ : Shape).Idx → EReal) (W : (⟨3, ![2, 2048, 15432]⟩ : Shape).Idx → EReal) (r : Fin 9216) (x : Fin 2048) : EReal :=
  dot X W r ⟨plan x.val, plan_lt x.isLt⟩

section Kernel

open Cert.KernelQInIdeal Cert.KernelQInIdeal.Gen

/-- The whole array. -/
def whole (X : (⟨2, ![9216, 2048]⟩ : Shape).Idx → EReal) (W : (⟨3, ![2, 2048, 15432]⟩ : Shape).Idx → EReal) : (⟨2, ![9216, 2048]⟩ : Shape).Idx → EReal := fun i => elem X W (i 0) (i 1)

/-- The list of rows the host takes. -/
theorem listed : ∀ x : Fin 2048, lit0 x = BitVec.ofNat 32 (15432 + plan x.val) := by decide +kernel

/-- What one block of the result holds. -/
theorem block (v0 : Vec Ideal S1024x2048 .f32) (v3 : Vec Ideal S1024x2048 .bf16) (r : Fin 1024) (x : Fin 1024) :
    k0_pay1 v0 v3 (ix2 r x) = (∑ k : Fin 2048, v3 (ix2 r k) * v0 (ix2 x k) : EReal) := by
  have e : FloatOps.matmul (F := Ideal) dot_S1024x2048_S1024x2048_S1024x1024_1_1_0_0_n_n none v3 (truncf .bf16 (shapeCast S1024x2048 v0 shapeCasts_S1024x2048_S1024x2048) bitsLt_bf16_f32) (constant S1024x1024 .f32 0x00000000#32) (ix2 r x) = (∑ k : Fin 2048, v3 (ix2 r k) * v0 (ix2 x k) : EReal) :=
    (Cert.Mat.rows_rows (M := 1024) (K := 2048) (N := 1024) v3 (truncf .bf16 (shapeCast S1024x2048 v0 shapeCasts_S1024x2048_S1024x2048) bitsLt_bf16_f32) r x).trans
      (Finset.sum_congr rfl fun k _ => congrArg (v3 (ix2 r k) * ·) (shapeCast_apply v0 shapeCasts_S1024x2048_S1024x2048 (ix2 x k) (ix2 x k) rfl))
  exact e

theorem load1 (X : Vec Ideal S1024x2048 .f32) : View.ld X r0_0 = X := View.ld_unit_lit _ _ (by decide)
theorem load0 (X : Vec Ideal S1024x2048 .bf16) : View.ld X r0_0 = X := View.ld_unit_lit _ _ (by decide)

theorem coord0 (t : Fin cfg0.N) : (grid0.coords t 0).val = t.val / 2 % 9 := Pipeline.Grid.coords_val t 0 (by decide) rfl
theorem coord1 (t : Fin cfg0.N) : (grid0.coords t 1).val = t.val / 1 % 2 := Pipeline.Grid.coords_val t 1 (by decide) rfl

variable (m : (ℓ : Loc nD τ sig) → Buf (Elt Ideal) ℓ) (c : Dev nD)

/-- The result array. -/
def arr : (⟨2, ![9216, 2048]⟩ : Shape).Idx → EReal := whole (m ((c : Thread nD τ).loc main_arg0)) (m ((c : Thread nD τ).loc main_arg1))

theorem row (t : Fin cfg0.N) : (cfg0.win 0).index t 0 = t.val / 2 % 9 := by
  rw [← coord0]
  exact (by decide : ∀ a : Fin 9, (BitVec.ofNat 32 a.val).toNat = a.val) (grid0.coords t 0)

/-- The two blocks a point reads. -/
def blockX (t : Fin cfg0.N) : S1024x2048.Idx → EReal := iblk m c 0 t
def blockW (t : Fin cfg0.N) : S1024x2048.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 2 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

/-- The weights' columns as rows, and the list of rows, as the host hands them to the selection. -/
def table : S30864x2048.Idx → EReal :=
  shapeCast S30864x2048 (transpose S2x15432x2048 [0, 2, 1] (m ((c : Thread nD τ).loc main_arg1) : S2x2048x15432.Idx → EReal) transposes_S2x2048x15432_S2x15432x2048_0_2_1) shapeCasts_S2x15432x2048_S30864x2048
def list : IVec S2048 32 := fun i => lit0 (S2048.rowMajor i)

theorem list_at (x : Fin 2048) : list (ix1 x) = BitVec.ofNat 32 (⟨15432 + plan x.val, by have := plan_lt x.isLt; omega⟩ : Fin 30864).val := by
  have e : S2048.rowMajor (ix1 x) = x := Fin.ext (Shape.rowMajor_val_one (ix1 x))
  exact (congrArg lit0 e).trans (listed x)

/-- The weights as the region finds them. -/
theorem selected : V m c main_v2
    = (select (broadcastInDim S2048x2048 ![0] bcast_S2048_S2048x2048_0 (Host.reduce IntOp.andi
        (andi (cmpi .sge (Cert.Take.column list bcast_S_S2048 bcast_S2048_S2048x1_0) (broadcastInDim S2048x1 ![] bcast_S_S2048x1 (constantI S_ 32 0#32)))
          (cmpi .sle (Cert.Take.column list bcast_S_S2048 bcast_S2048_S2048x1_0) (broadcastInDim S2048x1 ![0, 1] bcast_S1x1_S2048x1_0_1 (broadcastInDim S1x1 ![1] bcast_S1_S1x1_1 (constantI S1 32 30863#32)))))
        (constantI S_ 1 1#1) reducesTo_S2048x1_S2048_d1 h_S_))
      (Host.gather gather_S30864x2048_S2048x1_S2048x2048_1_0_n_n_0_1_12048 (table m c) (Cert.Take.column list bcast_S_S2048 bcast_S2048_S2048x1_0))
      (broadcastInDim S2048x2048 ![] bcast_S_S2048x2048 (constant (F := Ideal) S_ .f32 0x7FC00000#32)) : S2048x2048.Idx → EReal) := by
  show StableHlo.after (List.flatten [hostOps0, hostOps0_1]) _ _ = _
  simp only [hostOps0, hostOps0_1, List.flatten_cons, List.flatten_nil, List.append_nil, List.cons_append, List.nil_append]
  after_results_simp
  simp only [StableHlo.TRef.ofBuf_toBuf]
  simp only [StableHlo.TRef.ofBuf, StableHlo.TRef.toBuf, cast_eq]
  unfold Cert.Take.column table list
  rfl

theorem selected_at (x : Fin 2048) (k : Fin 2048) :
    (V m c main_v2 : S2048x2048.Idx → EReal) (ix2 x k) = (m ((c : Thread nD τ).loc main_arg1) : S2x2048x15432.Idx → EReal) (ix3 (1 : Fin 2) k (⟨plan x.val, by have := plan_lt x.isLt; omega⟩ : Fin 15432)) := by
  rw [selected m c]
  refine (Cert.Take.taken (n := 2048) (table m c) list _ (fun x => ⟨15432 + plan x.val, by have := plan_lt x.isLt; omega⟩) list_at bcast_S_S2048 bcast_S2048_S2048x1_0 bcast_S_S2048x1 bcast_S1_S1x1_1
    bcast_S1x1_S2048x1_0_1 reducesTo_S2048x1_S2048_d1 h_S_ bcast_S2048_S2048x2048_0 gather_S30864x2048_S2048x1_S2048x2048_1_0_n_n_0_1_12048 rfl rfl rfl rfl rfl x k).trans ?_
  exact Cert.Take.second _ _ _ _ _ (by show 15432 + plan x.val = 15432 + (plan x.val); omega) k

theorem start (t : Fin cfg0.N) : (cfg0.win 1).index t 0 = t.val / 1 % 2 := by
  rw [← coord1]
  exact (by decide : ∀ a : Fin 2, (Scalar.addi 0#32 (BitVec.ofNat 32 a.val)).toNat = a.val) (grid0.coords t 1)

/-- The weights of a block. -/
theorem weights (t : Fin cfg0.N) (x : Fin 1024) (k : Fin 2048) :
    blockW m c t (ix2 x k) = (m ((c : Thread nD τ).loc main_arg1) : S2x2048x15432.Idx → EReal) (ix3 (1 : Fin 2) k (⟨plan (t.val / 1 % 2 * 1024 + x.val), by have := plan_lt (x := t.val / 1 % 2 * 1024 + x.val) (by omega); omega⟩ : Fin 15432)) := by
  show V m c main_v2 (((cfg0.win 1).rect t).emb (ix2 x k)) = _
  have he : ((cfg0.win 1).rect t).emb (ix2 x k) = (ix2 (⟨t.val / 1 % 2 * 1024 + x.val, by omega⟩ : Fin 2048) k : S2048x2048.Idx) := funext fun a => match a with
    | ⟨0, _⟩ => Fin.ext (((cfg0.win 1).rect_emb_val t (ix2 x k) 0).trans (by rw [start]; rfl))
    | ⟨1, _⟩ => Fin.ext (((cfg0.win 1).rect_emb_val_of_index_zero t 1 rfl (ix2 x k)).trans rfl)
  exact (congrArg (V m c main_v2 : S2048x2048.Idx → EReal) he).trans (selected_at m c _ k)

theorem place0 (t : Fin cfg0.N) : (cfg0.win 2).index t 0 = t.val / 2 % 9 := by
  rw [← coord0]
  exact (by decide : ∀ a : Fin 9, (BitVec.ofNat 32 a.val).toNat = a.val) (grid0.coords t 0)
theorem place1 (t : Fin cfg0.N) : (cfg0.win 2).index t 1 = t.val / 1 % 2 := by
  rw [← coord1]
  exact (by decide : ∀ a : Fin 2, (BitVec.ofNat 32 a.val).toNat = a.val) (grid0.coords t 1)

theorem place (t : Fin cfg0.N) (r : Fin 1024) (x : Fin 1024) : ((cfg0.win 2).rect t).emb (ix2 r x)
    = (ix2 (⟨t.val / 2 % 9 * 1024 + r.val, by omega⟩ : Fin 9216) (⟨t.val / 1 % 2 * 1024 + x.val, by omega⟩ : Fin 2048) : S9216x2048.Idx) := funext fun a => match a with
  | ⟨0, _⟩ => Fin.ext (((cfg0.win 2).rect_emb_val t (ix2 r x) 0).trans (by rw [place0]; rfl))
  | ⟨1, _⟩ => Fin.ext (((cfg0.win 2).rect_emb_val t (ix2 r x) 1).trans (by rw [place1]; rfl))

/-- What a point writes back is its block of the result. -/
theorem written (t : Fin cfg0.N) : (dats m 0 c).flushed 2 t = ((cfg0.win 2).blk t).view.read (Elt Ideal) (arr m c) := by
  rw [Cert.KernelQInIdeal.Value.flushed2]
  unfold out0_2
  have key : ∀ (r : Fin 1024) (x : Fin 1024), (View.canon [⟨r0_1, k0_pay1 (View.ld (iblk m c 1 t) r0_0) (View.ld (iblk m c 0 t) r0_0)⟩] : Vec Ideal S1024x1024 .f32) (ix2 r x)
      = arr m c (((cfg0.win 2).rect t).emb (ix2 r x)) := by
    intro r x
    rw [View.canon_cons_unit_lit _ _ _ (by decide), place]
    refine (congrFun (congrArg₂ (k0_pay1 (F := Ideal)) (load1 (iblk m c 1 t)) (load0 (iblk m c 0 t))) (ix2 r x)).trans ?_
    refine (block (blockW m c t) (blockX m c t) r x).trans ?_
    have e : (∑ k : Fin 2048, blockX m c t (ix2 r k) * blockW m c t (ix2 x k) : EReal) = _ :=
      Finset.sum_congr rfl fun k _ => congrArg₂ (fun a b : EReal => a * b) (rows m c t r k) (weights m c t x k)
    exact e
  refine funext fun y => ?_
  obtain ⟨r, x, rfl⟩ : ∃ (r : Fin 1024) (x : Fin 1024), y = ix2 r x := ⟨y 0, y 1, eq_ix2 y⟩
  exact key r x

theorem final : (dats m 0 c).arrAt 2 cfg0.N = arr m c :=
  Dat.arrAt_eq_of_cover (dats m 0 c) 2 (arr m c) (fun t _ => written m c t) (fun i => by
    obtain ⟨q, x, rfl⟩ : ∃ (q : Fin 9216) (x : Fin 2048), i = (ix2 q x : S9216x2048.Idx) := ⟨i 0, i 1, eq_ix2 (i : S9216x2048.Idx)⟩
    have hN : q.val / 1024 * 2 + x.val / 1024 < cfg0.N := lt_of_lt_of_eq (by omega) N_0.symm
    refine ⟨⟨q.val / 1024 * 2 + x.val / 1024, hN⟩, flush0_2 _, ?_⟩
    refine Finset.mem_map.2 ⟨ix2 (⟨q.val % 1024, Nat.mod_lt _ (by decide)⟩ : Fin 1024) (⟨x.val % 1024, Nat.mod_lt _ (by decide)⟩ : Fin 1024), Finset.mem_univ _, ?_⟩
    refine (place ⟨q.val / 1024 * 2 + x.val / 1024, hN⟩ _ _).trans ?_
    refine congrArg₂ (fun (q : Fin 9216) (x : Fin 2048) => (ix2 q x : S9216x2048.Idx)) (Fin.ext ?_) (Fin.ext ?_)
    · show (q.val / 1024 * 2 + x.val / 1024) / 2 % 9 * 1024 + q.val % 1024 = q.val
      omega
    · show (q.val / 1024 * 2 + x.val / 1024) / 1 % 2 * 1024 + x.val % 1024 = x.val
      omega)

end Kernel

/-! ## The reference -/

section Reference

open Cert.ReferenceQInIdeal Cert.ReferenceQInIdeal.Gen Cert.ReferenceQInIdeal.Read

variable (x0 : (⟨S9216x2048, .bf16⟩ : BufTy).Contents (Elt Ideal)) (x1 : (⟨(⟨3, ![2, 2048, 15432]⟩ : Shape), .f32⟩ : BufTy).Contents (Elt Ideal))

/-- The product. -/
theorem product (r : Fin 9216) (y : Fin 1536) : val_main_v4 (F := Ideal) x0 x1 (ix2 r y) = dot x0 x1 r y := by
  have e : val_main_v4 (F := Ideal) x0 x1 (ix2 r y) = (∑ k : Fin 2048, x0 (ix2 r k) * x1 (ix3 (1 : Fin 2) k (⟨y.val, by omega⟩ : Fin 15432)) : EReal) := by
    rw [val_main_v4_apply]
    refine Finset.sum_congr rfl fun k _ => ?_
    refine congrArg₂ (· * ·) (congrArg x0 (funext fun a => match a with | ⟨0, _⟩ => rfl | ⟨1, _⟩ => rfl)) ?_
    rw [val_main_v3_apply, val_main_v2_apply, val_main_v1_apply]
    refine congrArg x1 (funext fun a => match a with
      | ⟨0, _⟩ => rfl
      | ⟨1, _⟩ => Fin.ext ?_
      | ⟨2, _⟩ => Fin.ext ?_)
    · show (k.val * 15432 + y.val) / 15432 % 2048 = k.val
      omega
    · show (k.val * 15432 + y.val) % 15432 = y.val
      omega
  exact e

/-- Column `d` of head `h`, read at an index with these coordinates. -/
theorem head_of (i : S9216x8x192.Idx) (r : Fin 9216) (h : Fin 8) (d : ℕ) (hd : d < 192) (h0 : (i 0).val = r.val) (h1 : (i 1).val = h.val) (h2 : (i 2).val = d) :
    val_main_v5 (F := Ideal) x0 x1 i = dot x0 x1 r ⟨h.val * 192 + d, by omega⟩ := by
  have e : i = (ix3 r h (⟨d, hd⟩ : Fin 192) : S9216x8x192.Idx) := funext fun a => match a with | ⟨0, _⟩ => Fin.ext h0 | ⟨1, _⟩ => Fin.ext h1 | ⟨2, _⟩ => Fin.ext h2
  refine (congrArg (val_main_v5 (F := Ideal) x0 x1) e).trans ?_
  unfold val_main_v5
  refine (shapeCast_apply _ shapeCasts_S9216x1536_S9216x8x192 (ix3 r h (⟨d, hd⟩ : Fin 192)) (ix2 r (⟨h.val * 192 + d, by omega⟩ : Fin 1536)) (by
    rewrite [Shape.rowMajor_val_two, Shape.rowMajor_val_three]
    show r.val * 1536 + (h.val * 192 + d) = (r.val * 8 + h.val) * 192 + d
    omega)).trans ?_
  exact product x0 x1 r _

/-- The last columns of a head, laid out twice. -/
theorem turned_at (r : Fin 9216) (h : Fin 8) (e : Fin 128) :
    val_main_v11 (F := Ideal) x0 x1 (ix3 r h e) = dot x0 x1 r ⟨h.val * 192 + (128 + turn e.val), by have := turn_lt e.isLt; omega⟩ := by
  have he := e.isLt
  have same : ∀ (d : ℕ) (hd : d < 192), d = 128 + turn e.val → dot x0 x1 r ⟨h.val * 192 + d, by omega⟩ = dot x0 x1 r ⟨h.val * 192 + (128 + turn e.val), by have := turn_lt e.isLt; omega⟩ := by
    intro d hd q
    subst q
    rfl
  unfold val_main_v11
  by_cases h1 : e.val < 64
  · refine (concatenate_pair_apply_left (s₁ := S9216x8x64) (s₂ := S9216x8x64) 2 _ _ _ (ix3 r h e) rfl (ix3 r h (⟨e.val, h1⟩ : Fin 64))
      (fun b => match b with | ⟨0, _⟩ => rfl | ⟨1, _⟩ => rfl | ⟨2, _⟩ => rfl)).trans ?_
    rw [val_main_v7_apply]
    refine (head_of x0 x1 _ r h (128 + e.val) (by omega) rfl rfl rfl).trans (same (128 + e.val) (by omega) ?_)
    unfold turn
    rw [if_pos h1]
  · refine (concatenate_pair_apply_right (s₁ := S9216x8x64) (s₂ := S9216x8x64) 2 _ _ _ (ix3 r h e) rfl rfl (ix3 r h (⟨e.val - 64, by omega⟩ : Fin 64))
      (fun b hb => match b with | ⟨0, _⟩ => rfl | ⟨1, _⟩ => rfl | ⟨2, _⟩ => absurd rfl hb) (by show e.val - 64 + 64 = e.val; omega)).trans ?_
    unfold val_main_v10
    by_cases h2 : e.val < 96
    · refine (concatenate_pair_apply_left (t := S9216x8x64) (s₁ := S9216x8x32) (s₂ := S9216x8x32) 2 _ _ _ (ix3 r h (⟨e.val - 64, by omega⟩ : Fin 64)) rfl (ix3 r h (⟨e.val - 64, by omega⟩ : Fin 32))
        (fun b => match b with | ⟨0, _⟩ => rfl | ⟨1, _⟩ => rfl | ⟨2, _⟩ => rfl)).trans ?_
      rw [val_main_v8_apply, val_main_v7_apply]
      refine (head_of x0 x1 _ r h (128 + (32 + (e.val - 64))) (by omega) rfl rfl rfl).trans (same (128 + (32 + (e.val - 64))) (by omega) ?_)
      unfold turn
      rw [if_neg h1, if_pos h2]
      omega
    · refine (concatenate_pair_apply_right (t := S9216x8x64) (s₁ := S9216x8x32) (s₂ := S9216x8x32) 2 _ _ _ (ix3 r h (⟨e.val - 64, by omega⟩ : Fin 64)) rfl rfl (ix3 r h (⟨e.val - 96, by omega⟩ : Fin 32))
        (fun b hb => match b with | ⟨0, _⟩ => rfl | ⟨1, _⟩ => rfl | ⟨2, _⟩ => absurd rfl hb) (by show e.val - 96 + 32 = e.val - 64; omega)).trans ?_
      rw [val_main_v9_apply, val_main_v7_apply]
      refine (head_of x0 x1 _ r h (128 + (e.val - 96)) (by omega) rfl rfl rfl).trans (same (128 + (e.val - 96)) (by omega) ?_)
      unfold turn
      rw [if_neg h1, if_neg h2]

theorem reference_at (r : Fin 9216) (x : Fin 2048) : val_main_v14 (F := Ideal) x0 x1 (ix2 r x) = elem x0 x1 r x := by
  have hx := x.isLt
  have same : ∀ (y : ℕ) (hy : y < 1536), y = plan x.val → dot x0 x1 r ⟨y, hy⟩ = elem x0 x1 r x := by
    intro y hy q
    subst q
    rfl
  unfold val_main_v14
  by_cases h1 : x.val < 1024
  · refine (concatenate_pair_apply_left (s₁ := S9216x1024) (s₂ := S9216x1024) 1 _ _ _ (ix2 r x) rfl (ix2 r (⟨x.val, h1⟩ : Fin 1024)) (fun b => match b with | ⟨0, _⟩ => rfl | ⟨1, _⟩ => rfl)).trans ?_
    unfold val_main_v12
    refine (shapeCast_apply _ shapeCasts_S9216x8x128_S9216x1024 (ix2 r (⟨x.val, h1⟩ : Fin 1024)) (ix3 r (⟨x.val / 128, by omega⟩ : Fin 8) (⟨x.val % 128, by omega⟩ : Fin 128)) (by
      rewrite [Shape.rowMajor_val_two, Shape.rowMajor_val_three]
      show (r.val * 8 + x.val / 128) * 128 + x.val % 128 = r.val * 1024 + x.val
      omega)).trans ?_
    rw [val_main_v6_apply]
    refine (head_of x0 x1 _ r ⟨x.val / 128, by omega⟩ (x.val % 128) (by omega) rfl rfl rfl).trans (same _ _ ?_)
    unfold plan
    rw [if_pos h1]
  · refine (concatenate_pair_apply_right (s₁ := S9216x1024) (s₂ := S9216x1024) 1 _ _ _ (ix2 r x) rfl rfl (ix2 r (⟨x.val - 1024, by omega⟩ : Fin 1024))
      (fun b hb => match b with | ⟨0, _⟩ => rfl | ⟨1, _⟩ => absurd rfl hb) (by show x.val - 1024 + 1024 = x.val; omega)).trans ?_
    unfold val_main_v13
    refine (shapeCast_apply _ shapeCasts_S9216x8x128_S9216x1024 (ix2 r (⟨x.val - 1024, by omega⟩ : Fin 1024)) (ix3 r (⟨(x.val - 1024) / 128, by omega⟩ : Fin 8) (⟨(x.val - 1024) % 128, by omega⟩ : Fin 128)) (by
      rewrite [Shape.rowMajor_val_two, Shape.rowMajor_val_three]
      show (r.val * 8 + (x.val - 1024) / 128) * 128 + (x.val - 1024) % 128 = r.val * 1024 + (x.val - 1024)
      omega)).trans ?_
    refine (turned_at x0 x1 r _ _).trans (same _ _ ?_)
    unfold plan
    rw [if_neg h1]

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceQInIdeal.Value.run m g)

end Reference

/-! ## The equation -/

theorem algebraic : Cert.algebraic_KernelQInIdeal_ReferenceQInIdeal := by
  intro m g m' g' _ hagree
  refine ⟨fun c => arr m c, ?_, ?_⟩
  · refine (θ_run _ _ _).mono (fun r h c => ⟨?_, (h c).2⟩) (Cert.KernelQInIdeal.Value.run_blocks (F := Ideal) m g)
    exact (h c).1.trans (final m c)
  · refine (θ_run _ _ _).mono (fun r h c => ⟨?_, (h c).2⟩) (Cert.ReferenceQInIdeal.Value.run m' g')
    refine (h c).1.trans ((Cert.ReferenceQInIdeal.Read.val_main_v14_eq _ _).trans ?_)
    obtain ⟨h0, h1⟩ := hagree c
    rw [h0, h1]
    refine funext fun i => ?_
    obtain ⟨r, x, rfl⟩ : ∃ (r : Fin 9216) (x : Fin 2048), i = ix2 r x := ⟨i 0, i 1, eq_ix2 i⟩
    exact reference_at _ _ r x

end Cert.QIn

end
-- ==== Proof.Calls.KvIn.lean ====
module

public import proofs.«01_k».proof.Defs
public import proofs.«01_k».proof.Proof.Calls.Mat
public import proofs.«01_k».proof.Proof.Calls.Take
public import proofs.«01_k».proof.Proof.Gen.KernelKvIn.Frame
public import proofs.«01_k».proof.Proof.Gen.KernelKvInIdeal.Frame
public import proofs.«01_k».proof.Proof.Gen.KernelKvInIdeal.Value
public import proofs.«01_k».proof.Proof.Gen.ReferenceKvInIdeal
public import proofs.«01_k».proof.Proof.Gen.ReferenceKvInIdeal.Run
public import proofs.«01_k».proof.Proof.Gen.ReferenceKvInIdeal.Read
public import Idealize.ShloMosaic.Adequacy
public import Idealize.ShloMosaic.Init
public import Idealize.ShloMosaic.Lib.Quiescent

@[expose] public section

set_option maxRecDepth 100000

noncomputable section

/-! The input projection of the compressed keys and values: the product with columns 1536 to 1855 of the combined weights,
    the last 64 of them laid out twice, the second time with their two halves exchanged. -/

namespace Cert.KvIn

open Idealize.ShloMosaic hiding ix1 ix2 ix3 eq_ix1 eq_ix2 eq_ix3 constant_apply
open Idealize.ShloMosaic.TcCoe Idealize.ShloMosaic.ValueIdx Idealize.SL.Sem
open Idealize.ShloMosaic.Pipeline (Dat)

/-- Which column of the product column `x` of the result is. -/
def plan (x : ℕ) : ℕ := if x < 320 then x else if x < 352 then x - 32 else x - 96

theorem plan_lt {x : ℕ} (h : x < 384) : plan x < 320 := by
  unfold plan
  split
  · omega
  · split <;> omega

/-- Row `r` of the activations against column `y` of the product. -/
def dot (X : (⟨2, ![9216, 2048]⟩ : Shape).Idx → EReal) (W : (⟨3, ![2, 2048, 15432]⟩ : Shape).Idx → EReal) (r : Fin 9216) (y : Fin 320) : EReal :=
  ∑ k : Fin 2048, X (ix2 r k) * W (ix3 (1 : Fin 2) k (⟨1536 + y.val, by omega⟩ : Fin 15432))

/-- The element at row `r` and column `x`. -/
def elem (X : (⟨2, ![9216, 2048]⟩ : Shape).Idx → EReal) (W : (⟨3, ![2, 2048, 15432]⟩ : Shape).Idx → EReal) (r : Fin 9216) (x : Fin 384) : EReal :=
  dot X W r ⟨plan x.val, plan_lt x.isLt⟩

section Kernel

open Cert.KernelKvInIdeal Cert.KernelKvInIdeal.Gen

/-- The whole array. -/
def whole (X : (⟨2, ![9216, 2048]⟩ : Shape).Idx → EReal) (W : (⟨3, ![2, 2048, 15432]⟩ : Shape).Idx → EReal) : (⟨2, ![9216, 384]⟩ : Shape).Idx → EReal := fun i => elem X W (i 0) (i 1)

/-- The list of rows the host takes. -/
theorem listed : ∀ x : Fin 384, lit0 x = BitVec.ofNat 32 (16968 + plan x.val) := by decide +kernel

/-- What one block of the result holds. -/
theorem block (v0 : Vec Ideal S384x2048 .f32) (v3 : Vec Ideal S1024x2048 .bf16) (r : Fin 1024) (x : Fin 384) :
    k0_pay1 v0 v3 (ix2 r x) = (∑ k : Fin 2048, v3 (ix2 r k) * v0 (ix2 x k) : EReal) := by
  have e : FloatOps.matmul (F := Ideal) dot_S1024x2048_S384x2048_S1024x384_1_1_0_0_n_n none v3 (truncf .bf16 (shapeCast S384x2048 v0 shapeCasts_S384x2048_S384x2048) bitsLt_bf16_f32) (constant S1024x384 .f32 0x00000000#32) (ix2 r x) = (∑ k : Fin 2048, v3 (ix2 r k) * v0 (ix2 x k) : EReal) :=
    (Cert.Mat.rows_rows (M := 1024) (K := 2048) (N := 384) v3 (truncf .bf16 (shapeCast S384x2048 v0 shapeCasts_S384x2048_S384x2048) bitsLt_bf16_f32) r x).trans
      (Finset.sum_congr rfl fun k _ => congrArg (v3 (ix2 r k) * ·) (shapeCast_apply v0 shapeCasts_S384x2048_S384x2048 (ix2 x k) (ix2 x k) rfl))
  exact e

theorem load1 (X : Vec Ideal S384x2048 .f32) : View.ld X r0_0 = X := View.ld_unit_lit _ _ (by decide)
theorem load0 (X : Vec Ideal S1024x2048 .bf16) : View.ld X r0_1 = X := View.ld_unit_lit _ _ (by decide)

theorem coord0 (t : Fin cfg0.N) : (grid0.coords t 0).val = t.val / 1 % 9 := Pipeline.Grid.coords_val t 0 (by decide) rfl
theorem coord1 (t : Fin cfg0.N) : (grid0.coords t 1).val = t.val / 1 % 1 := Pipeline.Grid.coords_val t 1 (by decide) rfl

variable (m : (ℓ : Loc nD τ sig) → Buf (Elt Ideal) ℓ) (c : Dev nD)

/-- The result array. -/
def arr : (⟨2, ![9216, 384]⟩ : Shape).Idx → EReal := whole (m ((c : Thread nD τ).loc main_arg0)) (m ((c : Thread nD τ).loc main_arg1))

theorem row (t : Fin cfg0.N) : (cfg0.win 0).index t 0 = t.val / 1 % 9 := by
  rw [← coord0]
  exact (by decide : ∀ a : Fin 9, (BitVec.ofNat 32 a.val).toNat = a.val) (grid0.coords t 0)

/-- The two blocks a point reads. -/
def blockX (t : Fin cfg0.N) : S1024x2048.Idx → EReal := iblk m c 0 t
def blockW (t : Fin cfg0.N) : S384x2048.Idx → EReal := iblk m c 1 t

/-- The rows of a block. -/
theorem rows (t : Fin cfg0.N) (r : Fin 1024) (k : Fin 2048) :
    blockX m c t (ix2 r k) = (m ((c : Thread nD τ).loc main_arg0) : S9216x2048.Idx → EReal) (ix2 (⟨t.val / 1 % 9 * 1024 + r.val, by omega⟩ : Fin 9216) k) := by
  show V m c main_arg0 (((cfg0.win 0).rect t).emb (ix2 r k)) = _
  rw [V_main_arg0 m c]
  refine congrArg (m ((c : Thread nD τ).loc main_arg0) : S9216x2048.Idx → EReal) (funext fun a => match a with
    | ⟨0, _⟩ => Fin.ext ?_
    | ⟨1, _⟩ => Fin.ext ?_)
  · refine ((cfg0.win 0).rect_emb_val t (ix2 r k) 0).trans ?_
    rw [row]
    rfl
  · exact ((cfg0.win 0).rect_emb_val_of_index_zero t 1 rfl (ix2 r k)).trans rfl

/-- The weights' columns as rows, and the list of rows, as the host hands them to the selection. -/
def table : S30864x2048.Idx → EReal :=
  shapeCast S30864x2048 (transpose S2x15432x2048 [0, 2, 1] (m ((c : Thread nD τ).loc main_arg1) : S2x2048x15432.Idx → EReal) transposes_S2x2048x15432_S2x15432x2048_0_2_1) shapeCasts_S2x15432x2048_S30864x2048
def list : IVec S384 32 := fun i => lit0 (S384.rowMajor i)

theorem list_at (x : Fin 384) : list (ix1 x) = BitVec.ofNat 32 (⟨16968 + plan x.val, by have := plan_lt x.isLt; omega⟩ : Fin 30864).val := by
  have e : S384.rowMajor (ix1 x) = x := Fin.ext (Shape.rowMajor_val_one (ix1 x))
  exact (congrArg lit0 e).trans (listed x)

/-- The weights as the region finds them. -/
theorem selected : V m c main_v2
    = (select (broadcastInDim S384x2048 ![0] bcast_S384_S384x2048_0 (Host.reduce IntOp.andi
        (andi (cmpi .sge (Cert.Take.column list bcast_S_S384 bcast_S384_S384x1_0) (broadcastInDim S384x1 ![] bcast_S_S384x1 (constantI S_ 32 0#32)))
          (cmpi .sle (Cert.Take.column list bcast_S_S384 bcast_S384_S384x1_0) (broadcastInDim S384x1 ![0, 1] bcast_S1x1_S384x1_0_1 (broadcastInDim S1x1 ![1] bcast_S1_S1x1_1 (constantI S1 32 30863#32)))))
        (constantI S_ 1 1#1) reducesTo_S384x1_S384_d1 h_S_))
      (Host.gather gather_S30864x2048_S384x1_S384x2048_1_0_n_n_0_1_12048 (table m c) (Cert.Take.column list bcast_S_S384 bcast_S384_S384x1_0))
      (broadcastInDim S384x2048 ![] bcast_S_S384x2048 (constant (F := Ideal) S_ .f32 0x7FC00000#32)) : S384x2048.Idx → EReal) := by
  show StableHlo.after (List.flatten [hostOps0, hostOps0_1]) _ _ = _
  simp only [hostOps0, hostOps0_1, List.flatten_cons, List.flatten_nil, List.append_nil, List.cons_append, List.nil_append]
  after_results_simp
  simp only [StableHlo.TRef.ofBuf_toBuf]
  simp only [StableHlo.TRef.ofBuf, StableHlo.TRef.toBuf, cast_eq]
  unfold Cert.Take.column table list
  rfl

theorem selected_at (x : Fin 384) (k : Fin 2048) :
    (V m c main_v2 : S384x2048.Idx → EReal) (ix2 x k) = (m ((c : Thread nD τ).loc main_arg1) : S2x2048x15432.Idx → EReal) (ix3 (1 : Fin 2) k (⟨1536 + plan x.val, by have := plan_lt x.isLt; omega⟩ : Fin 15432)) := by
  rw [selected m c]
  refine (Cert.Take.taken (n := 384) (table m c) list _ (fun x => ⟨16968 + plan x.val, by have := plan_lt x.isLt; omega⟩) list_at bcast_S_S384 bcast_S384_S384x1_0 bcast_S_S384x1 bcast_S1_S1x1_1
    bcast_S1x1_S384x1_0_1 reducesTo_S384x1_S384_d1 h_S_ bcast_S384_S384x2048_0 gather_S30864x2048_S384x1_S384x2048_1_0_n_n_0_1_12048 rfl rfl rfl rfl rfl x k).trans ?_
  exact Cert.Take.second _ _ _ _ _ (by show 16968 + plan x.val = 15432 + (1536 + plan x.val); omega) k

theorem start (t : Fin cfg0.N) : (cfg0.win 1).index t 0 = 0 := by
  have h := (by decide : ∀ a : Fin 1, (Scalar.addi 0#32 (BitVec.ofNat 32 a.val)).toNat = 0) (grid0.coords t 1)
  exact h

/-- The weights of a block. -/
theorem weights (t : Fin cfg0.N) (x : Fin 384) (k : Fin 2048) :
    blockW m c t (ix2 x k) = (m ((c : Thread nD τ).loc main_arg1) : S2x2048x15432.Idx → EReal) (ix3 (1 : Fin 2) k (⟨1536 + plan x.val, by have := plan_lt x.isLt; omega⟩ : Fin 15432)) := by
  show V m c main_v2 (((cfg0.win 1).rect t).emb (ix2 x k)) = _
  have he : ((cfg0.win 1).rect t).emb (ix2 x k) = (ix2 x k : S384x2048.Idx) := funext fun a => match a with
    | ⟨0, _⟩ => Fin.ext (((cfg0.win 1).rect_emb_val_of_index_zero t 0 (start t) (ix2 x k)).trans rfl)
    | ⟨1, _⟩ => Fin.ext (((cfg0.win 1).rect_emb_val_of_index_zero t 1 rfl (ix2 x k)).trans rfl)
  exact (congrArg (V m c main_v2 : S384x2048.Idx → EReal) he).trans (selected_at m c x k)

theorem place0 (t : Fin cfg0.N) : (cfg0.win 2).index t 0 = t.val / 1 % 9 := by
  rw [← coord0]
  exact (by decide : ∀ a : Fin 9, (BitVec.ofNat 32 a.val).toNat = a.val) (grid0.coords t 0)
theorem place1 (t : Fin cfg0.N) : (cfg0.win 2).index t 1 = 0 := by
  have h := (by decide : ∀ a : Fin 1, (BitVec.ofNat 32 a.val).toNat = 0) (grid0.coords t 1)
  exact h

theorem place (t : Fin cfg0.N) (r : Fin 1024) (x : Fin 384) : ((cfg0.win 2).rect t).emb (ix2 r x)
    = (ix2 (⟨t.val / 1 % 9 * 1024 + r.val, by omega⟩ : Fin 9216) x : S9216x384.Idx) := funext fun a => match a with
  | ⟨0, _⟩ => Fin.ext (((cfg0.win 2).rect_emb_val t (ix2 r x) 0).trans (by rw [place0]; rfl))
  | ⟨1, _⟩ => Fin.ext (((cfg0.win 2).rect_emb_val_of_index_zero t 1 (place1 t) (ix2 r x)).trans rfl)

/-- What a point writes back is its block of the result. -/
theorem written (t : Fin cfg0.N) : (dats m 0 c).flushed 2 t = ((cfg0.win 2).blk t).view.read (Elt Ideal) (arr m c) := by
  rw [Cert.KernelKvInIdeal.Value.flushed2]
  unfold out0_2
  have key : ∀ (r : Fin 1024) (x : Fin 384), (View.canon [⟨r0_2, k0_pay1 (View.ld (iblk m c 1 t) r0_0) (View.ld (iblk m c 0 t) r0_1)⟩] : Vec Ideal S1024x384 .f32) (ix2 r x)
      = arr m c (((cfg0.win 2).rect t).emb (ix2 r x)) := by
    intro r x
    rw [View.canon_cons_unit_lit _ _ _ (by decide), place]
    refine (congrFun (congrArg₂ (k0_pay1 (F := Ideal)) (load1 (iblk m c 1 t)) (load0 (iblk m c 0 t))) (ix2 r x)).trans ?_
    refine (block (blockW m c t) (blockX m c t) r x).trans ?_
    have e : (∑ k : Fin 2048, blockX m c t (ix2 r k) * blockW m c t (ix2 x k) : EReal) = _ :=
      Finset.sum_congr rfl fun k _ => congrArg₂ (fun a b : EReal => a * b) (rows m c t r k) (weights m c t x k)
    exact e
  refine funext fun y => ?_
  obtain ⟨r, x, rfl⟩ : ∃ (r : Fin 1024) (x : Fin 384), y = ix2 r x := ⟨y 0, y 1, eq_ix2 y⟩
  exact key r x

theorem final : (dats m 0 c).arrAt 2 cfg0.N = arr m c :=
  Dat.arrAt_eq_of_cover (dats m 0 c) 2 (arr m c) (fun t _ => written m c t) (fun i => by
    obtain ⟨q, x, rfl⟩ : ∃ (q : Fin 9216) (x : Fin 384), i = (ix2 q x : S9216x384.Idx) := ⟨i 0, i 1, eq_ix2 (i : S9216x384.Idx)⟩
    have hN : q.val / 1024 < cfg0.N := lt_of_lt_of_eq (by omega) N_0.symm
    refine ⟨⟨q.val / 1024, hN⟩, flush0_2 _, ?_⟩
    refine Finset.mem_map.2 ⟨ix2 (⟨q.val % 1024, Nat.mod_lt _ (by decide)⟩ : Fin 1024) x, Finset.mem_univ _, ?_⟩
    refine (place ⟨q.val / 1024, hN⟩ _ _).trans ?_
    refine congrArg (fun q : Fin 9216 => (ix2 q x : S9216x384.Idx)) (Fin.ext ?_)
    show q.val / 1024 / 1 % 9 * 1024 + q.val % 1024 = q.val
    omega)

end Kernel

/-! ## The reference -/

section Reference

open Cert.ReferenceKvInIdeal Cert.ReferenceKvInIdeal.Gen Cert.ReferenceKvInIdeal.Read

variable (x0 : (⟨S9216x2048, .bf16⟩ : BufTy).Contents (Elt Ideal)) (x1 : (⟨(⟨3, ![2, 2048, 15432]⟩ : Shape), .f32⟩ : BufTy).Contents (Elt Ideal))

/-- The product. -/
theorem product (r : Fin 9216) (y : Fin 320) : val_main_v4 (F := Ideal) x0 x1 (ix2 r y) = dot x0 x1 r y := by
  have e : val_main_v4 (F := Ideal) x0 x1 (ix2 r y) = (∑ k : Fin 2048, x0 (ix2 r k) * x1 (ix3 (1 : Fin 2) k (⟨1536 + y.val, by omega⟩ : Fin 15432)) : EReal) := by
    rw [val_main_v4_apply]
    refine Finset.sum_congr rfl fun k _ => ?_
    refine congrArg₂ (· * ·) (congrArg x0 (funext fun a => match a with | ⟨0, _⟩ => rfl | ⟨1, _⟩ => rfl)) ?_
    rw [val_main_v3_apply, val_main_v2_apply, val_main_v1_apply]
    refine congrArg x1 (funext fun a => match a with
      | ⟨0, _⟩ => rfl
      | ⟨1, _⟩ => Fin.ext ?_
      | ⟨2, _⟩ => Fin.ext ?_)
    · show (k.val * 15432 + (1536 + y.val)) / 15432 % 2048 = k.val
      omega
    · show (k.val * 15432 + (1536 + y.val)) % 15432 = 1536 + y.val
      omega
  exact e

/-- An element of the product, read at an index with these coordinates. -/
theorem product_of (i : S9216x320.Idx) (r : Fin 9216) (y : ℕ) (hy : y < 320) (h0 : (i 0).val = r.val) (h1 : (i 1).val = y) :
    val_main_v4 (F := Ideal) x0 x1 i = dot x0 x1 r ⟨y, hy⟩ := by
  have e : i = (ix2 r (⟨y, hy⟩ : Fin 320) : S9216x320.Idx) := funext fun a => match a with | ⟨0, _⟩ => Fin.ext h0 | ⟨1, _⟩ => Fin.ext h1
  rw [e]
  exact product x0 x1 r ⟨y, hy⟩

theorem reference_at (r : Fin 9216) (x : Fin 384) : val_main_v9 (F := Ideal) x0 x1 (ix2 r x) = elem x0 x1 r x := by
  have hx := x.isLt
  unfold val_main_v9 elem
  by_cases h1 : x.val < 256
  · refine (concatenate_apply_piece 1 _ _ (ix2 r x) 0 (by show 0 < 4; decide) S9216x256 _ rfl rfl 0 rfl (ix2 r (⟨x.val, h1⟩ : Fin 256))
      (fun b hb => match b with | ⟨0, _⟩ => rfl | ⟨1, _⟩ => absurd rfl hb) (Nat.zero_add _)).trans ?_
    rw [val_main_v5_apply]
    refine product_of x0 x1 _ r _ _ rfl ?_
    show x.val = plan x.val
    unfold plan
    rw [if_pos (by omega)]
  by_cases h2 : x.val < 320
  · refine (concatenate_apply_piece 1 _ _ (ix2 r x) 1 (by show 1 < 4; decide) S9216x64 _ rfl rfl 256 rfl (ix2 r (⟨x.val - 256, by omega⟩ : Fin 64))
      (fun b hb => match b with | ⟨0, _⟩ => rfl | ⟨1, _⟩ => absurd rfl hb) (by show 256 + (x.val - 256) = x.val; omega)).trans ?_
    rw [val_main_v6_apply]
    refine product_of x0 x1 _ r _ _ rfl ?_
    show 256 + (x.val - 256) = plan x.val
    unfold plan
    rw [if_pos h2]
    omega
  by_cases h3 : x.val < 352
  · refine (concatenate_apply_piece 1 _ _ (ix2 r x) 2 (by show 2 < 4; decide) S9216x32 _ rfl rfl 320 rfl (ix2 r (⟨x.val - 320, by omega⟩ : Fin 32))
      (fun b hb => match b with | ⟨0, _⟩ => rfl | ⟨1, _⟩ => absurd rfl hb) (by show 320 + (x.val - 320) = x.val; omega)).trans ?_
    rw [val_main_v7_apply, val_main_v6_apply]
    refine product_of x0 x1 _ r _ _ rfl ?_
    show 256 + (32 + (x.val - 320)) = plan x.val
    unfold plan
    rw [if_neg h2, if_pos h3]
    omega
  · refine (concatenate_apply_piece 1 _ _ (ix2 r x) 3 (by show 3 < 4; decide) S9216x32 _ rfl rfl 352 rfl (ix2 r (⟨x.val - 352, by omega⟩ : Fin 32))
      (fun b hb => match b with | ⟨0, _⟩ => rfl | ⟨1, _⟩ => absurd rfl hb) (by show 352 + (x.val - 352) = x.val; omega)).trans ?_
    rw [val_main_v8_apply, val_main_v6_apply]
    refine product_of x0 x1 _ r _ _ rfl ?_
    show 256 + (x.val - 352) = plan x.val
    unfold plan
    rw [if_neg h2, if_neg h3]
    omega

/-- The reference ends with its arguments unchanged; it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.ReferenceKvInIdeal.Value.run m g)

end Reference

/-! ## The equation -/

theorem algebraic : Cert.algebraic_KernelKvInIdeal_ReferenceKvInIdeal := by
  intro m g m' g' _ hagree
  refine ⟨fun c => arr m c, ?_, ?_⟩
  · refine (θ_run _ _ _).mono (fun r h c => ⟨?_, (h c).2⟩) (Cert.KernelKvInIdeal.Value.run_blocks (F := Ideal) m g)
    exact (h c).1.trans (final m c)
  · refine (θ_run _ _ _).mono (fun r h c => ⟨?_, (h c).2⟩) (Cert.ReferenceKvInIdeal.Value.run m' g')
    refine (h c).1.trans ((Cert.ReferenceKvInIdeal.Read.val_main_v9_eq _ _).trans ?_)
    obtain ⟨h0, h1⟩ := hagree c
    rw [h0, h1]
    refine funext fun i => ?_
    obtain ⟨r, x, rfl⟩ : ∃ (r : Fin 9216) (x : Fin 384), i = ix2 r x := ⟨i 0, i 1, eq_ix2 i⟩
    exact reference_at _ _ r x

end Cert.KvIn

end
-- ==== Proof.Finite.lean ====
module

public import proofs.«01_k».proof.Defs
public import proofs.«01_k».proof.Proof.Attn.Inv

@[expose] public section

set_option maxRecDepth 16384

noncomputable section

namespace Cert.Attn

open Idealize.ShloMosaic Idealize.ShloMosaic.TcCoe Idealize.ShloMosaic.ValueIdx

/-- The precondition's shape relations. -/
instance preFacts : Cert.Pre_finite_inputs.Facts where
  bcast_S_S8192x2048 := by decide
  bcast_S_S8192x1024 := by decide
  bcast_S_S8192x256 := by decide
  bcast_S_S8192x128 := by decide

theorem ofBits_inf : Ideal.ofBits .bf16 0x7F80#16 = ⊤ := by simp [Ideal.ofBits, Ideal.ieee]

/-- A number whose absolute value is below infinity is real. -/
theorem isReal_of_cmp (x : EReal) (h : Ideal.cmp .olt (max x (-x) : EReal) (Ideal.ofBits .bf16 0x7F80#16) = 1#1) : IsReal x := by
  rw [ofBits_inf] at h
  have h' : max x (-x) < (⊤ : EReal) := by
    by_contra hn
    simp [Ideal.cmp, hn] at h
  refine isReal_of_ne ?_ ?_
  · rintro rfl
    simp at h'
  · rintro rfl
    simp at h'

open Cert.KernelIdeal.Attn in
theorem real4 (m : (ℓ : Loc Cert.KernelIdeal.nD Cert.KernelIdeal.τ Cert.KernelIdeal.sig) → Buf (Elt Ideal) ℓ) (h : Cert.Pre_KernelIdeal_finite_inputs m)
    (c : Dev Cert.KernelIdeal.nD) : Real4 m c where
  hQ r d := isReal_of_cmp _ (congrFun (h c).1 (ix2 r d))
  hP r d := isReal_of_cmp _ (congrFun (h c).2.1 (ix2 r d))
  hC r d := isReal_of_cmp _ (congrFun (h c).2.2.1 (ix2 r d))
  hR r d := isReal_of_cmp _ (congrFun (h c).2.2.2 (ix2 r d))

end Cert.Attn

end
-- ==== Proof.lean ====
module

public import proofs.«01_k».proof.Defs
public import proofs.«01_k».proof.Proof.AttnWord.Frame
public import proofs.«01_k».proof.Proof.Attn.Frame
public import proofs.«01_k».proof.Proof.Attn.Inv
public import proofs.«01_k».proof.Proof.Ref
public import proofs.«01_k».proof.Proof.Calls.Up
public import proofs.«01_k».proof.Proof.Calls.Down
public import proofs.«01_k».proof.Proof.Calls.Gates
public import proofs.«01_k».proof.Proof.Calls.MlstmIn
public import proofs.«01_k».proof.Proof.Calls.RwkvIn
public import proofs.«01_k».proof.Proof.Calls.Out
public import proofs.«01_k».proof.Proof.Calls.Merge
public import proofs.«01_k».proof.Proof.Calls.QIn
public import proofs.«01_k».proof.Proof.Calls.KvIn
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic hiding ix1 ix2 ix3 eq_ix1 eq_ix2 eq_ix3 constant_apply
open Idealize.SL.Sem Idealize.ShloMosaic.TcCoe Idealize.ShloMosaic.ValueIdx Cert.Attn

/-- The reference ends with its arguments unchanged; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems (by decide) r.2⟩) (Cert.ReferenceIdeal.Value.run m g)

/-- The array both programs leave: the reference's value is the kernel's. -/
theorem values (m : (ℓ : Loc Cert.KernelIdeal.nD Cert.KernelIdeal.τ Cert.KernelIdeal.sig) → Buf (Elt Ideal) ℓ) (c : Dev Cert.KernelIdeal.nD)
    (H : Cert.KernelIdeal.Attn.Real4 m c) :
    (Cert.ReferenceIdeal.Read.val_main_v36 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      = Cert.KernelIdeal.Attn.resultArr m c := by
  refine funext fun i => ?_
  obtain ⟨r, x, rfl⟩ : ∃ (r : Fin 8192) (x : Fin 1024), i = ix2 r x := ⟨i 0, i 1, eq_ix2 i⟩
  exact Cert.ReferenceIdeal.Attn.v36_at _ _ _ _ _ H.hQ H.hP H.hC H.hR r x

/-- Kernel and reference of the attention leave the same array, given real queries and keys. -/
theorem algebraic : Cert.algebraic_KernelIdeal_ReferenceIdeal_pre_finite_inputs := by
  intro m g m' g' hpre hagree
  refine ⟨fun c => Cert.KernelIdeal.Attn.resultArr m c, ?_, ?_⟩
  · refine (θ_run _ _ _).mono (fun r h c => ⟨?_, h.2.1 c⟩)
      (θ_run_and (Cert.KernelIdeal.Attn.run_main (F := Ideal) m g) (Cert.KernelIdeal.Attn.frame (F := Ideal) m g))
    exact ((h.1.1 c).1 5).trans (Cert.KernelIdeal.Attn.arr5 m c (real4 m hpre c))
  · refine (θ_run _ _ _).mono (fun r h c => ⟨?_, (h c).2⟩) (Cert.ReferenceIdeal.Value.run m' g')
    refine (h c).1.trans ((Cert.ReferenceIdeal.Read.val_main_v36_eq m' c).trans ?_)
    obtain ⟨h0, h1, h2, h3, h4⟩ := hagree c
    rw [h0, h1, h2, h3, h4]
    exact values m c (real4 m hpre c)

/-- All the claims, call by call. -/
theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelGates.Gen.facts, Cert.KernelGatesIdeal.Gen.facts, Cert.ReferenceGatesIdeal.Gen.facts,
  Cert.KernelMlstmIn.Gen.facts, Cert.KernelMlstmInIdeal.Gen.facts, Cert.ReferenceMlstmInIdeal.Gen.facts,
  Cert.KernelRwkvIn.Gen.facts, Cert.KernelRwkvInIdeal.Gen.facts, Cert.ReferenceRwkvInIdeal.Gen.facts,
  Cert.KernelOut.Gen.facts, Cert.KernelOutIdeal.Gen.facts, Cert.ReferenceOutIdeal.Gen.facts,
  Cert.KernelMerge.Gen.facts, Cert.KernelMergeIdeal.Gen.facts, Cert.ReferenceMergeIdeal.Gen.facts,
  Cert.KernelQIn.Gen.facts, Cert.KernelQInIdeal.Gen.facts, Cert.ReferenceQInIdeal.Gen.facts,
  Cert.KernelKvIn.Gen.facts, Cert.KernelKvInIdeal.Gen.facts, Cert.ReferenceKvInIdeal.Gen.facts,
  preFacts,
  fun m g _ => Cert.Kernel.Attn.frame m g, fun m g _ => Cert.KernelIdeal.Attn.frame m g, fun m g _ => Cert.KernelIdeal.Attn.frame m g,
  fun m g _ => reference_frame m g, fun m g _ => reference_frame m g,
  fun m g _ => Cert.KernelUp.Gen.frame m g, fun m g _ => Cert.KernelUpIdeal.Gen.frame m g, fun m g _ => Cert.Up.reference_frame m g,
  fun m g _ => Cert.KernelDown.Gen.frame m g, fun m g _ => Cert.KernelDownIdeal.Gen.frame m g, fun m g _ => Cert.Down.reference_frame m g,
  fun m g _ => Cert.KernelGates.Gen.frame m g, fun m g _ => Cert.KernelGatesIdeal.Gen.frame m g, fun m g _ => Cert.Gates.reference_frame m g,
  fun m g _ => Cert.KernelMlstmIn.Gen.frame m g, fun m g _ => Cert.KernelMlstmInIdeal.Gen.frame m g, fun m g _ => Cert.MlstmIn.reference_frame m g,
  fun m g _ => Cert.KernelRwkvIn.Gen.frame m g, fun m g _ => Cert.KernelRwkvInIdeal.Gen.frame m g, fun m g _ => Cert.RwkvIn.reference_frame m g,
  fun m g _ => Cert.KernelOut.Gen.frame m g, fun m g _ => Cert.KernelOutIdeal.Gen.frame m g, fun m g _ => Cert.Out.reference_frame m g,
  fun m g _ => Cert.KernelMerge.Gen.frame m g, fun m g _ => Cert.KernelMergeIdeal.Gen.frame m g, fun m g _ => Cert.Merge.reference_frame m g,
  fun m g _ => Cert.KernelQIn.Gen.frame m g, fun m g _ => Cert.KernelQInIdeal.Gen.frame m g, fun m g _ => Cert.QIn.reference_frame m g,
  fun m g _ => Cert.KernelKvIn.Gen.frame m g, fun m g _ => Cert.KernelKvInIdeal.Gen.frame m g, fun m g _ => Cert.KvIn.reference_frame m g,
  trivial, algebraic,
  trivial, Cert.Up.algebraic,
  trivial, Cert.Down.algebraic,
  trivial, Cert.Gates.algebraic,
  trivial, Cert.MlstmIn.algebraic,
  trivial, Cert.RwkvIn.algebraic,
  trivial, Cert.Out.algebraic,
  trivial, Cert.Merge.algebraic,
  trivial, Cert.QIn.algebraic,
  trivial, Cert.KvIn.algebraic⟩

end Cert.Proof

end
